-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Mass (m : (ℓ : Loc Cert.Mass.nD Cert.Mass.τ Cert.Mass.sig) → Buf (Elt Bits) ℓ) : Prop :=
  True

def Pre_MassIdeal (m : (ℓ : Loc Cert.MassIdeal.nD Cert.MassIdeal.τ Cert.MassIdeal.sig) → Buf (Elt Ideal) ℓ) : Prop :=
  True

def Pre_MassIdeal_ids_in_vocab [hPre_ids_in_vocab : Cert.Pre_ids_in_vocab.Facts] (m : (ℓ : Loc Cert.MassIdeal.nD Cert.MassIdeal.τ Cert.MassIdeal.sig) → Buf (Elt Ideal) ℓ) : Prop :=
  ∀ c : Dev Cert.MassIdeal.nD,
    (Cert.Pre_ids_in_vocab.fn (F := Ideal) (m ((c.tc : Thread Cert.MassIdeal.nD Cert.MassIdeal.τ).loc Cert.MassIdeal.main_arg0)) (m ((c.tc : Thread Cert.MassIdeal.nD Cert.MassIdeal.τ).loc Cert.MassIdeal.main_arg1)) (m ((c.tc : Thread Cert.MassIdeal.nD Cert.MassIdeal.τ).loc Cert.MassIdeal.main_arg2)) (m ((c.tc : Thread Cert.MassIdeal.nD Cert.MassIdeal.τ).loc Cert.MassIdeal.main_arg3)) (m ((c.tc : Thread Cert.MassIdeal.nD Cert.MassIdeal.τ).loc Cert.MassIdeal.main_arg4)) (m ((c.tc : Thread Cert.MassIdeal.nD Cert.MassIdeal.τ).loc Cert.MassIdeal.main_arg5)) (m ((c.tc : Thread Cert.MassIdeal.nD Cert.MassIdeal.τ).loc Cert.MassIdeal.main_arg6))) = (fun _ => 1#1)

def Pre_MassReferenceIdeal (m : (ℓ : Loc Cert.MassReferenceIdeal.nD Cert.MassReferenceIdeal.τ Cert.MassReferenceIdeal.sig) → Buf (Elt Ideal) ℓ) : Prop :=
  True

def Pre_MassReferenceIdeal_ids_in_vocab [hPre_ids_in_vocab : Cert.Pre_ids_in_vocab.Facts] (m : (ℓ : Loc Cert.MassReferenceIdeal.nD Cert.MassReferenceIdeal.τ Cert.MassReferenceIdeal.sig) → Buf (Elt Ideal) ℓ) : Prop :=
  ∀ c : Dev Cert.MassReferenceIdeal.nD,
    (Cert.Pre_ids_in_vocab.fn (F := Ideal) (m ((c.tc : Thread Cert.MassReferenceIdeal.nD Cert.MassReferenceIdeal.τ).loc Cert.MassReferenceIdeal.main_arg0)) (m ((c.tc : Thread Cert.MassReferenceIdeal.nD Cert.MassReferenceIdeal.τ).loc Cert.MassReferenceIdeal.main_arg1)) (m ((c.tc : Thread Cert.MassReferenceIdeal.nD Cert.MassReferenceIdeal.τ).loc Cert.MassReferenceIdeal.main_arg2)) (m ((c.tc : Thread Cert.MassReferenceIdeal.nD Cert.MassReferenceIdeal.τ).loc Cert.MassReferenceIdeal.main_arg3)) (m ((c.tc : Thread Cert.MassReferenceIdeal.nD Cert.MassReferenceIdeal.τ).loc Cert.MassReferenceIdeal.main_arg4)) (m ((c.tc : Thread Cert.MassReferenceIdeal.nD Cert.MassReferenceIdeal.τ).loc Cert.MassReferenceIdeal.main_arg5)) (m ((c.tc : Thread Cert.MassReferenceIdeal.nD Cert.MassReferenceIdeal.τ).loc Cert.MassReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Mass [hMass : Cert.Mass.Facts] : Prop :=
  ∀ (m : (ℓ : Loc Cert.Mass.nD Cert.Mass.τ Cert.Mass.sig) → Buf (Elt Bits) ℓ) (g : Dev Cert.Mass.nD → PrngReg), Pre_Mass m →
    θ_run (Cert.Mass.defs (F := Bits)) (onTc (τ := Cert.Mass.τ) (Cert.Mass.main (F := Bits))) ⟨m, fun _ => 0, g⟩ (fun r => (∀ c : Dev Cert.Mass.nD,
      r.2.mem ((c.tc : Thread Cert.Mass.nD Cert.Mass.τ).loc Cert.Mass.main_arg0) = m ((c.tc : Thread Cert.Mass.nD Cert.Mass.τ).loc Cert.Mass.main_arg0)
      ∧ r.2.mem ((c.tc : Thread Cert.Mass.nD Cert.Mass.τ).loc Cert.Mass.main_arg1) = m ((c.tc : Thread Cert.Mass.nD Cert.Mass.τ).loc Cert.Mass.main_arg1)
      ∧ r.2.mem ((c.tc : Thread Cert.Mass.nD Cert.Mass.τ).loc Cert.Mass.main_arg2) = m ((c.tc : Thread Cert.Mass.nD Cert.Mass.τ).loc Cert.Mass.main_arg2)
      ∧ r.2.mem ((c.tc : Thread Cert.Mass.nD Cert.Mass.τ).loc Cert.Mass.main_arg3) = m ((c.tc : Thread Cert.Mass.nD Cert.Mass.τ).loc Cert.Mass.main_arg3)
      ∧ r.2.mem ((c.tc : Thread Cert.Mass.nD Cert.Mass.τ).loc Cert.Mass.main_arg4) = m ((c.tc : Thread Cert.Mass.nD Cert.Mass.τ).loc Cert.Mass.main_arg4)
      ∧ r.2.mem ((c.tc : Thread Cert.Mass.nD Cert.Mass.τ).loc Cert.Mass.main_arg5) = m ((c.tc : Thread Cert.Mass.nD Cert.Mass.τ).loc Cert.Mass.main_arg5)
      ∧ r.2.mem ((c.tc : Thread Cert.Mass.nD Cert.Mass.τ).loc Cert.Mass.main_arg6) = m ((c.tc : Thread Cert.Mass.nD Cert.Mass.τ).loc Cert.Mass.main_arg6))
      ∧ r.2.sem = fun _ => 0)

def quiescent_MassIdeal [hMassIdeal : Cert.MassIdeal.Facts] : Prop :=
  ∀ (m : (ℓ : Loc Cert.MassIdeal.nD Cert.MassIdeal.τ Cert.MassIdeal.sig) → Buf (Elt Ideal) ℓ) (g : Dev Cert.MassIdeal.nD → PrngReg), Pre_MassIdeal m →
    θ_run (Cert.MassIdeal.defs (F := Ideal)) (onTc (τ := Cert.MassIdeal.τ) (Cert.MassIdeal.main (F := Ideal))) ⟨m, fun _ => 0, g⟩ (fun r => (∀ c : Dev Cert.MassIdeal.nD,
      r.2.mem ((c.tc : Thread Cert.MassIdeal.nD Cert.MassIdeal.τ).loc Cert.MassIdeal.main_arg0) = m ((c.tc : Thread Cert.MassIdeal.nD Cert.MassIdeal.τ).loc Cert.MassIdeal.main_arg0)
      ∧ r.2.mem ((c.tc : Thread Cert.MassIdeal.nD Cert.MassIdeal.τ).loc Cert.MassIdeal.main_arg1) = m ((c.tc : Thread Cert.MassIdeal.nD Cert.MassIdeal.τ).loc Cert.MassIdeal.main_arg1)
      ∧ r.2.mem ((c.tc : Thread Cert.MassIdeal.nD Cert.MassIdeal.τ).loc Cert.MassIdeal.main_arg2) = m ((c.tc : Thread Cert.MassIdeal.nD Cert.MassIdeal.τ).loc Cert.MassIdeal.main_arg2)
      ∧ r.2.mem ((c.tc : Thread Cert.MassIdeal.nD Cert.MassIdeal.τ).loc Cert.MassIdeal.main_arg3) = m ((c.tc : Thread Cert.MassIdeal.nD Cert.MassIdeal.τ).loc Cert.MassIdeal.main_arg3)
      ∧ r.2.mem ((c.tc : Thread Cert.MassIdeal.nD Cert.MassIdeal.τ).loc Cert.MassIdeal.main_arg4) = m ((c.tc : Thread Cert.MassIdeal.nD Cert.MassIdeal.τ).loc Cert.MassIdeal.main_arg4)
      ∧ r.2.mem ((c.tc : Thread Cert.MassIdeal.nD Cert.MassIdeal.τ).loc Cert.MassIdeal.main_arg5) = m ((c.tc : Thread Cert.MassIdeal.nD Cert.MassIdeal.τ).loc Cert.MassIdeal.main_arg5)
      ∧ r.2.mem ((c.tc : Thread Cert.MassIdeal.nD Cert.MassIdeal.τ).loc Cert.MassIdeal.main_arg6) = m ((c.tc : Thread Cert.MassIdeal.nD Cert.MassIdeal.τ).loc Cert.MassIdeal.main_arg6))
      ∧ r.2.sem = fun _ => 0)

def quiescent_MassIdeal_pre_ids_in_vocab [hMassIdeal : Cert.MassIdeal.Facts] [hPre_ids_in_vocab : Cert.Pre_ids_in_vocab.Facts] : Prop :=
  ∀ (m : (ℓ : Loc Cert.MassIdeal.nD Cert.MassIdeal.τ Cert.MassIdeal.sig) → Buf (Elt Ideal) ℓ) (g : Dev Cert.MassIdeal.nD → PrngReg), Pre_MassIdeal_ids_in_vocab m →
    θ_run (Cert.MassIdeal.defs (F := Ideal)) (onTc (τ := Cert.MassIdeal.τ) (Cert.MassIdeal.main (F := Ideal))) ⟨m, fun _ => 0, g⟩ (fun r => (∀ c : Dev Cert.MassIdeal.nD,
      r.2.mem ((c.tc : Thread Cert.MassIdeal.nD Cert.MassIdeal.τ).loc Cert.MassIdeal.main_arg0) = m ((c.tc : Thread Cert.MassIdeal.nD Cert.MassIdeal.τ).loc Cert.MassIdeal.main_arg0)
      ∧ r.2.mem ((c.tc : Thread Cert.MassIdeal.nD Cert.MassIdeal.τ).loc Cert.MassIdeal.main_arg1) = m ((c.tc : Thread Cert.MassIdeal.nD Cert.MassIdeal.τ).loc Cert.MassIdeal.main_arg1)
      ∧ r.2.mem ((c.tc : Thread Cert.MassIdeal.nD Cert.MassIdeal.τ).loc Cert.MassIdeal.main_arg2) = m ((c.tc : Thread Cert.MassIdeal.nD Cert.MassIdeal.τ).loc Cert.MassIdeal.main_arg2)
      ∧ r.2.mem ((c.tc : Thread Cert.MassIdeal.nD Cert.MassIdeal.τ).loc Cert.MassIdeal.main_arg3) = m ((c.tc : Thread Cert.MassIdeal.nD Cert.MassIdeal.τ).loc Cert.MassIdeal.main_arg3)
      ∧ r.2.mem ((c.tc : Thread Cert.MassIdeal.nD Cert.MassIdeal.τ).loc Cert.MassIdeal.main_arg4) = m ((c.tc : Thread Cert.MassIdeal.nD Cert.MassIdeal.τ).loc Cert.MassIdeal.main_arg4)
      ∧ r.2.mem ((c.tc : Thread Cert.MassIdeal.nD Cert.MassIdeal.τ).loc Cert.MassIdeal.main_arg5) = m ((c.tc : Thread Cert.MassIdeal.nD Cert.MassIdeal.τ).loc Cert.MassIdeal.main_arg5)
      ∧ r.2.mem ((c.tc : Thread Cert.MassIdeal.nD Cert.MassIdeal.τ).loc Cert.MassIdeal.main_arg6) = m ((c.tc : Thread Cert.MassIdeal.nD Cert.MassIdeal.τ).loc Cert.MassIdeal.main_arg6))
      ∧ r.2.sem = fun _ => 0)

def quiescent_MassReferenceIdeal [hMassReferenceIdeal : Cert.MassReferenceIdeal.Facts] : Prop :=
  ∀ (m : (ℓ : Loc Cert.MassReferenceIdeal.nD Cert.MassReferenceIdeal.τ Cert.MassReferenceIdeal.sig) → Buf (Elt Ideal) ℓ) (g : Dev Cert.MassReferenceIdeal.nD → PrngReg), Pre_MassReferenceIdeal m →
    θ_run (Cert.MassReferenceIdeal.defs (F := Ideal)) (onTc (τ := Cert.MassReferenceIdeal.τ) (Cert.MassReferenceIdeal.main (F := Ideal))) ⟨m, fun _ => 0, g⟩ (fun r => (∀ c : Dev Cert.MassReferenceIdeal.nD,
      r.2.mem ((c.tc : Thread Cert.MassReferenceIdeal.nD Cert.MassReferenceIdeal.τ).loc Cert.MassReferenceIdeal.main_arg0) = m ((c.tc : Thread Cert.MassReferenceIdeal.nD Cert.MassReferenceIdeal.τ).loc Cert.MassReferenceIdeal.main_arg0)
      ∧ r.2.mem ((c.tc : Thread Cert.MassReferenceIdeal.nD Cert.MassReferenceIdeal.τ).loc Cert.MassReferenceIdeal.main_arg1) = m ((c.tc : Thread Cert.MassReferenceIdeal.nD Cert.MassReferenceIdeal.τ).loc Cert.MassReferenceIdeal.main_arg1)
      ∧ r.2.mem ((c.tc : Thread Cert.MassReferenceIdeal.nD Cert.MassReferenceIdeal.τ).loc Cert.MassReferenceIdeal.main_arg2) = m ((c.tc : Thread Cert.MassReferenceIdeal.nD Cert.MassReferenceIdeal.τ).loc Cert.MassReferenceIdeal.main_arg2)
      ∧ r.2.mem ((c.tc : Thread Cert.MassReferenceIdeal.nD Cert.MassReferenceIdeal.τ).loc Cert.MassReferenceIdeal.main_arg3) = m ((c.tc : Thread Cert.MassReferenceIdeal.nD Cert.MassReferenceIdeal.τ).loc Cert.MassReferenceIdeal.main_arg3)
      ∧ r.2.mem ((c.tc : Thread Cert.MassReferenceIdeal.nD Cert.MassReferenceIdeal.τ).loc Cert.MassReferenceIdeal.main_arg4) = m ((c.tc : Thread Cert.MassReferenceIdeal.nD Cert.MassReferenceIdeal.τ).loc Cert.MassReferenceIdeal.main_arg4)
      ∧ r.2.mem ((c.tc : Thread Cert.MassReferenceIdeal.nD Cert.MassReferenceIdeal.τ).loc Cert.MassReferenceIdeal.main_arg5) = m ((c.tc : Thread Cert.MassReferenceIdeal.nD Cert.MassReferenceIdeal.τ).loc Cert.MassReferenceIdeal.main_arg5)
      ∧ r.2.mem ((c.tc : Thread Cert.MassReferenceIdeal.nD Cert.MassReferenceIdeal.τ).loc Cert.MassReferenceIdeal.main_arg6) = m ((c.tc : Thread Cert.MassReferenceIdeal.nD Cert.MassReferenceIdeal.τ).loc Cert.MassReferenceIdeal.main_arg6))
      ∧ r.2.sem = fun _ => 0)

def quiescent_MassReferenceIdeal_pre_ids_in_vocab [hMassReferenceIdeal : Cert.MassReferenceIdeal.Facts] [hPre_ids_in_vocab : Cert.Pre_ids_in_vocab.Facts] : Prop :=
  ∀ (m : (ℓ : Loc Cert.MassReferenceIdeal.nD Cert.MassReferenceIdeal.τ Cert.MassReferenceIdeal.sig) → Buf (Elt Ideal) ℓ) (g : Dev Cert.MassReferenceIdeal.nD → PrngReg), Pre_MassReferenceIdeal_ids_in_vocab m →
    θ_run (Cert.MassReferenceIdeal.defs (F := Ideal)) (onTc (τ := Cert.MassReferenceIdeal.τ) (Cert.MassReferenceIdeal.main (F := Ideal))) ⟨m, fun _ => 0, g⟩ (fun r => (∀ c : Dev Cert.MassReferenceIdeal.nD,
      r.2.mem ((c.tc : Thread Cert.MassReferenceIdeal.nD Cert.MassReferenceIdeal.τ).loc Cert.MassReferenceIdeal.main_arg0) = m ((c.tc : Thread Cert.MassReferenceIdeal.nD Cert.MassReferenceIdeal.τ).loc Cert.MassReferenceIdeal.main_arg0)
      ∧ r.2.mem ((c.tc : Thread Cert.MassReferenceIdeal.nD Cert.MassReferenceIdeal.τ).loc Cert.MassReferenceIdeal.main_arg1) = m ((c.tc : Thread Cert.MassReferenceIdeal.nD Cert.MassReferenceIdeal.τ).loc Cert.MassReferenceIdeal.main_arg1)
      ∧ r.2.mem ((c.tc : Thread Cert.MassReferenceIdeal.nD Cert.MassReferenceIdeal.τ).loc Cert.MassReferenceIdeal.main_arg2) = m ((c.tc : Thread Cert.MassReferenceIdeal.nD Cert.MassReferenceIdeal.τ).loc Cert.MassReferenceIdeal.main_arg2)
      ∧ r.2.mem ((c.tc : Thread Cert.MassReferenceIdeal.nD Cert.MassReferenceIdeal.τ).loc Cert.MassReferenceIdeal.main_arg3) = m ((c.tc : Thread Cert.MassReferenceIdeal.nD Cert.MassReferenceIdeal.τ).loc Cert.MassReferenceIdeal.main_arg3)
      ∧ r.2.mem ((c.tc : Thread Cert.MassReferenceIdeal.nD Cert.MassReferenceIdeal.τ).loc Cert.MassReferenceIdeal.main_arg4) = m ((c.tc : Thread Cert.MassReferenceIdeal.nD Cert.MassReferenceIdeal.τ).loc Cert.MassReferenceIdeal.main_arg4)
      ∧ r.2.mem ((c.tc : Thread Cert.MassReferenceIdeal.nD Cert.MassReferenceIdeal.τ).loc Cert.MassReferenceIdeal.main_arg5) = m ((c.tc : Thread Cert.MassReferenceIdeal.nD Cert.MassReferenceIdeal.τ).loc Cert.MassReferenceIdeal.main_arg5)
      ∧ r.2.mem ((c.tc : Thread Cert.MassReferenceIdeal.nD Cert.MassReferenceIdeal.τ).loc Cert.MassReferenceIdeal.main_arg6) = m ((c.tc : Thread Cert.MassReferenceIdeal.nD Cert.MassReferenceIdeal.τ).loc Cert.MassReferenceIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v6_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v6_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_v6_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Mass_MassIdeal : Prop :=
  True

def algebraic_MassIdeal_MassReferenceIdeal_pre_ids_in_vocab [hMassIdeal : Cert.MassIdeal.Facts] [hMassReferenceIdeal : Cert.MassReferenceIdeal.Facts] [hPre_ids_in_vocab : Cert.Pre_ids_in_vocab.Facts] : Prop :=
  ∀ (m : (ℓ : Loc Cert.MassIdeal.nD Cert.MassIdeal.τ Cert.MassIdeal.sig) → Buf (Elt Ideal) ℓ) (g : Dev Cert.MassIdeal.nD → PrngReg)
    (m' : (ℓ : Loc Cert.MassReferenceIdeal.nD Cert.MassReferenceIdeal.τ Cert.MassReferenceIdeal.sig) → Buf (Elt Ideal) ℓ) (g' : Dev Cert.MassReferenceIdeal.nD → PrngReg), Pre_MassIdeal_ids_in_vocab m →
    (∀ c : Dev Cert.MassIdeal.nD,
      m' ((c.tc : Thread Cert.MassReferenceIdeal.nD Cert.MassReferenceIdeal.τ).loc Cert.MassReferenceIdeal.main_arg0) = m ((c.tc : Thread Cert.MassIdeal.nD Cert.MassIdeal.τ).loc Cert.MassIdeal.main_arg0)
      ∧ m' ((c.tc : Thread Cert.MassReferenceIdeal.nD Cert.MassReferenceIdeal.τ).loc Cert.MassReferenceIdeal.main_arg1) = m ((c.tc : Thread Cert.MassIdeal.nD Cert.MassIdeal.τ).loc Cert.MassIdeal.main_arg1)
      ∧ m' ((c.tc : Thread Cert.MassReferenceIdeal.nD Cert.MassReferenceIdeal.τ).loc Cert.MassReferenceIdeal.main_arg2) = m ((c.tc : Thread Cert.MassIdeal.nD Cert.MassIdeal.τ).loc Cert.MassIdeal.main_arg2)
      ∧ m' ((c.tc : Thread Cert.MassReferenceIdeal.nD Cert.MassReferenceIdeal.τ).loc Cert.MassReferenceIdeal.main_arg3) = m ((c.tc : Thread Cert.MassIdeal.nD Cert.MassIdeal.τ).loc Cert.MassIdeal.main_arg3)
      ∧ m' ((c.tc : Thread Cert.MassReferenceIdeal.nD Cert.MassReferenceIdeal.τ).loc Cert.MassReferenceIdeal.main_arg4) = m ((c.tc : Thread Cert.MassIdeal.nD Cert.MassIdeal.τ).loc Cert.MassIdeal.main_arg4)
      ∧ m' ((c.tc : Thread Cert.MassReferenceIdeal.nD Cert.MassReferenceIdeal.τ).loc Cert.MassReferenceIdeal.main_arg5) = m ((c.tc : Thread Cert.MassIdeal.nD Cert.MassIdeal.τ).loc Cert.MassIdeal.main_arg5)
      ∧ m' ((c.tc : Thread Cert.MassReferenceIdeal.nD Cert.MassReferenceIdeal.τ).loc Cert.MassReferenceIdeal.main_arg6) = m ((c.tc : Thread Cert.MassIdeal.nD Cert.MassIdeal.τ).loc Cert.MassIdeal.main_arg6)) →
    ∃ (v0 : (c : Dev Cert.MassIdeal.nD) → Buf (Elt Ideal) ((c.tc : Thread Cert.MassIdeal.nD Cert.MassIdeal.τ).loc Cert.MassIdeal.main_v30)) (v1 : (c : Dev Cert.MassIdeal.nD) → Buf (Elt Ideal) ((c.tc : Thread Cert.MassIdeal.nD Cert.MassIdeal.τ).loc Cert.MassIdeal.main_v32)) (v2 : (c : Dev Cert.MassIdeal.nD) → Buf (Elt Ideal) ((c.tc : Thread Cert.MassIdeal.nD Cert.MassIdeal.τ).loc Cert.MassIdeal.main_v37)) (v3 : (c : Dev Cert.MassIdeal.nD) → Buf (Elt Ideal) ((c.tc : Thread Cert.MassIdeal.nD Cert.MassIdeal.τ).loc Cert.MassIdeal.main_v40)),
      θ_run (Cert.MassIdeal.defs (F := Ideal)) (onTc (τ := Cert.MassIdeal.τ) (Cert.MassIdeal.main (F := Ideal))) ⟨m, fun _ => 0, g⟩ (fun r => ∀ c : Dev Cert.MassIdeal.nD,
          r.2.mem ((c.tc : Thread Cert.MassIdeal.nD Cert.MassIdeal.τ).loc Cert.MassIdeal.main_v30) = v0 c
          ∧ r.2.mem ((c.tc : Thread Cert.MassIdeal.nD Cert.MassIdeal.τ).loc Cert.MassIdeal.main_v32) = v1 c
          ∧ r.2.mem ((c.tc : Thread Cert.MassIdeal.nD Cert.MassIdeal.τ).loc Cert.MassIdeal.main_v37) = v2 c
          ∧ r.2.mem ((c.tc : Thread Cert.MassIdeal.nD Cert.MassIdeal.τ).loc Cert.MassIdeal.main_v40) = v3 c
          ∧ r.2.mem ((c.tc : Thread Cert.MassIdeal.nD Cert.MassIdeal.τ).loc Cert.MassIdeal.main_arg0) = m ((c.tc : Thread Cert.MassIdeal.nD Cert.MassIdeal.τ).loc Cert.MassIdeal.main_arg0)
          ∧ r.2.mem ((c.tc : Thread Cert.MassIdeal.nD Cert.MassIdeal.τ).loc Cert.MassIdeal.main_arg1) = m ((c.tc : Thread Cert.MassIdeal.nD Cert.MassIdeal.τ).loc Cert.MassIdeal.main_arg1)
          ∧ r.2.mem ((c.tc : Thread Cert.MassIdeal.nD Cert.MassIdeal.τ).loc Cert.MassIdeal.main_arg2) = m ((c.tc : Thread Cert.MassIdeal.nD Cert.MassIdeal.τ).loc Cert.MassIdeal.main_arg2)
          ∧ r.2.mem ((c.tc : Thread Cert.MassIdeal.nD Cert.MassIdeal.τ).loc Cert.MassIdeal.main_arg3) = m ((c.tc : Thread Cert.MassIdeal.nD Cert.MassIdeal.τ).loc Cert.MassIdeal.main_arg3)
          ∧ r.2.mem ((c.tc : Thread Cert.MassIdeal.nD Cert.MassIdeal.τ).loc Cert.MassIdeal.main_arg4) = m ((c.tc : Thread Cert.MassIdeal.nD Cert.MassIdeal.τ).loc Cert.MassIdeal.main_arg4)
          ∧ r.2.mem ((c.tc : Thread Cert.MassIdeal.nD Cert.MassIdeal.τ).loc Cert.MassIdeal.main_arg5) = m ((c.tc : Thread Cert.MassIdeal.nD Cert.MassIdeal.τ).loc Cert.MassIdeal.main_arg5)
          ∧ r.2.mem ((c.tc : Thread Cert.MassIdeal.nD Cert.MassIdeal.τ).loc Cert.MassIdeal.main_arg6) = m ((c.tc : Thread Cert.MassIdeal.nD Cert.MassIdeal.τ).loc Cert.MassIdeal.main_arg6))
      ∧ θ_run (Cert.MassReferenceIdeal.defs (F := Ideal)) (onTc (τ := Cert.MassReferenceIdeal.τ) (Cert.MassReferenceIdeal.main (F := Ideal))) ⟨m', fun _ => 0, g'⟩ (fun r => ∀ c : Dev Cert.MassReferenceIdeal.nD,
          r.2.mem ((c.tc : Thread Cert.MassReferenceIdeal.nD Cert.MassReferenceIdeal.τ).loc Cert.MassReferenceIdeal.main_v32) = v0 c
          ∧ r.2.mem ((c.tc : Thread Cert.MassReferenceIdeal.nD Cert.MassReferenceIdeal.τ).loc Cert.MassReferenceIdeal.main_v34) = v1 c
          ∧ r.2.mem ((c.tc : Thread Cert.MassReferenceIdeal.nD Cert.MassReferenceIdeal.τ).loc Cert.MassReferenceIdeal.main_v39) = v2 c
          ∧ r.2.mem ((c.tc : Thread Cert.MassReferenceIdeal.nD Cert.MassReferenceIdeal.τ).loc Cert.MassReferenceIdeal.main_v42) = v3 c
          ∧ r.2.mem ((c.tc : Thread Cert.MassReferenceIdeal.nD Cert.MassReferenceIdeal.τ).loc Cert.MassReferenceIdeal.main_arg0) = m' ((c.tc : Thread Cert.MassReferenceIdeal.nD Cert.MassReferenceIdeal.τ).loc Cert.MassReferenceIdeal.main_arg0)
          ∧ r.2.mem ((c.tc : Thread Cert.MassReferenceIdeal.nD Cert.MassReferenceIdeal.τ).loc Cert.MassReferenceIdeal.main_arg1) = m' ((c.tc : Thread Cert.MassReferenceIdeal.nD Cert.MassReferenceIdeal.τ).loc Cert.MassReferenceIdeal.main_arg1)
          ∧ r.2.mem ((c.tc : Thread Cert.MassReferenceIdeal.nD Cert.MassReferenceIdeal.τ).loc Cert.MassReferenceIdeal.main_arg2) = m' ((c.tc : Thread Cert.MassReferenceIdeal.nD Cert.MassReferenceIdeal.τ).loc Cert.MassReferenceIdeal.main_arg2)
          ∧ r.2.mem ((c.tc : Thread Cert.MassReferenceIdeal.nD Cert.MassReferenceIdeal.τ).loc Cert.MassReferenceIdeal.main_arg3) = m' ((c.tc : Thread Cert.MassReferenceIdeal.nD Cert.MassReferenceIdeal.τ).loc Cert.MassReferenceIdeal.main_arg3)
          ∧ r.2.mem ((c.tc : Thread Cert.MassReferenceIdeal.nD Cert.MassReferenceIdeal.τ).loc Cert.MassReferenceIdeal.main_arg4) = m' ((c.tc : Thread Cert.MassReferenceIdeal.nD Cert.MassReferenceIdeal.τ).loc Cert.MassReferenceIdeal.main_arg4)
          ∧ r.2.mem ((c.tc : Thread Cert.MassReferenceIdeal.nD Cert.MassReferenceIdeal.τ).loc Cert.MassReferenceIdeal.main_arg5) = m' ((c.tc : Thread Cert.MassReferenceIdeal.nD Cert.MassReferenceIdeal.τ).loc Cert.MassReferenceIdeal.main_arg5)
          ∧ r.2.mem ((c.tc : Thread Cert.MassReferenceIdeal.nD Cert.MassReferenceIdeal.τ).loc Cert.MassReferenceIdeal.main_arg6) = m' ((c.tc : Thread Cert.MassReferenceIdeal.nD Cert.MassReferenceIdeal.τ).loc Cert.MassReferenceIdeal.main_arg6))

def Claim : Prop :=
  ∃ (hKernel : Cert.Kernel.Facts) (hKernelIdeal : Cert.KernelIdeal.Facts) (hReferenceIdeal : Cert.ReferenceIdeal.Facts) (hMass : Cert.Mass.Facts) (hMassIdeal : Cert.MassIdeal.Facts) (hMassReferenceIdeal : Cert.MassReferenceIdeal.Facts) (hPre_ids_in_vocab : Cert.Pre_ids_in_vocab.Facts),
    quiescent_Kernel (hKernel := hKernel)
    ∧ quiescent_KernelIdeal (hKernelIdeal := hKernelIdeal)
    ∧ quiescent_ReferenceIdeal (hReferenceIdeal := hReferenceIdeal)
    ∧ quiescent_Mass (hMass := hMass)
    ∧ quiescent_MassIdeal (hMassIdeal := hMassIdeal)
    ∧ quiescent_MassIdeal_pre_ids_in_vocab (hMassIdeal := hMassIdeal) (hPre_ids_in_vocab := hPre_ids_in_vocab)
    ∧ quiescent_MassReferenceIdeal (hMassReferenceIdeal := hMassReferenceIdeal)
    ∧ quiescent_MassReferenceIdeal_pre_ids_in_vocab (hMassReferenceIdeal := hMassReferenceIdeal) (hPre_ids_in_vocab := hPre_ids_in_vocab)
    ∧ preserves_Kernel_KernelIdeal
    ∧ algebraic_KernelIdeal_ReferenceIdeal (hKernelIdeal := hKernelIdeal) (hReferenceIdeal := hReferenceIdeal)
    ∧ preserves_Mass_MassIdeal
    ∧ algebraic_MassIdeal_MassReferenceIdeal_pre_ids_in_vocab (hMassIdeal := hMassIdeal) (hMassReferenceIdeal := hMassReferenceIdeal) (hPre_ids_in_vocab := hPre_ids_in_vocab)
-- ==== Pre_ids_in_vocab.lean ====
abbrev S256x151936 : Shape := ⟨2, ![256, 151936]⟩
abbrev S256x1 : Shape := ⟨2, ![256, 1]⟩
abbrev S32x7x151936 : Shape := ⟨3, ![32, 7, 151936]⟩
abbrev S32x7 : Shape := ⟨2, ![32, 7]⟩
abbrev S32 : Shape := ⟨1, ![32]⟩
abbrev S_ : Shape := ⟨0, ![]⟩

class Facts : Prop where
  bcast_S_S32x7 : S_.BroadcastsInDim S32x7 (![] : Fin 0 → Fin S32x7.rank)

variable [Facts]

def fn {F : FTy → Type} [FloatOps F] (main_arg0 : FVec F S256x151936 .f32) (main_arg1 : FVec F S256x1 .f32) (main_arg2 : IVec S32x7x151936 8) (main_arg3 : FVec F S32x7 .f32) (main_arg4 : FVec F S32x7 .f32) (main_arg5 : IVec S32x7 32) (main_arg6 : IVec S32 32) : IVec S32x7 1 :=
  let main_c : IVec S_ 32 := constantI S_ 32 151936#32
  let main_v0 : IVec S32x7 32 := broadcastInDim S32x7 ![] bcast_S_S32x7 main_c
  let main_v1 : IVec S32x7 1 := cmpi .slt main_arg5 main_v0
  main_v1
-- ==== Kernel.lean ====
abbrev S32x8x2560 : Shape := ⟨3, ![32, 8, 2560]⟩
abbrev S2560 : Shape := ⟨1, ![2560]⟩
abbrev S151936x2560 : Shape := ⟨2, ![151936, 2560]⟩
abbrev S151936 : Shape := ⟨1, ![151936]⟩
abbrev S32 : Shape := ⟨1, ![32]⟩
abbrev S32x1 : Shape := ⟨2, ![32, 1]⟩
abbrev S32x8 : Shape := ⟨2, ![32, 8]⟩
abbrev S256x1 : Shape := ⟨2, ![256, 1]⟩
abbrev S256x2560 : Shape := ⟨2, ![256, 2560]⟩
abbrev S1x2560 : Shape := ⟨2, ![1, 2560]⟩
abbrev S1x151936 : Shape := ⟨2, ![1, 151936]⟩
abbrev S256x151936 : Shape := ⟨2, ![256, 151936]⟩
abbrev S2048x2560 : Shape := ⟨2, ![2048, 2560]⟩
abbrev S1x2048 : Shape := ⟨2, ![1, 2048]⟩
abbrev S256x2048 : Shape := ⟨2, ![256, 2048]⟩
abbrev S256 : Shape := ⟨1, ![256]⟩
abbrev S_ : Shape := ⟨0, ![]⟩

abbrev nBuf : Space → Nat
  | .hbm => 24
  | .vmem => 16
  | .smem => 0
  | _ => 0

abbrev bufTy : (tb : Table) → Fin (tcTables nBuf tb) → BufTy
  | .hbm, ⟨0, _⟩ => ⟨S32x8x2560, .bf16⟩
  | .hbm, ⟨1, _⟩ => ⟨S2560, .f32⟩
  | .hbm, ⟨2, _⟩ => ⟨S151936x2560, .fp8e4m3⟩
  | .hbm, ⟨3, _⟩ => ⟨S151936, .f32⟩
  | .hbm, ⟨4, _⟩ => ⟨S32, .f32⟩
  | .hbm, ⟨5, _⟩ => ⟨S32x1, .f32⟩
  | .hbm, ⟨6, _⟩ => ⟨S32x8, .f32⟩
  | .hbm, ⟨7, _⟩ => ⟨S256x1, .f32⟩
  | .hbm, ⟨8, _⟩ => ⟨S256x2560, .bf16⟩
  | .hbm, ⟨9, _⟩ => ⟨S1x2560, .f32⟩
  | .hbm, ⟨10, _⟩ => ⟨S1x151936, .f32⟩
  | .hbm, ⟨11, _⟩ => ⟨S256x151936, .f32⟩
  | .hbm, ⟨12, _⟩ => ⟨S256x1, .f32⟩
  | .hbm, ⟨13, _⟩ => ⟨S256x2560, .fp8e4m3⟩
  | .hbm, ⟨14, _⟩ => ⟨S256x1, .f32⟩
  | .hbm, ⟨15, _⟩ => ⟨S32x8, .f32⟩
  | .hbm, ⟨16, _⟩ => ⟨S_, .f32⟩
  | .hbm, ⟨17, _⟩ => ⟨S32x8, .f32⟩
  | .hbm, ⟨18, _⟩ => ⟨S32x8, .f32⟩
  | .hbm, ⟨19, _⟩ => ⟨S_, .f32⟩
  | .hbm, ⟨20, _⟩ => ⟨S32x8, .f32⟩
  | .hbm, ⟨21, _⟩ => ⟨S32x8, .f32⟩
  | .hbm, ⟨22, _⟩ => ⟨S32x8x2560, .fp8e4m3⟩
  | .hbm, ⟨23, _⟩ => ⟨S32x8, .f32⟩
  | .local _ .vmem, ⟨0, _⟩ => ⟨S256x2560, .bf16⟩
  | .local _ .vmem, ⟨1, _⟩ => ⟨S1x2560, .f32⟩
  | .local _ .vmem, ⟨2, _⟩ => ⟨S256x1, .f32⟩
  | .local _ .vmem, ⟨3, _⟩ => ⟨S2048x2560, .fp8e4m3⟩
  | .local _ .vmem, ⟨4, _⟩ => ⟨S2048x2560, .fp8e4m3⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x1, .f32⟩
  | .local _ .vmem, ⟨10, _⟩ => ⟨S256x2560, .fp8e4m3⟩
  | .local _ .vmem, ⟨11, _⟩ => ⟨S256x1, .f32⟩
  | .local _ .vmem, ⟨12, _⟩ => ⟨S256x2560, .fp8e4m3⟩
  | .local _ .vmem, ⟨13, _⟩ => ⟨S256x1, .f32⟩
  | .local _ .vmem, ⟨14, _⟩ => ⟨S256x1, .f32⟩
  | .local _ .vmem, ⟨15, _⟩ => ⟨S256x1, .f32⟩
  | _, _ => ⟨S32x8x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![75], ![false]⟩

def k0_cond2 (i : grid0.Coords) : BitVec 1 :=
  let arg0 : BitVec 32 := BitVec.ofNat 32 (i 0).val
  let c74_i32 : BitVec 32 := 74#32
  let v44 : BitVec 1 := Scalar.cmpi .eq arg0 c74_i32
  let v45 : BitVec 32 := Scalar.extui v44
  let c0_i32_23 : BitVec 32 := 0#32
  let v46 : BitVec 1 := Scalar.cmpi .ne v45 c0_i32_23
  v46

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x2560 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x2560 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S32x8x2560 : Shape := ⟨3, ![32, 8, 2560]⟩
abbrev S2560 : Shape := ⟨1, ![2560]⟩
abbrev S151936x2560 : Shape := ⟨2, ![151936, 2560]⟩
abbrev S151936 : Shape := ⟨1, ![151936]⟩
abbrev S32 : Shape := ⟨1, ![32]⟩
abbrev S256x2560 : Shape := ⟨2, ![256, 2560]⟩
abbrev S1x2560 : Shape := ⟨2, ![1, 2560]⟩
abbrev S32x1 : Shape := ⟨2, ![32, 1]⟩
abbrev S32x8 : Shape := ⟨2, ![32, 8]⟩
abbrev S256x1 : Shape := ⟨2, ![256, 1]⟩
abbrev S1x151936 : Shape := ⟨2, ![1, 151936]⟩
abbrev S256x151936 : Shape := ⟨2, ![256, 151936]⟩
abbrev S256 : Shape := ⟨1, ![256]⟩
abbrev S_ : Shape := ⟨0, ![]⟩

abbrev nBuf : Space → Nat
  | .hbm => 24
  | .vmem => 9
  | .smem => 0
  | _ => 0

abbrev bufTy : (tb : Table) → Fin (tcTables nBuf tb) → BufTy
  | .hbm, ⟨0, _⟩ => ⟨S32x8x2560, .bf16⟩
  | .hbm, ⟨1, _⟩ => ⟨S2560, .f32⟩
  | .hbm, ⟨2, _⟩ => ⟨S151936x2560, .fp8e4m3⟩
  | .hbm, ⟨3, _⟩ => ⟨S151936, .f32⟩
  | .hbm, ⟨4, _⟩ => ⟨S32, .f32⟩
  | .hbm, ⟨5, _⟩ => ⟨S256x2560, .bf16⟩
  | .hbm, ⟨6, _⟩ => ⟨S1x2560, .f32⟩
  | .hbm, ⟨7, _⟩ => ⟨S32x1, .f32⟩
  | .hbm, ⟨8, _⟩ => ⟨S32x8, .f32⟩
  | .hbm, ⟨9, _⟩ => ⟨S256x1, .f32⟩
  | .hbm, ⟨10, _⟩ => ⟨S1x151936, .f32⟩
  | .hbm, ⟨11, _⟩ => ⟨S256x1, .f32⟩
  | .hbm, ⟨12, _⟩ => ⟨S256x2560, .fp8e4m3⟩
  | .hbm, ⟨13, _⟩ => ⟨S256x1, .f32⟩
  | .hbm, ⟨14, _⟩ => ⟨S256x151936, .f32⟩
  | .hbm, ⟨15, _⟩ => ⟨S32x8, .f32⟩
  | .hbm, ⟨16, _⟩ => ⟨S_, .f32⟩
  | .hbm, ⟨17, _⟩ => ⟨S32x8, .f32⟩
  | .hbm, ⟨18, _⟩ => ⟨S32x8, .f32⟩
  | .hbm, ⟨19, _⟩ => ⟨S_, .f32⟩
  | .hbm, ⟨20, _⟩ => ⟨S32x8, .f32⟩
  | .hbm, ⟨21, _⟩ => ⟨S32x8, .f32⟩
  | .hbm, ⟨22, _⟩ => ⟨S32x8x2560, .fp8e4m3⟩
  | .hbm, ⟨23, _⟩ => ⟨S32x8, .f32⟩
  | .local _ .vmem, ⟨0, _⟩ => ⟨S256x2560, .bf16⟩
  | .local _ .vmem, ⟨1, _⟩ => ⟨S1x2560, .f32⟩
  | .local _ .vmem, ⟨2, _⟩ => ⟨S256x1, .f32⟩
  | .local _ .vmem, ⟨3, _⟩ => ⟨S151936x2560, .fp8e4m3⟩
  | .local _ .vmem, ⟨4, _⟩ => ⟨S1x151936, .f32⟩
  | .local _ .vmem, ⟨5, _⟩ => ⟨S256x1, .f32⟩
  | .local _ .vmem, ⟨6, _⟩ => ⟨S256x2560, .fp8e4m3⟩
  | .local _ .vmem, ⟨7, _⟩ => ⟨S256x1, .f32⟩
  | .local _ .vmem, ⟨8, _⟩ => ⟨S256x151936, .f32⟩
  | _, _ => ⟨S32x8x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S256x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S151936x2560 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x151936 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x2560 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x151936 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Mass.lean ====
abbrev S256x151936 : Shape := ⟨2, ![256, 151936]⟩
abbrev S256x1 : Shape := ⟨2, ![256, 1]⟩
abbrev S32x7x151936 : Shape := ⟨3, ![32, 7, 151936]⟩
abbrev S32x7 : Shape := ⟨2, ![32, 7]⟩
abbrev S32 : Shape := ⟨1, ![32]⟩
abbrev S8 : Shape := ⟨1, ![8]⟩
abbrev S7 : Shape := ⟨1, ![7]⟩
abbrev S32x1 : Shape := ⟨2, ![32, 1]⟩
abbrev S1x7 : Shape := ⟨2, ![1, 7]⟩
abbrev S1x8 : Shape := ⟨2, ![1, 8]⟩
abbrev S32x8 : Shape := ⟨2, ![32, 8]⟩
abbrev S_ : Shape := ⟨0, ![]⟩
abbrev S256x297 : Shape := ⟨2, ![256, 297]⟩
abbrev S256x2048 : Shape := ⟨2, ![256, 2048]⟩
abbrev S32x7x2048 : Shape := ⟨3, ![32, 7, 2048]⟩
abbrev S8x297 : Shape := ⟨2, ![8, 297]⟩
abbrev S8x2048 : Shape := ⟨2, ![8, 2048]⟩
abbrev S8x1 : Shape := ⟨2, ![8, 1]⟩
abbrev S1x7x2048 : Shape := ⟨3, ![1, 7, 2048]⟩
abbrev S7x2048 : Shape := ⟨2, ![7, 2048]⟩
abbrev S1x2048 : Shape := ⟨2, ![1, 2048]⟩
abbrev S8x512 : Shape := ⟨2, ![8, 512]⟩
abbrev S32x8x1 : Shape := ⟨3, ![32, 8, 1]⟩
abbrev S32x8x297 : Shape := ⟨3, ![32, 8, 297]⟩

abbrev nBuf : Space → Nat
  | .hbm => 74
  | .vmem => 11
  | .smem => 0
  | _ => 0

abbrev bufTy : (tb : Table) → Fin (tcTables nBuf tb) → BufTy
  | .hbm, ⟨0, _⟩ => ⟨S256x151936, .f32⟩
  | .hbm, ⟨1, _⟩ => ⟨S256x1, .f32⟩
  | .hbm, ⟨2, _⟩ => ⟨S32x7x151936, .i8⟩
  | .hbm, ⟨3, _⟩ => ⟨S32x7, .f32⟩
  | .hbm, ⟨4, _⟩ => ⟨S32x7, .f32⟩
  | .hbm, ⟨5, _⟩ => ⟨S32x7, .i32⟩
  | .hbm, ⟨6, _⟩ => ⟨S32, .i32⟩
  | .hbm, ⟨7, _⟩ => ⟨S8, .i32⟩
  | .hbm, ⟨8, _⟩ => ⟨S7, .i32⟩
  | .hbm, ⟨9, _⟩ => ⟨S32x1, .i32⟩
  | .hbm, ⟨10, _⟩ => ⟨S1x7, .i32⟩
  | .hbm, ⟨11, _⟩ => ⟨S32x7, .i32⟩
  | .hbm, ⟨12, _⟩ => ⟨S32x7, .i32⟩
  | .hbm, ⟨13, _⟩ => ⟨S32x7, .i1⟩
  | .hbm, ⟨14, _⟩ => ⟨S32x1, .i32⟩
  | .hbm, ⟨15, _⟩ => ⟨S1x8, .i32⟩
  | .hbm, ⟨16, _⟩ => ⟨S32x8, .i32⟩
  | .hbm, ⟨17, _⟩ => ⟨S32x8, .i32⟩
  | .hbm, ⟨18, _⟩ => ⟨S32x8, .i1⟩
  | .hbm, ⟨19, _⟩ => ⟨S_, .f32⟩
  | .hbm, ⟨20, _⟩ => ⟨S_, .f32⟩
  | .hbm, ⟨21, _⟩ => ⟨S32x7, .f32⟩
  | .hbm, ⟨22, _⟩ => ⟨S32x7, .f32⟩
  | .hbm, ⟨23, _⟩ => ⟨S_, .f32⟩
  | .hbm, ⟨24, _⟩ => ⟨S_, .f32⟩
  | .hbm, ⟨25, _⟩ => ⟨S32x8, .f32⟩
  | .hbm, ⟨26, _⟩ => ⟨S_, .i32⟩
  | .hbm, ⟨27, _⟩ => ⟨S_, .f32⟩
  | .hbm, ⟨28, _⟩ => ⟨S32x8, .f32⟩
  | .hbm, ⟨29, _⟩ => ⟨S_, .i32⟩
  | .hbm, ⟨30, _⟩ => ⟨S_, .i32⟩
  | .hbm, ⟨31, _⟩ => ⟨S32x8, .i32⟩
  | .hbm, ⟨32, _⟩ => ⟨S256x1, .f32⟩
  | .hbm, ⟨33, _⟩ => ⟨S256x1, .f32⟩
  | .hbm, ⟨34, _⟩ => ⟨S256x1, .i32⟩
  | .hbm, ⟨35, _⟩ => ⟨S256x297, .f32⟩
  | .hbm, ⟨36, _⟩ => ⟨S256x1, .f32⟩
  | .hbm, ⟨37, _⟩ => ⟨S256x1, .f32⟩
  | .hbm, ⟨38, _⟩ => ⟨S32x8, .f32⟩
  | .hbm, ⟨39, _⟩ => ⟨S32x8, .f32⟩
  | .hbm, ⟨40, _⟩ => ⟨S32x7, .f32⟩
  | .hbm, ⟨41, _⟩ => ⟨S32x8, .f32⟩
  | .hbm, ⟨42, _⟩ => ⟨S32x7, .f32⟩
  | .hbm, ⟨43, _⟩ => ⟨S32x7, .f32⟩
  | .hbm, ⟨44, _⟩ => ⟨S32x7, .f32⟩
  | .hbm, ⟨45, _⟩ => ⟨S32x7, .f32⟩
  | .hbm, ⟨46, _⟩ => ⟨S_, .f32⟩
  | .hbm, ⟨47, _⟩ => ⟨S32x7, .f32⟩
  | .hbm, ⟨48, _⟩ => ⟨S32x7, .f32⟩
  | .hbm, ⟨49, _⟩ => ⟨S_, .f32⟩
  | .hbm, ⟨50, _⟩ => ⟨S_, .f32⟩
  | .hbm, ⟨51, _⟩ => ⟨S32x7, .f32⟩
  | .hbm, ⟨52, _⟩ => ⟨S32x7, .f32⟩
  | .hbm, ⟨53, _⟩ => ⟨S32x7, .f32⟩
  | .hbm, ⟨54, _⟩ => ⟨S_, .f32⟩
  | .hbm, ⟨55, _⟩ => ⟨S_, .f32⟩
  | .hbm, ⟨56, _⟩ => ⟨S32x7, .f32⟩
  | .hbm, ⟨57, _⟩ => ⟨S32x7, .f32⟩
  | .hbm, ⟨58, _⟩ => ⟨S32x7, .f32⟩
  | .hbm, ⟨59, _⟩ => ⟨S32x7, .f32⟩
  | .hbm, ⟨60, _⟩ => ⟨S_, .f32⟩
  | .hbm, ⟨61, _⟩ => ⟨S32x7, .f32⟩
  | .hbm, ⟨62, _⟩ => ⟨S32x7, .f32⟩
  | .hbm, ⟨63, _⟩ => ⟨S_, .f32⟩
  | .hbm, ⟨64, _⟩ => ⟨S_, .f32⟩
  | .hbm, ⟨65, _⟩ => ⟨S32x7, .f32⟩
  | .hbm, ⟨66, _⟩ => ⟨S32x7, .f32⟩
  | .hbm, ⟨67, _⟩ => ⟨S32x8x1, .i1⟩
  | .hbm, ⟨68, _⟩ => ⟨S32x8x297, .f32⟩
  | .hbm, ⟨69, _⟩ => ⟨S_, .f32⟩
  | .hbm, ⟨70, _⟩ => ⟨S_, .f32⟩
  | .hbm, ⟨71, _⟩ => ⟨S32x8x297, .i1⟩
  | .hbm, ⟨72, _⟩ => ⟨S32x8x297, .f32⟩
  | .hbm, ⟨73, _⟩ => ⟨S32x8x297, .f32⟩
  | .local _ .vmem, ⟨0, _⟩ => ⟨S256x2048, .f32⟩
  | .local _ .vmem, ⟨1, _⟩ => ⟨S256x2048, .f32⟩
  | .local _ .vmem, ⟨2, _⟩ => ⟨S256x1, .f32⟩
  | .local _ .vmem, ⟨3, _⟩ => ⟨S32x7x2048, .i8⟩
  | .local _ .vmem, ⟨4, _⟩ => ⟨S32x7x2048, .i8⟩
  | .local _ .vmem, ⟨5, _⟩ => ⟨S256x1, .f32⟩
  | .local _ .vmem, ⟨6, _⟩ => ⟨S256x1, .f32⟩
  | .local _ .vmem, ⟨7, _⟩ => ⟨S256x1, .i32⟩
  | .local _ .vmem, ⟨8, _⟩ => ⟨S256x297, .f32⟩
  | .local _ .vmem, ⟨9, _⟩ => ⟨S256x1, .f32⟩
  | .local _ .vmem, ⟨10, _⟩ => ⟨S256x1, .f32⟩
  | _, _ => ⟨S256x151936, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_v12 : Ref sig .tc := ⟨.hbm, 22, rfl⟩
abbrev main_cst_0 : Ref sig .tc := ⟨.hbm, 23, rfl⟩
abbrev main_call1_v0 : Ref sig .tc := ⟨.hbm, 24, rfl⟩
abbrev main_v13 : Ref sig .tc := ⟨.hbm, 25, rfl⟩
abbrev main_c : Ref sig .tc := ⟨.hbm, 26, rfl⟩
abbrev main_call2_v0 : Ref sig .tc := ⟨.hbm, 27, rfl⟩
abbrev main_v14 : Ref sig .tc := ⟨.hbm, 28, rfl⟩
abbrev main_c_1 : Ref sig .tc := ⟨.hbm, 29, rfl⟩
abbrev main_call3_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19_0 : Ref sig .tc := ⟨.hbm, 35, rfl⟩
abbrev main_v19_1 : Ref sig .tc := ⟨.hbm, 36, rfl⟩
abbrev main_v19_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_2 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_call4_v0 : Ref sig .tc := ⟨.hbm, 50, rfl⟩
abbrev main_call4_v1 : Ref sig .tc := ⟨.hbm, 51, rfl⟩
abbrev main_v30 : Ref sig .tc := ⟨.hbm, 52, rfl⟩
abbrev main_v31 : Ref sig .tc := ⟨.hbm, 53, rfl⟩
abbrev main_cst_4 : Ref sig .tc := ⟨.hbm, 54, rfl⟩
abbrev main_call5_v0 : Ref sig .tc := ⟨.hbm, 55, rfl⟩
abbrev main_call5_v1 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_5 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_call6_v0 : Ref sig .tc := ⟨.hbm, 64, rfl⟩
abbrev main_call6_v1 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_7 : Ref sig .tc := ⟨.hbm, 69, rfl⟩
abbrev main_call7_v0 : Ref sig .tc := ⟨.hbm, 70, rfl⟩
abbrev main_call7_v1 : Ref sig .tc := ⟨.hbm, 71, rfl⟩
abbrev main_call7_v2 : Ref sig .tc := ⟨.hbm, 72, rfl⟩
abbrev main_v40 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨1, ![75], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x7x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x297 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MassReferenceIdeal.lean ====
abbrev S256x151936 : Shape := ⟨2, ![256, 151936]⟩
abbrev S256x1 : Shape := ⟨2, ![256, 1]⟩
abbrev S32x7x151936 : Shape := ⟨3, ![32, 7, 151936]⟩
abbrev S32x7 : Shape := ⟨2, ![32, 7]⟩
abbrev S32 : Shape := ⟨1, ![32]⟩
abbrev S8 : Shape := ⟨1, ![8]⟩
abbrev S7 : Shape := ⟨1, ![7]⟩
abbrev S32x1 : Shape := ⟨2, ![32, 1]⟩
abbrev S1x7 : Shape := ⟨2, ![1, 7]⟩
abbrev S1x8 : Shape := ⟨2, ![1, 8]⟩
abbrev S32x8 : Shape := ⟨2, ![32, 8]⟩
abbrev S_ : Shape := ⟨0, ![]⟩
abbrev S32x8x151936 : Shape := ⟨3, ![32, 8, 151936]⟩
abbrev S256x297 : Shape := ⟨2, ![256, 297]⟩
abbrev S256x128 : Shape := ⟨2, ![256, 128]⟩
abbrev S256x152064 : Shape := ⟨2, ![256, 152064]⟩
abbrev S256x297x512 : Shape := ⟨3, ![256, 297, 512]⟩
abbrev S256 : Shape := ⟨1, ![256]⟩
abbrev S32x8x1 : Shape := ⟨3, ![32, 8, 1]⟩
abbrev S32x8x297 : Shape := ⟨3, ![32, 8, 297]⟩

abbrev nBuf : Space → Nat
  | .hbm => 78
  | .vmem => 9
  | .smem => 0
  | _ => 0

abbrev bufTy : (tb : Table) → Fin (tcTables nBuf tb) → BufTy
  | .hbm, ⟨0, _⟩ => ⟨S256x151936, .f32⟩
  | .hbm, ⟨1, _⟩ => ⟨S256x1, .f32⟩
  | .hbm, ⟨2, _⟩ => ⟨S32x7x151936, .i8⟩
  | .hbm, ⟨3, _⟩ => ⟨S32x7, .f32⟩
  | .hbm, ⟨4, _⟩ => ⟨S32x7, .f32⟩
  | .hbm, ⟨5, _⟩ => ⟨S32x7, .i32⟩
  | .hbm, ⟨6, _⟩ => ⟨S32, .i32⟩
  | .hbm, ⟨7, _⟩ => ⟨S8, .i32⟩
  | .hbm, ⟨8, _⟩ => ⟨S7, .i32⟩
  | .hbm, ⟨9, _⟩ => ⟨S32x1, .i32⟩
  | .hbm, ⟨10, _⟩ => ⟨S1x7, .i32⟩
  | .hbm, ⟨11, _⟩ => ⟨S32x7, .i32⟩
  | .hbm, ⟨12, _⟩ => ⟨S32x7, .i32⟩
  | .hbm, ⟨13, _⟩ => ⟨S32x7, .i1⟩
  | .hbm, ⟨14, _⟩ => ⟨S32x1, .i32⟩
  | .hbm, ⟨15, _⟩ => ⟨S1x8, .i32⟩
  | .hbm, ⟨16, _⟩ => ⟨S32x8, .i32⟩
  | .hbm, ⟨17, _⟩ => ⟨S32x8, .i32⟩
  | .hbm, ⟨18, _⟩ => ⟨S32x8, .i1⟩
  | .hbm, ⟨19, _⟩ => ⟨S_, .f32⟩
  | .hbm, ⟨20, _⟩ => ⟨S_, .f32⟩
  | .hbm, ⟨21, _⟩ => ⟨S32x7, .f32⟩
  | .hbm, ⟨22, _⟩ => ⟨S32x7, .f32⟩
  | .hbm, ⟨23, _⟩ => ⟨S_, .f32⟩
  | .hbm, ⟨24, _⟩ => ⟨S_, .f32⟩
  | .hbm, ⟨25, _⟩ => ⟨S32x8, .f32⟩
  | .hbm, ⟨26, _⟩ => ⟨S_, .i32⟩
  | .hbm, ⟨27, _⟩ => ⟨S_, .f32⟩
  | .hbm, ⟨28, _⟩ => ⟨S32x8, .f32⟩
  | .hbm, ⟨29, _⟩ => ⟨S_, .i32⟩
  | .hbm, ⟨30, _⟩ => ⟨S_, .i32⟩
  | .hbm, ⟨31, _⟩ => ⟨S32x8, .i32⟩
  | .hbm, ⟨32, _⟩ => ⟨S_, .i32⟩
  | .hbm, ⟨33, _⟩ => ⟨S_, .i8⟩
  | .hbm, ⟨34, _⟩ => ⟨S32x8x151936, .i8⟩
  | .hbm, ⟨35, _⟩ => ⟨S256x151936, .i8⟩
  | .hbm, ⟨36, _⟩ => ⟨S256x1, .f32⟩
  | .hbm, ⟨37, _⟩ => ⟨S256x1, .f32⟩
  | .hbm, ⟨38, _⟩ => ⟨S256x1, .i32⟩
  | .hbm, ⟨39, _⟩ => ⟨S256x297, .f32⟩
  | .hbm, ⟨40, _⟩ => ⟨S256x1, .f32⟩
  | .hbm, ⟨41, _⟩ => ⟨S256x1, .f32⟩
  | .hbm, ⟨42, _⟩ => ⟨S32x8, .f32⟩
  | .hbm, ⟨43, _⟩ => ⟨S32x8, .f32⟩
  | .hbm, ⟨44, _⟩ => ⟨S32x7, .f32⟩
  | .hbm, ⟨45, _⟩ => ⟨S32x8, .f32⟩
  | .hbm, ⟨46, _⟩ => ⟨S32x7, .f32⟩
  | .hbm, ⟨47, _⟩ => ⟨S32x7, .f32⟩
  | .hbm, ⟨48, _⟩ => ⟨S32x7, .f32⟩
  | .hbm, ⟨49, _⟩ => ⟨S32x7, .f32⟩
  | .hbm, ⟨50, _⟩ => ⟨S_, .f32⟩
  | .hbm, ⟨51, _⟩ => ⟨S32x7, .f32⟩
  | .hbm, ⟨52, _⟩ => ⟨S32x7, .f32⟩
  | .hbm, ⟨53, _⟩ => ⟨S_, .f32⟩
  | .hbm, ⟨54, _⟩ => ⟨S_, .f32⟩
  | .hbm, ⟨55, _⟩ => ⟨S32x7, .f32⟩
  | .hbm, ⟨56, _⟩ => ⟨S32x7, .f32⟩
  | .hbm, ⟨57, _⟩ => ⟨S32x7, .f32⟩
  | .hbm, ⟨58, _⟩ => ⟨S_, .f32⟩
  | .hbm, ⟨59, _⟩ => ⟨S_, .f32⟩
  | .hbm, ⟨60, _⟩ => ⟨S32x7, .f32⟩
  | .hbm, ⟨61, _⟩ => ⟨S32x7, .f32⟩
  | .hbm, ⟨62, _⟩ => ⟨S32x7, .f32⟩
  | .hbm, ⟨63, _⟩ => ⟨S32x7, .f32⟩
  | .hbm, ⟨64, _⟩ => ⟨S_, .f32⟩
  | .hbm, ⟨65, _⟩ => ⟨S32x7, .f32⟩
  | .hbm, ⟨66, _⟩ => ⟨S32x7, .f32⟩
  | .hbm, ⟨67, _⟩ => ⟨S_, .f32⟩
  | .hbm, ⟨68, _⟩ => ⟨S_, .f32⟩
  | .hbm, ⟨69, _⟩ => ⟨S32x7, .f32⟩
  | .hbm, ⟨70, _⟩ => ⟨S32x7, .f32⟩
  | .hbm, ⟨71, _⟩ => ⟨S32x8x1, .i1⟩
  | .hbm, ⟨72, _⟩ => ⟨S32x8x297, .f32⟩
  | .hbm, ⟨73, _⟩ => ⟨S_, .f32⟩
  | .hbm, ⟨74, _⟩ => ⟨S_, .f32⟩
  | .hbm, ⟨75, _⟩ => ⟨S32x8x297, .i1⟩
  | .hbm, ⟨76, _⟩ => ⟨S32x8x297, .f32⟩
  | .hbm, ⟨77, _⟩ => ⟨S32x8x297, .f32⟩
  | .local _ .vmem, ⟨0, _⟩ => ⟨S256x151936, .f32⟩
  | .local _ .vmem, ⟨1, _⟩ => ⟨S256x1, .f32⟩
  | .local _ .vmem, ⟨2, _⟩ => ⟨S256x151936, .i8⟩
  | .local _ .vmem, ⟨3, _⟩ => ⟨S256x1, .f32⟩
  | .local _ .vmem, ⟨4, _⟩ => ⟨S256x1, .f32⟩
  | .local _ .vmem, ⟨5, _⟩ => ⟨S256x1, .i32⟩
  | .local _ .vmem, ⟨6, _⟩ => ⟨S256x297, .f32⟩
  | .local _ .vmem, ⟨7, _⟩ => ⟨S256x1, .f32⟩
  | .local _ .vmem, ⟨8, _⟩ => ⟨S256x1, .f32⟩
  | _, _ => ⟨S256x151936, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_v12 : Ref sig .tc := ⟨.hbm, 22, rfl⟩
abbrev main_cst_0 : Ref sig .tc := ⟨.hbm, 23, rfl⟩
abbrev main_call1_v0 : Ref sig .tc := ⟨.hbm, 24, rfl⟩
abbrev main_v13 : Ref sig .tc := ⟨.hbm, 25, rfl⟩
abbrev main_c : Ref sig .tc := ⟨.hbm, 26, rfl⟩
abbrev main_call2_v0 : Ref sig .tc := ⟨.hbm, 27, rfl⟩
abbrev main_v14 : Ref sig .tc := ⟨.hbm, 28, rfl⟩
abbrev main_c_1 : Ref sig .tc := ⟨.hbm, 29, rfl⟩
abbrev main_call3_v0 : Ref sig .tc := ⟨.hbm, 30, rfl⟩
abbrev main_v15 : Ref sig .tc := ⟨.hbm, 31, rfl⟩
abbrev main_c_2 : Ref sig .tc := ⟨.hbm, 32, rfl⟩
abbrev main_call4_v0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21_0 : Ref sig .tc := ⟨.hbm, 39, rfl⟩
abbrev main_v21_1 : Ref sig .tc := ⟨.hbm, 40, rfl⟩
abbrev main_v21_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_cst_4 : Ref sig .tc := ⟨.hbm, 53, rfl⟩
abbrev main_call5_v0 : Ref sig .tc := ⟨.hbm, 54, rfl⟩
abbrev main_call5_v1 : Ref sig .tc := ⟨.hbm, 55, rfl⟩
abbrev main_v32 : Ref sig .tc := ⟨.hbm, 56, rfl⟩
abbrev main_v33 : Ref sig .tc := ⟨.hbm, 57, rfl⟩
abbrev main_cst_5 : Ref sig .tc := ⟨.hbm, 58, rfl⟩
abbrev main_call6_v0 : Ref sig .tc := ⟨.hbm, 59, rfl⟩
abbrev main_call6_v1 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_cst_7 : Ref sig .tc := ⟨.hbm, 67, rfl⟩
abbrev main_call7_v0 : Ref sig .tc := ⟨.hbm, 68, rfl⟩
abbrev main_call7_v1 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_8 : Ref sig .tc := ⟨.hbm, 73, rfl⟩
abbrev main_call8_v0 : Ref sig .tc := ⟨.hbm, 74, rfl⟩
abbrev main_call8_v1 : Ref sig .tc := ⟨.hbm, 75, rfl⟩
abbrev main_call8_v2 : Ref sig .tc := ⟨.hbm, 76, rfl⟩
abbrev main_v42 : Ref sig .tc := ⟨.hbm, 77, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S256x151936 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x151936 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x297 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.KBodyBits.lean ====
/-
  The body of the head kernel, as a triple over symbolic staging memrefs: what each buffer holds after one grid
  point, in terms of the named values of the generated skeleton. Three cases: the first point (which also quantises
  the activations and starts the running maximum and sum), a middle point, and the last point (which also
  stores the log-sum-exp).
-/
module

public import proofs.«01_k».proof.Proof.Gen.Kernel.Frame
public import proofs.«01_k».proof.Proof.Gen.Kernel.Skeleton
public import Idealize.ShloMosaic.Lib.Pipeline.TableIdle
public import Idealize.ShloMosaic.Lib.VecWindow
public import Idealize.ShloMosaic.Lib.Pipeline.Value

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The kernel's variants: none. -/
abbrev 𝒱₀ : Variants := Variants.none

/-- The running maximum after a point: the old one `mx` against the point's block of scaled logits. -/
def stepM (i : grid0.Coords) (xc : Vec F S256x2560 .fp8e4m3) (w : Vec F S2048x2560 .fp8e4m3) (rs : Vec F S256x1 .f32)
    (ws : Vec F S1x2048 .f32) (mx : Vec F S256x1 .f32) : Vec F S256x1 .f32 := k0_pay2 (k0_pay13 i xc w rs ws mx)

/-- The running sum after a point: the old one `l` rescaled to the new maximum, and the point's block added. -/
def stepL (i : grid0.Coords) (xc : Vec F S256x2560 .fp8e4m3) (w : Vec F S2048x2560 .fp8e4m3) (rs : Vec F S256x1 .f32)
    (ws : Vec F S1x2048 .f32) (mx l : Vec F S256x1 .f32) : Vec F S256x1 .f32 :=
  k0_pay1 (k0_pay14 i xc w rs ws mx l mx) (k0_pay15 i xc w rs ws mx)

theorem hz2 : (![0, 0] : Fin 2 → Nat) = fun _ => 0 := funext fun a => by fin_cases a <;> rfl

/-- A memref whose elements hold writes `L` over junk, which together spell `X`, is owned at `X`. -/
theorem settle (c : Thread nD τ) {sp : Space} {sh : Shape} {e : EltTy} (m : Memref sig c.2.kind sp sh e) (q : PosShare TreeShare)
    (L : List (View.Piece (Elt F) sh e)) (X : sh.Idx → Elt F e) (h : View.canon L = X) :
    (m.view.loc c ↦[m.view.set]{q} m.view.writes (Elt F) m.view.junk L) ⊢ (owns c m q X : sProp 𝕄) := by
  unfold owns
  iintro H
  iexists _
  isplitr
  · ipureintro
    funext y
    rw [View.read_writes_junk_apply_eq_canon, h]
  iexact H

section
variable (c : Dev nD) (E : Set ℕ) (i : grid0.Coords)
  (M1 : Memref sig .tc .vmem S256x2560 .bf16) (h1 : M1.IsWhole) (M2 : Memref sig .tc .vmem S1x2560 .f32) (h2 : M2.IsWhole)
  (M3 : Memref sig .tc .vmem S256x1 .f32) (h3 : M3.IsWhole) (M4 : Memref sig .tc .vmem S2048x2560 .fp8e4m3) (h4 : M4.IsWhole)
  (M5 : Memref sig .tc .vmem S1x2048 .f32) (h5 : M5.IsWhole) (M6 : Memref sig .tc .vmem S256x2048 .f32) (h6 : M6.IsWhole)
  (M7 : Memref sig .tc .vmem S256x1 .f32) (h7 : M7.IsWhole) (M8 : Memref sig .tc .vmem S256x2560 .fp8e4m3) (h8 : M8.IsWhole)
  (M9 : Memref sig .tc .vmem S256x1 .f32) (h9 : M9.IsWhole) (M10 : Memref sig .tc .vmem S256x2560 .fp8e4m3) (h10 : M10.IsWhole)
  (M11 : Memref sig .tc .vmem S256x1 .f32) (h11 : M11.IsWhole) (M12 : Memref sig .tc .vmem S256x1 .f32) (h12 : M12.IsWhole)
  (M13 : Memref sig .tc .vmem S256x1 .f32) (h13 : M13.IsWhole)

/-- A middle point: the block of scaled logits is stored, the running maximum and sum advance. -/
theorem body_mid (hC1 : ¬ k0_cond1 i = 1#1) (hC2 : ¬ k0_cond2 i = 1#1)
    (x1 : Vec F S256x2560 .bf16) (x2 : Vec F S1x2560 .f32) (x3 : Vec F S256x1 .f32)
    (w : Vec F S2048x2560 .fp8e4m3) (ws : Vec F S1x2048 .f32) (X6 : Vec F S256x2048 .f32) (X7 : Vec F S256x1 .f32)
    (X8 : Vec F S256x2560 .fp8e4m3) (X9 : Vec F S256x1 .f32) (xc : Vec F S256x2560 .fp8e4m3)
    (rs mx l : Vec F S256x1 .f32) (K : PUnit → sProp 𝕄) :
    iprop((owns (c : Thread nD τ) M4 fullShare w ∗ owns (c : Thread nD τ) M5 fullShare ws ∗ owns (c : Thread nD τ) M6 fullShare X6 ∗ owns (c : Thread nD τ) M10 fullShare xc ∗ owns (c : Thread nD τ) M11 fullShare rs ∗ owns (c : Thread nD τ) M12 fullShare mx ∗ owns (c : Thread nD τ) M13 fullShare l)
          ∗ (iprop(owns (c : Thread nD τ) M4 fullShare w ∗ owns (c : Thread nD τ) M5 fullShare ws ∗ owns (c : Thread nD τ) M6 fullShare (k0_pay11 xc w rs ws) ∗ owns (c : Thread nD τ) M10 fullShare xc ∗ owns (c : Thread nD τ) M11 fullShare rs ∗ owns (c : Thread nD τ) M12 fullShare (stepM i xc w rs ws mx) ∗ owns (c : Thread nD τ) M13 fullShare (stepL i xc w rs ws mx l)) -∗ K ⟨⟩))
      ⊢ wp frame (wpE (defs₀ (F := F)) 𝒱₀ c none) E
          (cc0_head i M1 h1 M2 h2 M3 h3 M4 h4 M5 h5 M6 h6 M7 h7 M8 h8 M9 h9 M10 h10 M11 h11 M12 h12 M13 h13) K := by
  rw [owns_eq_rep (c : Thread nD τ) M4 fullShare w, owns_eq_rep (c : Thread nD τ) M5 fullShare ws, owns_eq_rep (c : Thread nD τ) M6 fullShare X6, owns_eq_rep (c : Thread nD τ) M10 fullShare xc, owns_eq_rep (c : Thread nD τ) M11 fullShare rs, owns_eq_rep (c : Thread nD τ) M12 fullShare mx, owns_eq_rep (c : Thread nD τ) M13 fullShare l]
  rw [cc0_head_eq_skeleton]
  unfold cc0_head_skel
  simp only [k0_part2_eq_skeleton, k0_part1_eq_skeleton]
  iintro ⟨⟨H4, H5, H6, H10, H11, H12, H13⟩, Hk⟩
  have r4 : View.readAt (Elt F) M4.view (Rect.unit ![0, 0] S2048x2560.size inb_S2048x2560_S2048x2560_0_0).toLoadRect (M4.view.rep w) = w :=
    View.readAt_rep_full _ _ _
  have r5 : View.readAt (Elt F) M5.view (Rect.unit ![0, 0] S1x2048.size inb_S1x2048_S1x2048_0_0).toLoadRect (M5.view.rep ws) = ws :=
    View.readAt_rep_full _ _ _
  have r10 : View.readAt (Elt F) M10.view (Rect.unit ![0, 0] S256x2560.size inb_S256x2560_S256x2560_0_0).toLoadRect (M10.view.rep xc) = xc :=
    View.readAt_rep_full _ _ _
  have r11 : View.readAt (Elt F) M11.view (Rect.unit ![0, 0] S256x1.size inb_S256x1_S256x1_0_0).toLoadRect (M11.view.rep rs) = rs :=
    View.readAt_rep_full _ _ _
  have r12 : View.readAt (Elt F) M12.view (Rect.unit ![0, 0] S256x1.size inb_S256x1_S256x1_0_0).toLoadRect (M12.view.rep mx) = mx :=
    View.readAt_rep_full _ _ _
  have r13 : View.readAt (Elt F) M13.view (Rect.unit ![0, 0] S256x1.size inb_S256x1_S256x1_0_0).toLoadRect (M13.view.rep l) = l :=
    View.readAt_rep_full _ _ _
  sl_exec!
  sl_step
  iapply Hk
  isplitl [H4]
  · iexact H4
  isplitl [H5]
  · iexact H5
  isplitl [H6]
  · iapply (settle (c : Thread nD τ) M6 fullShare _ _ ?_) $$ H6
    try delta body_mid.sl.H6_1
    try delta body_mid.sl.H12_1
    try delta body_mid.sl.H13_1
    try delta body_mid.sl.r
    try delta body_mid.sl.r_1
    try delta body_mid.sl.r_2
    repeat rw [View.readCov_cons_toLoadRect]
    try rw [r4]
    try rw [r5]
    try rw [r10]
    try rw [r11]
    try rw [r12]
    try rw [r13]
    refine (View.canon_cons_unit_zero (S := S256x2048) hz2 _ _ _).trans ?_
    rfl
  isplitl [H10]
  · iexact H10
  isplitl [H11]
  · iexact H11
  isplitl [H12]
  · iapply (settle (c : Thread nD τ) M12 fullShare _ _ ?_) $$ H12
    try delta body_mid.sl.H6_1
    try delta body_mid.sl.H12_1
    try delta body_mid.sl.H13_1
    try delta body_mid.sl.r
    try delta body_mid.sl.r_1
    try delta body_mid.sl.r_2
    repeat rw [View.readCov_cons_toLoadRect]
    try rw [r4]
    try rw [r5]
    try rw [r10]
    try rw [r11]
    try rw [r12]
    try rw [r13]
    refine (View.canon_cons_unit_zero (S := S256x1) hz2 _ _ _).trans ?_
    rfl
  · iapply (settle (c : Thread nD τ) M13 fullShare _ _ ?_) $$ H13
    try delta body_mid.sl.H6_1
    try delta body_mid.sl.H12_1
    try delta body_mid.sl.H13_1
    try delta body_mid.sl.r
    try delta body_mid.sl.r_1
    try delta body_mid.sl.r_2
    repeat rw [View.readCov_cons_toLoadRect]
    try rw [r4]
    try rw [r5]
    try rw [r10]
    try rw [r11]
    try rw [r12]
    try rw [r13]
    refine (View.canon_cons_unit_zero (S := S256x1) hz2 _ _ _).trans ?_
    rfl

/-- The last point: as a middle point, then the log-sum-exp is stored. -/
theorem body_last (hC1 : ¬ k0_cond1 i = 1#1) (hC2 : k0_cond2 i = 1#1)
    (x1 : Vec F S256x2560 .bf16) (x2 : Vec F S1x2560 .f32) (x3 : Vec F S256x1 .f32)
    (w : Vec F S2048x2560 .fp8e4m3) (ws : Vec F S1x2048 .f32) (X6 : Vec F S256x2048 .f32) (X7 : Vec F S256x1 .f32)
    (X8 : Vec F S256x2560 .fp8e4m3) (X9 : Vec F S256x1 .f32) (xc : Vec F S256x2560 .fp8e4m3)
    (rs mx l : Vec F S256x1 .f32) (K : PUnit → sProp 𝕄) :
    iprop((owns (c : Thread nD τ) M4 fullShare w ∗ owns (c : Thread nD τ) M5 fullShare ws ∗ owns (c : Thread nD τ) M6 fullShare X6 ∗ owns (c : Thread nD τ) M7 fullShare X7 ∗ owns (c : Thread nD τ) M10 fullShare xc ∗ owns (c : Thread nD τ) M11 fullShare rs ∗ owns (c : Thread nD τ) M12 fullShare mx ∗ owns (c : Thread nD τ) M13 fullShare l)
          ∗ (iprop(owns (c : Thread nD τ) M4 fullShare w ∗ owns (c : Thread nD τ) M5 fullShare ws ∗ owns (c : Thread nD τ) M6 fullShare (k0_pay11 xc w rs ws) ∗ owns (c : Thread nD τ) M7 fullShare (k0_pay3 (stepM i xc w rs ws mx) (stepL i xc w rs ws mx l)) ∗ owns (c : Thread nD τ) M10 fullShare xc ∗ owns (c : Thread nD τ) M11 fullShare rs ∗ owns (c : Thread nD τ) M12 fullShare (stepM i xc w rs ws mx) ∗ owns (c : Thread nD τ) M13 fullShare (stepL i xc w rs ws mx l)) -∗ K ⟨⟩))
      ⊢ wp frame (wpE (defs₀ (F := F)) 𝒱₀ c none) E
          (cc0_head i M1 h1 M2 h2 M3 h3 M4 h4 M5 h5 M6 h6 M7 h7 M8 h8 M9 h9 M10 h10 M11 h11 M12 h12 M13 h13) K := by
  rw [owns_eq_rep (c : Thread nD τ) M4 fullShare w, owns_eq_rep (c : Thread nD τ) M5 fullShare ws, owns_eq_rep (c : Thread nD τ) M6 fullShare X6, owns_eq_rep (c : Thread nD τ) M7 fullShare X7, owns_eq_rep (c : Thread nD τ) M10 fullShare xc, owns_eq_rep (c : Thread nD τ) M11 fullShare rs, owns_eq_rep (c : Thread nD τ) M12 fullShare mx, owns_eq_rep (c : Thread nD τ) M13 fullShare l]
  rw [cc0_head_eq_skeleton]
  unfold cc0_head_skel
  simp only [k0_part2_eq_skeleton, k0_part1_eq_skeleton]
  iintro ⟨⟨H4, H5, H6, H7, H10, H11, H12, H13⟩, Hk⟩
  have r4 : View.readAt (Elt F) M4.view (Rect.unit ![0, 0] S2048x2560.size inb_S2048x2560_S2048x2560_0_0).toLoadRect (M4.view.rep w) = w :=
    View.readAt_rep_full _ _ _
  have r5 : View.readAt (Elt F) M5.view (Rect.unit ![0, 0] S1x2048.size inb_S1x2048_S1x2048_0_0).toLoadRect (M5.view.rep ws) = ws :=
    View.readAt_rep_full _ _ _
  have r10 : View.readAt (Elt F) M10.view (Rect.unit ![0, 0] S256x2560.size inb_S256x2560_S256x2560_0_0).toLoadRect (M10.view.rep xc) = xc :=
    View.readAt_rep_full _ _ _
  have r11 : View.readAt (Elt F) M11.view (Rect.unit ![0, 0] S256x1.size inb_S256x1_S256x1_0_0).toLoadRect (M11.view.rep rs) = rs :=
    View.readAt_rep_full _ _ _
  have r12 : View.readAt (Elt F) M12.view (Rect.unit ![0, 0] S256x1.size inb_S256x1_S256x1_0_0).toLoadRect (M12.view.rep mx) = mx :=
    View.readAt_rep_full _ _ _
  have r13 : View.readAt (Elt F) M13.view (Rect.unit ![0, 0] S256x1.size inb_S256x1_S256x1_0_0).toLoadRect (M13.view.rep l) = l :=
    View.readAt_rep_full _ _ _
  sl_exec!
  sl_step
  iapply Hk
  isplitl [H4]
  · iexact H4
  isplitl [H5]
  · iexact H5
  isplitl [H6]
  · iapply (settle (c : Thread nD τ) M6 fullShare _ _ ?_) $$ H6
    try delta body_last.sl.H6_1
    try delta body_last.sl.H12_1
    try delta body_last.sl.H13_1
    try delta body_last.sl.H7_1
    try delta body_last.sl.v47
    try delta body_last.sl.v48
    try delta body_last.sl.H12_1
    try delta body_last.sl.H13_1
    try delta body_last.sl.r
    try delta body_last.sl.r_1
    try delta body_last.sl.r_2
    repeat rw [View.readCov_cons_toLoadRect]
    try rw [r4]
    try rw [r5]
    try rw [r10]
    try rw [r11]
    try rw [r12]
    try rw [r13]
    refine (View.canon_cons_unit_zero (S := S256x2048) hz2 _ _ _).trans ?_
    rfl
  isplitl [H7]
  · iapply (settle (c : Thread nD τ) M7 fullShare _ _ ?_) $$ H7
    try delta body_last.sl.H6_1
    try delta body_last.sl.H12_1
    try delta body_last.sl.H13_1
    try delta body_last.sl.H7_1
    try delta body_last.sl.v47
    try delta body_last.sl.v48
    try delta body_last.sl.H12_1
    try delta body_last.sl.H13_1
    try delta body_last.sl.r
    try delta body_last.sl.r_1
    try delta body_last.sl.r_2
    repeat rw [View.readCov_cons_toLoadRect]
    try rw [r4]
    try rw [r5]
    try rw [r10]
    try rw [r11]
    try rw [r12]
    try rw [r13]
    refine (View.canon_cons_unit_zero (S := S256x1) hz2 _ _ _).trans ?_
    rfl
  isplitl [H10]
  · iexact H10
  isplitl [H11]
  · iexact H11
  isplitl [H12]
  · iapply (settle (c : Thread nD τ) M12 fullShare _ _ ?_) $$ H12
    try delta body_last.sl.H6_1
    try delta body_last.sl.H12_1
    try delta body_last.sl.H13_1
    try delta body_last.sl.H7_1
    try delta body_last.sl.v47
    try delta body_last.sl.v48
    try delta body_last.sl.H12_1
    try delta body_last.sl.H13_1
    try delta body_last.sl.r
    try delta body_last.sl.r_1
    try delta body_last.sl.r_2
    repeat rw [View.readCov_cons_toLoadRect]
    try rw [r4]
    try rw [r5]
    try rw [r10]
    try rw [r11]
    try rw [r12]
    try rw [r13]
    refine (View.canon_cons_unit_zero (S := S256x1) hz2 _ _ _).trans ?_
    rfl
  · iapply (settle (c : Thread nD τ) M13 fullShare _ _ ?_) $$ H13
    try delta body_last.sl.H6_1
    try delta body_last.sl.H12_1
    try delta body_last.sl.H13_1
    try delta body_last.sl.H7_1
    try delta body_last.sl.v47
    try delta body_last.sl.v48
    try delta body_last.sl.H12_1
    try delta body_last.sl.H13_1
    try delta body_last.sl.r
    try delta body_last.sl.r_1
    try delta body_last.sl.r_2
    repeat rw [View.readCov_cons_toLoadRect]
    try rw [r4]
    try rw [r5]
    try rw [r10]
    try rw [r11]
    try rw [r12]
    try rw [r13]
    refine (View.canon_cons_unit_zero (S := S256x1) hz2 _ _ _).trans ?_
    rfl

set_option maxHeartbeats 800000 in
/-- The first point: the activations are quantised, the running maximum and sum started, then as a middle point. -/
theorem body_first (hC1 : k0_cond1 i = 1#1) (hC2 : ¬ k0_cond2 i = 1#1)
    (x1 : Vec F S256x2560 .bf16) (x2 : Vec F S1x2560 .f32) (x3 : Vec F S256x1 .f32)
    (w : Vec F S2048x2560 .fp8e4m3) (ws : Vec F S1x2048 .f32) (X6 : Vec F S256x2048 .f32) (X7 : Vec F S256x1 .f32)
    (X8 : Vec F S256x2560 .fp8e4m3) (X9 : Vec F S256x1 .f32) (xc : Vec F S256x2560 .fp8e4m3)
    (rs mx l : Vec F S256x1 .f32) (K : PUnit → sProp 𝕄) :
    iprop((owns (c : Thread nD τ) M1 fullShare x1 ∗ owns (c : Thread nD τ) M2 fullShare x2 ∗ owns (c : Thread nD τ) M3 fullShare x3 ∗ owns (c : Thread nD τ) M4 fullShare w ∗ owns (c : Thread nD τ) M5 fullShare ws ∗ owns (c : Thread nD τ) M6 fullShare X6 ∗ owns (c : Thread nD τ) M8 fullShare X8 ∗ owns (c : Thread nD τ) M9 fullShare X9 ∗ owns (c : Thread nD τ) M10 fullShare xc ∗ owns (c : Thread nD τ) M11 fullShare rs ∗ owns (c : Thread nD τ) M12 fullShare mx ∗ owns (c : Thread nD τ) M13 fullShare l)
          ∗ (iprop(owns (c : Thread nD τ) M1 fullShare x1 ∗ owns (c : Thread nD τ) M2 fullShare x2 ∗ owns (c : Thread nD τ) M3 fullShare x3 ∗ owns (c : Thread nD τ) M4 fullShare w ∗ owns (c : Thread nD τ) M5 fullShare ws ∗ owns (c : Thread nD τ) M6 fullShare (k0_pay11 (k0_pay7 x1 x2) w (k0_pay8 (k0_pay5 x1 x2) x3) ws) ∗ owns (c : Thread nD τ) M8 fullShare (k0_pay6 x1 x2) ∗ owns (c : Thread nD τ) M9 fullShare (k0_pay5 x1 x2) ∗ owns (c : Thread nD τ) M10 fullShare (k0_pay7 x1 x2) ∗ owns (c : Thread nD τ) M11 fullShare (k0_pay8 (k0_pay5 x1 x2) x3) ∗ owns (c : Thread nD τ) M12 fullShare (stepM i (k0_pay7 x1 x2) w (k0_pay8 (k0_pay5 x1 x2) x3) ws k0_pay9) ∗ owns (c : Thread nD τ) M13 fullShare (stepL i (k0_pay7 x1 x2) w (k0_pay8 (k0_pay5 x1 x2) x3) ws k0_pay9 k0_pay10)) -∗ K ⟨⟩))
      ⊢ wp frame (wpE (defs₀ (F := F)) 𝒱₀ c none) E
          (cc0_head i M1 h1 M2 h2 M3 h3 M4 h4 M5 h5 M6 h6 M7 h7 M8 h8 M9 h9 M10 h10 M11 h11 M12 h12 M13 h13) K := by
  rw [owns_eq_rep (c : Thread nD τ) M1 fullShare x1, owns_eq_rep (c : Thread nD τ) M2 fullShare x2, owns_eq_rep (c : Thread nD τ) M3 fullShare x3, owns_eq_rep (c : Thread nD τ) M4 fullShare w, owns_eq_rep (c : Thread nD τ) M5 fullShare ws, owns_eq_rep (c : Thread nD τ) M6 fullShare X6, owns_eq_rep (c : Thread nD τ) M8 fullShare X8, owns_eq_rep (c : Thread nD τ) M9 fullShare X9, owns_eq_rep (c : Thread nD τ) M10 fullShare xc, owns_eq_rep (c : Thread nD τ) M11 fullShare rs, owns_eq_rep (c : Thread nD τ) M12 fullShare mx, owns_eq_rep (c : Thread nD τ) M13 fullShare l]
  rw [cc0_head_eq_skeleton]
  unfold cc0_head_skel
  simp only [k0_part2_eq_skeleton]
  unfold k0_part2_skel
  simp only [k0_part1_eq_skeleton]
  unfold k0_part1_skel
  iintro ⟨⟨H1, H2, H3, H4, H5, H6, H8, H9, H10, H11, H12, H13⟩, Hk⟩
  have r1 : View.readAt (Elt F) M1.view (Rect.unit ![0, 0] S256x2560.size inb_S256x2560_S256x2560_0_0).toLoadRect (M1.view.rep x1) = x1 :=
    View.readAt_rep_full _ _ _
  have r2 : View.readAt (Elt F) M2.view (Rect.unit ![0, 0] S1x2560.size inb_S1x2560_S1x2560_0_0).toLoadRect (M2.view.rep x2) = x2 :=
    View.readAt_rep_full _ _ _
  have r3 : View.readAt (Elt F) M3.view (Rect.unit ![0, 0] S256x1.size inb_S256x1_S256x1_0_0).toLoadRect (M3.view.rep x3) = x3 :=
    View.readAt_rep_full _ _ _
  have r4 : View.readAt (Elt F) M4.view (Rect.unit ![0, 0] S2048x2560.size inb_S2048x2560_S2048x2560_0_0).toLoadRect (M4.view.rep w) = w :=
    View.readAt_rep_full _ _ _
  have r5 : View.readAt (Elt F) M5.view (Rect.unit ![0, 0] S1x2048.size inb_S1x2048_S1x2048_0_0).toLoadRect (M5.view.rep ws) = ws :=
    View.readAt_rep_full _ _ _
  sl_exec!
  sl_step
  iapply Hk
  isplitl [H1]
  · iexact H1
  isplitl [H2]
  · iexact H2
  isplitl [H3]
  · iexact H3
  isplitl [H4]
  · iexact H4
  isplitl [H5]
  · iexact H5
  isplitl [H6]
  · iapply (settle (c : Thread nD τ) M6 fullShare _ _ ?_) $$ H6
    try delta body_first.sl.H6_1
    try delta body_first.sl.H12_1
    try delta body_first.sl.H13_1
    try delta body_first.sl.H8_1
    try delta body_first.sl.H9_1
    try delta body_first.sl.H10_1
    try delta body_first.sl.H11_1
    try delta body_first.sl.H12_2
    try delta body_first.sl.H13_2
    try delta body_first.sl.v3
    try delta body_first.sl.v6
    try delta body_first.sl.v22
    try delta body_first.sl.v27
    try delta body_first.sl.H10_1
    try delta body_first.sl.H11_1
    try delta body_first.sl.H12_1
    try delta body_first.sl.H13_1
    repeat rw [View.readCov_cons_toLoadRect]
    try rw [r1]
    try rw [r2]
    try rw [r3]
    try rw [r4]
    try rw [r5]
    refine (View.canon_cons_unit_zero (S := S256x2048) hz2 _ _ _).trans ?_
    rfl
  isplitl [H8]
  · iapply (settle (c : Thread nD τ) M8 fullShare _ _ ?_) $$ H8
    try delta body_first.sl.H6_1
    try delta body_first.sl.H12_1
    try delta body_first.sl.H13_1
    try delta body_first.sl.H8_1
    try delta body_first.sl.H9_1
    try delta body_first.sl.H10_1
    try delta body_first.sl.H11_1
    try delta body_first.sl.H12_2
    try delta body_first.sl.H13_2
    try delta body_first.sl.v3
    try delta body_first.sl.v6
    try delta body_first.sl.v22
    try delta body_first.sl.v27
    try delta body_first.sl.H10_1
    try delta body_first.sl.H11_1
    try delta body_first.sl.H12_1
    try delta body_first.sl.H13_1
    repeat rw [View.readCov_cons_toLoadRect]
    try rw [r1]
    try rw [r2]
    try rw [r3]
    try rw [r4]
    try rw [r5]
    refine (View.canon_cons_unit_zero (S := S256x2560) hz2 _ _ _).trans ?_
    rfl
  isplitl [H9]
  · iapply (settle (c : Thread nD τ) M9 fullShare _ _ ?_) $$ H9
    try delta body_first.sl.H6_1
    try delta body_first.sl.H12_1
    try delta body_first.sl.H13_1
    try delta body_first.sl.H8_1
    try delta body_first.sl.H9_1
    try delta body_first.sl.H10_1
    try delta body_first.sl.H11_1
    try delta body_first.sl.H12_2
    try delta body_first.sl.H13_2
    try delta body_first.sl.v3
    try delta body_first.sl.v6
    try delta body_first.sl.v22
    try delta body_first.sl.v27
    try delta body_first.sl.H10_1
    try delta body_first.sl.H11_1
    try delta body_first.sl.H12_1
    try delta body_first.sl.H13_1
    repeat rw [View.readCov_cons_toLoadRect]
    try rw [r1]
    try rw [r2]
    try rw [r3]
    try rw [r4]
    try rw [r5]
    refine (View.canon_cons_unit_zero (S := S256x1) hz2 _ _ _).trans ?_
    rfl
  isplitl [H10]
  · iapply (settle (c : Thread nD τ) M10 fullShare _ _ ?_) $$ H10
    try delta body_first.sl.H6_1
    try delta body_first.sl.H12_1
    try delta body_first.sl.H13_1
    try delta body_first.sl.H8_1
    try delta body_first.sl.H9_1
    try delta body_first.sl.H10_1
    try delta body_first.sl.H11_1
    try delta body_first.sl.H12_2
    try delta body_first.sl.H13_2
    try delta body_first.sl.v3
    try delta body_first.sl.v6
    try delta body_first.sl.v22
    try delta body_first.sl.v27
    try delta body_first.sl.H10_1
    try delta body_first.sl.H11_1
    try delta body_first.sl.H12_1
    try delta body_first.sl.H13_1
    repeat rw [View.readCov_cons_toLoadRect]
    try rw [r1]
    try rw [r2]
    try rw [r3]
    try rw [r4]
    try rw [r5]
    refine (View.canon_cons_unit_zero (S := S256x2560) hz2 _ _ _).trans ?_
    rfl
  isplitl [H11]
  · iapply (settle (c : Thread nD τ) M11 fullShare _ _ ?_) $$ H11
    try delta body_first.sl.H6_1
    try delta body_first.sl.H12_1
    try delta body_first.sl.H13_1
    try delta body_first.sl.H8_1
    try delta body_first.sl.H9_1
    try delta body_first.sl.H10_1
    try delta body_first.sl.H11_1
    try delta body_first.sl.H12_2
    try delta body_first.sl.H13_2
    try delta body_first.sl.v3
    try delta body_first.sl.v6
    try delta body_first.sl.v22
    try delta body_first.sl.v27
    try delta body_first.sl.H10_1
    try delta body_first.sl.H11_1
    try delta body_first.sl.H12_1
    try delta body_first.sl.H13_1
    repeat rw [View.readCov_cons_toLoadRect]
    try rw [r1]
    try rw [r2]
    try rw [r3]
    try rw [r4]
    try rw [r5]
    refine (View.canon_cons_unit_zero (S := S256x1) hz2 _ _ _).trans ?_
    rfl
  isplitl [H12]
  · iapply (settle (c : Thread nD τ) M12 fullShare _ _ ?_) $$ H12
    try delta body_first.sl.H6_1
    try delta body_first.sl.H12_1
    try delta body_first.sl.H13_1
    try delta body_first.sl.H8_1
    try delta body_first.sl.H9_1
    try delta body_first.sl.H10_1
    try delta body_first.sl.H11_1
    try delta body_first.sl.H12_2
    try delta body_first.sl.H13_2
    try delta body_first.sl.v3
    try delta body_first.sl.v6
    try delta body_first.sl.v22
    try delta body_first.sl.v27
    try delta body_first.sl.H10_1
    try delta body_first.sl.H11_1
    try delta body_first.sl.H12_1
    try delta body_first.sl.H13_1
    repeat rw [View.readCov_cons_toLoadRect]
    try rw [r1]
    try rw [r2]
    try rw [r3]
    try rw [r4]
    try rw [r5]
    refine (View.canon_cons_unit_zero (S := S256x1) hz2 _ _ _).trans ?_
    rfl
  · iapply (settle (c : Thread nD τ) M13 fullShare _ _ ?_) $$ H13
    try delta body_first.sl.H6_1
    try delta body_first.sl.H12_1
    try delta body_first.sl.H13_1
    try delta body_first.sl.H8_1
    try delta body_first.sl.H9_1
    try delta body_first.sl.H10_1
    try delta body_first.sl.H11_1
    try delta body_first.sl.H12_2
    try delta body_first.sl.H13_2
    try delta body_first.sl.v3
    try delta body_first.sl.v6
    try delta body_first.sl.v22
    try delta body_first.sl.v27
    try delta body_first.sl.H10_1
    try delta body_first.sl.H11_1
    try delta body_first.sl.H12_1
    try delta body_first.sl.H13_1
    repeat rw [View.readCov_cons_toLoadRect]
    try rw [r1]
    try rw [r2]
    try rw [r3]
    try rw [r4]
    try rw [r5]
    refine (View.canon_cons_unit_zero (S := S256x1) hz2 _ _ _).trans ?_
    rfl
end

end Cert.Kernel.Hand

end
-- ==== Proof.FrameBits.lean ====
/-
  The frame of the head kernel at its printed float values: every run of @main ends, its arguments as they were and every
  counter at zero. The body's triple is forgotten down to "the inputs' buffers are left as found"; what the kernel
  writes into the outputs' buffers and into its scratch is not named here.
-/
module

public import proofs.«01_k».proof.Proof.KBodyBits

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf kernel pipe ΦA)

variable {F : FTy → Type} [FloatOps F]

local notation "𝕄" => MT nD τ sig Unit (Elt F) ℕ (UR sig nD τ) ℕ

/-- The first condition of the body holds at the first point only, the second at the last only. -/
theorem hcond1 : ∀ t : Fin cfg0.N, k0_cond1 (grid0.coords t) = 1#1 ↔ t.val = 0 :=
  (by decide +kernel : ∀ t : Fin grid0.N, k0_cond1 (grid0.coords t) = 1#1 ↔ t.val = 0)
theorem hcond2 : ∀ t : Fin cfg0.N, k0_cond2 (grid0.coords t) = 1#1 ↔ t.val = 74 :=
  (by decide +kernel : ∀ t : Fin grid0.N, k0_cond2 (grid0.coords t) = 1#1 ↔ t.val = 74)

section
variable (c : Dev nD) (E : Set ℕ) (i : grid0.Coords)
  (M1 : Memref sig .tc .vmem S256x2560 .bf16) (h1 : M1.IsWhole) (M2 : Memref sig .tc .vmem S1x2560 .f32) (h2 : M2.IsWhole)
  (M3 : Memref sig .tc .vmem S256x1 .f32) (h3 : M3.IsWhole) (M4 : Memref sig .tc .vmem S2048x2560 .fp8e4m3) (h4 : M4.IsWhole)
  (M5 : Memref sig .tc .vmem S1x2048 .f32) (h5 : M5.IsWhole) (M6 : Memref sig .tc .vmem S256x2048 .f32) (h6 : M6.IsWhole)
  (M7 : Memref sig .tc .vmem S256x1 .f32) (h7 : M7.IsWhole) (M8 : Memref sig .tc .vmem S256x2560 .fp8e4m3) (h8 : M8.IsWhole)
  (M9 : Memref sig .tc .vmem S256x1 .f32) (h9 : M9.IsWhole) (M10 : Memref sig .tc .vmem S256x2560 .fp8e4m3) (h10 : M10.IsWhole)
  (M11 : Memref sig .tc .vmem S256x1 .f32) (h11 : M11.IsWhole) (M12 : Memref sig .tc .vmem S256x1 .f32) (h12 : M12.IsWhole)
  (M13 : Memref sig .tc .vmem S256x1 .f32) (h13 : M13.IsWhole)

/-- One point on buffers holding anything: the inputs' buffers are left as found. -/
theorem body_any (hC : ¬ (k0_cond1 i = 1#1 ∧ k0_cond2 i = 1#1))
    (x1 : Vec F S256x2560 .bf16) (x2 : Vec F S1x2560 .f32) (x3 : Vec F S256x1 .f32)
    (w : Vec F S2048x2560 .fp8e4m3) (ws : Vec F S1x2048 .f32) (X6 : Vec F S256x2048 .f32) (X7 : Vec F S256x1 .f32)
    (X8 : Vec F S256x2560 .fp8e4m3) (X9 : Vec F S256x1 .f32) (xc : Vec F S256x2560 .fp8e4m3)
    (rs mx l : Vec F S256x1 .f32) (K : PUnit → sProp 𝕄) :
    iprop((owns (c : Thread nD τ) M1 fullShare x1 ∗ owns (c : Thread nD τ) M2 fullShare x2 ∗ owns (c : Thread nD τ) M3 fullShare x3 ∗ owns (c : Thread nD τ) M4 fullShare w ∗ owns (c : Thread nD τ) M5 fullShare ws ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare xc ∗ owns (c : Thread nD τ) M11 fullShare rs ∗ owns (c : Thread nD τ) M12 fullShare mx ∗ owns (c : Thread nD τ) M13 fullShare l)
          ∗ (iprop(owns (c : Thread nD τ) M1 fullShare x1 ∗ owns (c : Thread nD τ) M2 fullShare x2 ∗ owns (c : Thread nD τ) M3 fullShare x3 ∗ owns (c : Thread nD τ) M4 fullShare w ∗ owns (c : Thread nD τ) M5 fullShare ws ∗ (∃ X, owns (c : Thread nD τ) M6 fullShare X) ∗ (∃ X, owns (c : Thread nD τ) M7 fullShare X) ∗ (∃ X, owns (c : Thread nD τ) M8 fullShare X) ∗ (∃ X, owns (c : Thread nD τ) M9 fullShare X) ∗ (∃ X, owns (c : Thread nD τ) M10 fullShare X) ∗ (∃ X, owns (c : Thread nD τ) M11 fullShare X) ∗ (∃ X, owns (c : Thread nD τ) M12 fullShare X) ∗ (∃ X, owns (c : Thread nD τ) M13 fullShare X)) -∗ K ⟨⟩))
      ⊢ wp frame (wpE (defs₀ (F := F)) 𝒱₀ c none) E
          (cc0_head i M1 h1 M2 h2 M3 h3 M4 h4 M5 h5 M6 h6 M7 h7 M8 h8 M9 h9 M10 h10 M11 h11 M12 h12 M13 h13) K := by
  by_cases hC1 : k0_cond1 i = 1#1
  · have hC2 : ¬ k0_cond2 i = 1#1 := fun h => hC ⟨hC1, h⟩
    iintro ⟨⟨H1, H2, H3, H4, H5, H6, H7, H8, H9, H10, H11, H12, H13⟩, Hk⟩
    iapply (body_first c E i M1 h1 M2 h2 M3 h3 M4 h4 M5 h5 M6 h6 M7 h7 M8 h8 M9 h9 M10 h10 M11 h11 M12 h12 M13 h13 hC1 hC2 x1 x2 x3 w ws X6 X7 X8 X9 xc rs mx l _)
    isplitl [H1 H2 H3 H4 H5 H6 H8 H9 H10 H11 H12 H13]
    · isplitl [H1]
      · iexact H1
      isplitl [H2]
      · iexact H2
      isplitl [H3]
      · iexact H3
      isplitl [H4]
      · iexact H4
      isplitl [H5]
      · iexact H5
      isplitl [H6]
      · iexact H6
      isplitl [H8]
      · iexact H8
      isplitl [H9]
      · iexact H9
      isplitl [H10]
      · iexact H10
      isplitl [H11]
      · iexact H11
      isplitl [H12]
      · iexact H12
      iexact H13
    iintro ⟨H1, H2, H3, H4, H5, H6, H8, H9, H10, H11, H12, H13⟩
    iapply Hk
    isplitl [H1]
    · iexact H1
    isplitl [H2]
    · iexact H2
    isplitl [H3]
    · iexact H3
    isplitl [H4]
    · iexact H4
    isplitl [H5]
    · iexact H5
    isplitl [H6]
    · iexists _; iexact H6
    isplitl [H7]
    · iexists _; iexact H7
    isplitl [H8]
    · iexists _; iexact H8
    isplitl [H9]
    · iexists _; iexact H9
    isplitl [H10]
    · iexists _; iexact H10
    isplitl [H11]
    · iexists _; iexact H11
    isplitl [H12]
    · iexists _; iexact H12
    iexists _; iexact H13
  · by_cases hC2 : k0_cond2 i = 1#1
    · iintro ⟨⟨H1, H2, H3, H4, H5, H6, H7, H8, H9, H10, H11, H12, H13⟩, Hk⟩
      iapply (body_last c E i M1 h1 M2 h2 M3 h3 M4 h4 M5 h5 M6 h6 M7 h7 M8 h8 M9 h9 M10 h10 M11 h11 M12 h12 M13 h13 hC1 hC2 x1 x2 x3 w ws X6 X7 X8 X9 xc rs mx l _)
      isplitl [H4 H5 H6 H7 H10 H11 H12 H13]
      · isplitl [H4]
        · iexact H4
        isplitl [H5]
        · iexact H5
        isplitl [H6]
        · iexact H6
        isplitl [H7]
        · iexact H7
        isplitl [H10]
        · iexact H10
        isplitl [H11]
        · iexact H11
        isplitl [H12]
        · iexact H12
        iexact H13
      iintro ⟨H4, H5, H6, H7, H10, H11, H12, H13⟩
      iapply Hk
      isplitl [H1]
      · iexact H1
      isplitl [H2]
      · iexact H2
      isplitl [H3]
      · iexact H3
      isplitl [H4]
      · iexact H4
      isplitl [H5]
      · iexact H5
      isplitl [H6]
      · iexists _; iexact H6
      isplitl [H7]
      · iexists _; iexact H7
      isplitl [H8]
      · iexists _; iexact H8
      isplitl [H9]
      · iexists _; iexact H9
      isplitl [H10]
      · iexists _; iexact H10
      isplitl [H11]
      · iexists _; iexact H11
      isplitl [H12]
      · iexists _; iexact H12
      iexists _; iexact H13
    · iintro ⟨⟨H1, H2, H3, H4, H5, H6, H7, H8, H9, H10, H11, H12, H13⟩, Hk⟩
      iapply (body_mid c E i M1 h1 M2 h2 M3 h3 M4 h4 M5 h5 M6 h6 M7 h7 M8 h8 M9 h9 M10 h10 M11 h11 M12 h12 M13 h13 hC1 hC2 x1 x2 x3 w ws X6 X7 X8 X9 xc rs mx l _)
      isplitl [H4 H5 H6 H10 H11 H12 H13]
      · isplitl [H4]
        · iexact H4
        isplitl [H5]
        · iexact H5
        isplitl [H6]
        · iexact H6
        isplitl [H10]
        · iexact H10
        isplitl [H11]
        · iexact H11
        isplitl [H12]
        · iexact H12
        iexact H13
      iintro ⟨H4, H5, H6, H10, H11, H12, H13⟩
      iapply Hk
      isplitl [H1]
      · iexact H1
      isplitl [H2]
      · iexact H2
      isplitl [H3]
      · iexact H3
      isplitl [H4]
      · iexact H4
      isplitl [H5]
      · iexact H5
      isplitl [H6]
      · iexists _; iexact H6
      isplitl [H7]
      · iexists _; iexact H7
      isplitl [H8]
      · iexists _; iexact H8
      isplitl [H9]
      · iexists _; iexact H9
      isplitl [H10]
      · iexists _; iexact H10
      isplitl [H11]
      · iexists _; iexact H11
      isplitl [H12]
      · iexists _; iexact H12
      iexists _; iexact H13
end

variable (m : (ℓ : Loc nD τ sig) → Buf (Elt F) ℓ) (ρ : Dev nD → PrngReg)

/-- The data of the run: the arrays as the region finds them, the inputs' buffers at their blocks (filled out past the array's
    end with contents nothing reads), the outputs not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => win0_3.fill (grid0.coords t) (fun _ => Classical.arbitrary _) (iblk m c 3 t)
    | ⟨4, _⟩ => win0_4.fill (grid0.coords t) (fun _ => Classical.arbitrary _) (iblk m c 4 t)
    | ⟨5, _⟩ => fun _ => Classical.arbitrary _
    | ⟨6, _⟩ => fun _ => Classical.arbitrary _
    | ⟨7, _⟩ => fun _ => Classical.arbitrary _
    | ⟨8, _⟩ => fun _ => Classical.arbitrary _
  Φ _ := ΦA spec0 c
  q _ := fullShare
  owed _ := 0

/-- The outputs' windows, which the run does not name. -/
abbrev fgt : Fin cfg0.W → Bool := fun | 0 => false | 1 => false | 2 => false | 3 => false | 4 => false | 5 => true | 6 => true | 7 => true | 8 => true | ⟨_ + 9, h⟩ => absurd h (Nat.not_lt.2 (Nat.le_add_left _ _))

theorem before_3 (c : Dev nD) (t : Fin cfg0.N) (d) :
    (dats m 0 c).before (3 : Fin 9) t d = win0_3.fill (grid0.coords t) d (iblk m c 3 t) := by
  unfold Dat.before; rw [if_pos (fetch0_3 t)]; rfl
theorem before_4 (c : Dev nD) (t : Fin cfg0.N) (d) :
    (dats m 0 c).before (4 : Fin 9) t d = win0_4.fill (grid0.coords t) d (iblk m c 4 t) := by
  unfold Dat.before; rw [if_pos (fetch0_4 t)]; rfl

/-- The class invariant with the four scratch buffers as whole memrefs. -/
theorem phiA_eq (c : Dev nD) : (ΦA spec0 c : sProp 𝕄) = iprop(((∃ f, owns (c : Thread nD τ) (Memref.whole cc0_scratch0) fullShare f)
    ∗ (∃ f, owns (c : Thread nD τ) (Memref.whole cc0_scratch1) fullShare f) ∗ (∃ f, owns (c : Thread nD τ) (Memref.whole cc0_scratch2) fullShare f)
    ∗ (∃ f, owns (c : Thread nD τ) (Memref.whole cc0_scratch3) fullShare f)) ∗ ∃ r, prngReg c r) := by
  unfold Pipeline.ΦA
  rw [scopedRest0_eq]
  simp only [owns_whole]

/-- The body's obligation at every point, the outputs' windows forgotten. -/
theorem body_obligation (c : Dev nD) : BodyObligationLoose (dats m 0 c) (defs₀ (F := F)) 𝒱₀ () Set.univ fgt := fun t => by
  rw [bigSep_W0, bigSep_W0]
  simp only
  rw [show (dats m 0 c).owesAt () t.succ = (dats m 0 c).owesAt () t.castSucc from rfl,
    show (dats m 0 c).Φ t.succ = ΦA spec0 c from rfl, show (dats m 0 c).Φ t.castSucc = ΦA spec0 c from rfl]
  rw [phiA_eq]
  iintro ⟨⟨⟨⟨%s0, S0⟩, ⟨%s1, S1⟩, ⟨%s2, S2⟩, ⟨%s3, S3⟩⟩, Hr⟩, Ho, ⟨%d0, H0⟩, ⟨%d1, H1⟩, ⟨%d2, H2⟩, ⟨%d3, H3⟩, ⟨%d4, H4⟩, ⟨%X5, H5⟩, ⟨%X6, H6⟩, ⟨%X7, H7⟩, ⟨%X8, H8⟩⟩
  rw [before0_0_of m (dats m 0 c) rfl (fun _ => rfl) t d0, before0_1_of m (dats m 0 c) rfl (fun _ => rfl) t d1,
    before0_2_of m (dats m 0 c) rfl (fun _ => rfl) t d2, before_3 m c t d3, before_4 m c t d4]
  have hC : ¬ (k0_cond1 (grid0.coords t) = 1#1 ∧ k0_cond2 (grid0.coords t) = 1#1) := by
    rw [hcond1, hcond2]; omega
  iapply (body_any (F := F) c Set.univ (grid0.coords t) (st0_0 t) (hstage0_0 ((cfg0.slots t 0).cast nbuf0_0))
    (st0_1 t) (hstage0_1 ((cfg0.slots t 1).cast nbuf0_1)) (st0_2 t) (hstage0_2 ((cfg0.slots t 2).cast nbuf0_2))
    (st0_3 t) (hstage0_3 ((cfg0.slots t 3).cast nbuf0_3)) (st0_4 t) (hstage0_4 ((cfg0.slots t 4).cast nbuf0_4))
    (st0_5 t) (hstage0_5 ((cfg0.slots t 5).cast nbuf0_5)) (st0_6 t) (hstage0_6 ((cfg0.slots t 6).cast nbuf0_6))
    (st0_7 t) (hstage0_7 ((cfg0.slots t 7).cast nbuf0_7)) (st0_8 t) (hstage0_8 ((cfg0.slots t 8).cast nbuf0_8))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    hC (iblk m c 0 t) (iblk m c 1 t) (iblk m c 2 t) (win0_3.fill (grid0.coords t) d3 (iblk m c 3 t))
    (win0_4.fill (grid0.coords t) d4 (iblk m c 4 t)) X5 X6 X7 X8 s0 s1 s2 s3 _)
  isplitl [H0 H1 H2 H3 H4 H5 H6 H7 H8 S0 S1 S2 S3]
  · isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [S0]
    · iexact S0
    isplitl [S1]
    · iexact S1
    isplitl [S2]
    · iexact S2
    · iexact S3
  iintro ⟨H0, H1, H2, H3, H4, H5, H6, H7, H8, ⟨%y0, S0⟩, ⟨%y1, S1⟩, ⟨%y2, S2⟩, ⟨%y3, S3⟩⟩
  isplitl [S0 S1 S2 S3 Hr]
  · isplitl [S0 S1 S2 S3]
    · isplitl [S0]
      · iexists y0; iexact S0
      isplitl [S1]
      · iexists y1; iexact S1
      isplitl [S2]
      · iexists y2; iexact S2
      · iexists y3; iexact S3
    · iexact Hr
  isplitl [Ho]
  · iexact Ho
  isplitl [H0]
  · iexact H0
  isplitl [H1]
  · iexact H1
  isplitl [H2]
  · iexact H2
  have h3 : win0_3.cut (grid0.coords t) ((dats m 0 c).after 3 t) = iblk m c 3 t := win0_3.cut_fill _ _ _
  have h4 : win0_4.cut (grid0.coords t) ((dats m 0 c).after 4 t) = iblk m c 4 t := win0_4.cut_fill _ _ _
  isplitl [H3]
  · iexists d3
    change _ ⊢ owns (c : Thread nD τ) (st0_3 t) fullShare (win0_3.fill (grid0.coords t) d3 (win0_3.cut (grid0.coords t) ((dats m 0 c).after 3 t)))
    rw [h3]; try iexact H3
  isplitl [H4]
  · iexists d4
    change _ ⊢ owns (c : Thread nD τ) (st0_4 t) fullShare (win0_4.fill (grid0.coords t) d4 (win0_4.cut (grid0.coords t) ((dats m 0 c).after 4 t)))
    rw [h4]; try iexact H4
  isplitl [H5]
  · iexact H5
  isplitl [H6]
  · iexact H6
  isplitl [H7]
  · iexact H7
  · iexact H8

/-- The buffers the host lines after the region write. -/
abbrev T : Finset (Ref sig .tc) := {main_v7, main_cst, main_v8, main_v9, main_cst_0, main_v10, main_v11, main_v12, main_v13}

theorem sfx_T : ∀ ops ∈ ([hostOps1] : List (List (HloOp τ sig (Elt F)))), ∀ op ∈ ops,
    ∀ b : Ref sig .tc, Proc.devRef .tc b ∈ op.writes → b ∈ T := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl
  all_goals
    intro b hb
    simp only [StableHlo.nullary_writes, StableHlo.unary_writes, StableHlo.binary_writes, StableHlo.reshape_writes, Finset.mem_singleton] at hb
    have hb' := Proc.devRef_injective .tc hb
    subst hb'
    decide

set_option backward.isDefEq.respectTransparency.types false in
/-- The run: the arguments end as launched, and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  Pipeline.θ_run_frame_around_T_forget cfgs (dats m) 0 launch0 defs₀ 𝒱₀ fgt T m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps) (hT := sfx_T)
    (hmain := Gen.hmain m 𝒱₀) (hA := fun _ _ => rfl) (hΦ := fun _ _ => rfl)
    (Q' := _)
    (hQ' := fun r h => ⟨fun c => ⟨
      ((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      (RDat.FramePostR.arr_in h.1 c 3 rfl).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c)⟩, h.2⟩)

end Cert.Kernel.Hand

end
-- ==== Proof.KBody.lean ====
/-
  The body of the head kernel, as a triple over symbolic staging memrefs: what each buffer holds after one grid
  point, in terms of the named values of the generated skeleton. Three cases: the first point (which also quantises
  the activations and starts the running maximum and sum), a middle point, and the last point (which also
  stores the log-sum-exp).
-/
module

public import proofs.«01_k».proof.Proof.Gen.KernelIdeal.Frame
public import proofs.«01_k».proof.Proof.Gen.KernelIdeal.Skeleton
public import Idealize.ShloMosaic.Lib.Pipeline.TableIdle
public import Idealize.ShloMosaic.Lib.VecWindow
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F] [Named F]

local notation "𝕄" => MT nD τ sig Unit (Elt F) ℕ (UR sig nD τ) ℕ

/-- The kernel's variants: none. -/
abbrev 𝒱₀ : Variants := Variants.none

/-- The running maximum after a point: the old one `mx` against the point's block of scaled logits. -/
def stepM (i : grid0.Coords) (xc : Vec F S256x2560 .fp8e4m3) (w : Vec F S2048x2560 .fp8e4m3) (rs : Vec F S256x1 .f32)
    (ws : Vec F S1x2048 .f32) (mx : Vec F S256x1 .f32) : Vec F S256x1 .f32 := k0_pay2 (k0_pay13 i xc w rs ws mx)

/-- The running sum after a point: the old one `l` rescaled to the new maximum, and the point's block added. -/
def stepL (i : grid0.Coords) (xc : Vec F S256x2560 .fp8e4m3) (w : Vec F S2048x2560 .fp8e4m3) (rs : Vec F S256x1 .f32)
    (ws : Vec F S1x2048 .f32) (mx l : Vec F S256x1 .f32) : Vec F S256x1 .f32 :=
  k0_pay1 (k0_pay14 i xc w rs ws mx l mx) (k0_pay15 i xc w rs ws mx)

theorem hz2 : (![0, 0] : Fin 2 → Nat) = fun _ => 0 := funext fun a => by fin_cases a <;> rfl

/-- A memref whose elements hold writes `L` over junk, which together spell `X`, is owned at `X`. -/
theorem settle (c : Thread nD τ) {sp : Space} {sh : Shape} {e : EltTy} (m : Memref sig c.2.kind sp sh e) (q : PosShare TreeShare)
    (L : List (View.Piece (Elt F) sh e)) (X : sh.Idx → Elt F e) (h : View.canon L = X) :
    (m.view.loc c ↦[m.view.set]{q} m.view.writes (Elt F) m.view.junk L) ⊢ (owns c m q X : sProp 𝕄) := by
  unfold owns
  iintro H
  iexists _
  isplitr
  · ipureintro
    funext y
    rw [View.read_writes_junk_apply_eq_canon, h]
  iexact H

section
variable (c : Dev nD) (E : Set ℕ) (i : grid0.Coords)
  (M1 : Memref sig .tc .vmem S256x2560 .bf16) (h1 : M1.IsWhole) (M2 : Memref sig .tc .vmem S1x2560 .f32) (h2 : M2.IsWhole)
  (M3 : Memref sig .tc .vmem S256x1 .f32) (h3 : M3.IsWhole) (M4 : Memref sig .tc .vmem S2048x2560 .fp8e4m3) (h4 : M4.IsWhole)
  (M5 : Memref sig .tc .vmem S1x2048 .f32) (h5 : M5.IsWhole) (M6 : Memref sig .tc .vmem S256x2048 .f32) (h6 : M6.IsWhole)
  (M7 : Memref sig .tc .vmem S256x1 .f32) (h7 : M7.IsWhole) (M8 : Memref sig .tc .vmem S256x2560 .fp8e4m3) (h8 : M8.IsWhole)
  (M9 : Memref sig .tc .vmem S256x1 .f32) (h9 : M9.IsWhole) (M10 : Memref sig .tc .vmem S256x2560 .fp8e4m3) (h10 : M10.IsWhole)
  (M11 : Memref sig .tc .vmem S256x1 .f32) (h11 : M11.IsWhole) (M12 : Memref sig .tc .vmem S256x1 .f32) (h12 : M12.IsWhole)
  (M13 : Memref sig .tc .vmem S256x1 .f32) (h13 : M13.IsWhole)

/-- A middle point: the block of scaled logits is stored, the running maximum and sum advance. -/
theorem body_mid (hC1 : ¬ k0_cond1 i = 1#1) (hC2 : ¬ k0_cond2 i = 1#1)
    (x1 : Vec F S256x2560 .bf16) (x2 : Vec F S1x2560 .f32) (x3 : Vec F S256x1 .f32)
    (w : Vec F S2048x2560 .fp8e4m3) (ws : Vec F S1x2048 .f32) (X6 : Vec F S256x2048 .f32) (X7 : Vec F S256x1 .f32)
    (X8 : Vec F S256x2560 .fp8e4m3) (X9 : Vec F S256x1 .f32) (xc : Vec F S256x2560 .fp8e4m3)
    (rs mx l : Vec F S256x1 .f32) (K : PUnit → sProp 𝕄) :
    iprop((owns (c : Thread nD τ) M4 fullShare w ∗ owns (c : Thread nD τ) M5 fullShare ws ∗ owns (c : Thread nD τ) M6 fullShare X6 ∗ owns (c : Thread nD τ) M10 fullShare xc ∗ owns (c : Thread nD τ) M11 fullShare rs ∗ owns (c : Thread nD τ) M12 fullShare mx ∗ owns (c : Thread nD τ) M13 fullShare l)
          ∗ (iprop(owns (c : Thread nD τ) M4 fullShare w ∗ owns (c : Thread nD τ) M5 fullShare ws ∗ owns (c : Thread nD τ) M6 fullShare (k0_pay11 xc w rs ws) ∗ owns (c : Thread nD τ) M10 fullShare xc ∗ owns (c : Thread nD τ) M11 fullShare rs ∗ owns (c : Thread nD τ) M12 fullShare (stepM i xc w rs ws mx) ∗ owns (c : Thread nD τ) M13 fullShare (stepL i xc w rs ws mx l)) -∗ K ⟨⟩))
      ⊢ wp frame (wpE (defs₀ (F := F)) 𝒱₀ c none) E
          (cc0_head i M1 h1 M2 h2 M3 h3 M4 h4 M5 h5 M6 h6 M7 h7 M8 h8 M9 h9 M10 h10 M11 h11 M12 h12 M13 h13) K := by
  rw [owns_eq_rep (c : Thread nD τ) M4 fullShare w, owns_eq_rep (c : Thread nD τ) M5 fullShare ws, owns_eq_rep (c : Thread nD τ) M6 fullShare X6, owns_eq_rep (c : Thread nD τ) M10 fullShare xc, owns_eq_rep (c : Thread nD τ) M11 fullShare rs, owns_eq_rep (c : Thread nD τ) M12 fullShare mx, owns_eq_rep (c : Thread nD τ) M13 fullShare l]
  rw [cc0_head_eq_skeleton]
  unfold cc0_head_skel
  simp only [k0_part2_eq_skeleton, k0_part1_eq_skeleton]
  iintro ⟨⟨H4, H5, H6, H10, H11, H12, H13⟩, Hk⟩
  have r4 : View.readAt (Elt F) M4.view (Rect.unit ![0, 0] S2048x2560.size inb_S2048x2560_S2048x2560_0_0).toLoadRect (M4.view.rep w) = w :=
    View.readAt_rep_full _ _ _
  have r5 : View.readAt (Elt F) M5.view (Rect.unit ![0, 0] S1x2048.size inb_S1x2048_S1x2048_0_0).toLoadRect (M5.view.rep ws) = ws :=
    View.readAt_rep_full _ _ _
  have r10 : View.readAt (Elt F) M10.view (Rect.unit ![0, 0] S256x2560.size inb_S256x2560_S256x2560_0_0).toLoadRect (M10.view.rep xc) = xc :=
    View.readAt_rep_full _ _ _
  have r11 : View.readAt (Elt F) M11.view (Rect.unit ![0, 0] S256x1.size inb_S256x1_S256x1_0_0).toLoadRect (M11.view.rep rs) = rs :=
    View.readAt_rep_full _ _ _
  have r12 : View.readAt (Elt F) M12.view (Rect.unit ![0, 0] S256x1.size inb_S256x1_S256x1_0_0).toLoadRect (M12.view.rep mx) = mx :=
    View.readAt_rep_full _ _ _
  have r13 : View.readAt (Elt F) M13.view (Rect.unit ![0, 0] S256x1.size inb_S256x1_S256x1_0_0).toLoadRect (M13.view.rep l) = l :=
    View.readAt_rep_full _ _ _
  sl_exec!
  sl_step
  iapply Hk
  isplitl [H4]
  · iexact H4
  isplitl [H5]
  · iexact H5
  isplitl [H6]
  · iapply (settle (c : Thread nD τ) M6 fullShare _ _ ?_) $$ H6
    try delta body_mid.sl.H6_1
    try delta body_mid.sl.H12_1
    try delta body_mid.sl.H13_1
    try delta body_mid.sl.r
    try delta body_mid.sl.r_1
    try delta body_mid.sl.r_2
    repeat rw [View.readCov_cons_toLoadRect]
    try rw [r4]
    try rw [r5]
    try rw [r10]
    try rw [r11]
    try rw [r12]
    try rw [r13]
    refine (View.canon_cons_unit_zero (S := S256x2048) hz2 _ _ _).trans ?_
    rfl
  isplitl [H10]
  · iexact H10
  isplitl [H11]
  · iexact H11
  isplitl [H12]
  · iapply (settle (c : Thread nD τ) M12 fullShare _ _ ?_) $$ H12
    try delta body_mid.sl.H6_1
    try delta body_mid.sl.H12_1
    try delta body_mid.sl.H13_1
    try delta body_mid.sl.r
    try delta body_mid.sl.r_1
    try delta body_mid.sl.r_2
    repeat rw [View.readCov_cons_toLoadRect]
    try rw [r4]
    try rw [r5]
    try rw [r10]
    try rw [r11]
    try rw [r12]
    try rw [r13]
    refine (View.canon_cons_unit_zero (S := S256x1) hz2 _ _ _).trans ?_
    rfl
  · iapply (settle (c : Thread nD τ) M13 fullShare _ _ ?_) $$ H13
    try delta body_mid.sl.H6_1
    try delta body_mid.sl.H12_1
    try delta body_mid.sl.H13_1
    try delta body_mid.sl.r
    try delta body_mid.sl.r_1
    try delta body_mid.sl.r_2
    repeat rw [View.readCov_cons_toLoadRect]
    try rw [r4]
    try rw [r5]
    try rw [r10]
    try rw [r11]
    try rw [r12]
    try rw [r13]
    refine (View.canon_cons_unit_zero (S := S256x1) hz2 _ _ _).trans ?_
    rfl

/-- The last point: as a middle point, then the log-sum-exp is stored. -/
theorem body_last (hC1 : ¬ k0_cond1 i = 1#1) (hC2 : k0_cond2 i = 1#1)
    (x1 : Vec F S256x2560 .bf16) (x2 : Vec F S1x2560 .f32) (x3 : Vec F S256x1 .f32)
    (w : Vec F S2048x2560 .fp8e4m3) (ws : Vec F S1x2048 .f32) (X6 : Vec F S256x2048 .f32) (X7 : Vec F S256x1 .f32)
    (X8 : Vec F S256x2560 .fp8e4m3) (X9 : Vec F S256x1 .f32) (xc : Vec F S256x2560 .fp8e4m3)
    (rs mx l : Vec F S256x1 .f32) (K : PUnit → sProp 𝕄) :
    iprop((owns (c : Thread nD τ) M4 fullShare w ∗ owns (c : Thread nD τ) M5 fullShare ws ∗ owns (c : Thread nD τ) M6 fullShare X6 ∗ owns (c : Thread nD τ) M7 fullShare X7 ∗ owns (c : Thread nD τ) M10 fullShare xc ∗ owns (c : Thread nD τ) M11 fullShare rs ∗ owns (c : Thread nD τ) M12 fullShare mx ∗ owns (c : Thread nD τ) M13 fullShare l)
          ∗ (iprop(owns (c : Thread nD τ) M4 fullShare w ∗ owns (c : Thread nD τ) M5 fullShare ws ∗ owns (c : Thread nD τ) M6 fullShare (k0_pay11 xc w rs ws) ∗ owns (c : Thread nD τ) M7 fullShare (k0_pay3 (stepM i xc w rs ws mx) (stepL i xc w rs ws mx l)) ∗ owns (c : Thread nD τ) M10 fullShare xc ∗ owns (c : Thread nD τ) M11 fullShare rs ∗ owns (c : Thread nD τ) M12 fullShare (stepM i xc w rs ws mx) ∗ owns (c : Thread nD τ) M13 fullShare (stepL i xc w rs ws mx l)) -∗ K ⟨⟩))
      ⊢ wp frame (wpE (defs₀ (F := F)) 𝒱₀ c none) E
          (cc0_head i M1 h1 M2 h2 M3 h3 M4 h4 M5 h5 M6 h6 M7 h7 M8 h8 M9 h9 M10 h10 M11 h11 M12 h12 M13 h13) K := by
  rw [owns_eq_rep (c : Thread nD τ) M4 fullShare w, owns_eq_rep (c : Thread nD τ) M5 fullShare ws, owns_eq_rep (c : Thread nD τ) M6 fullShare X6, owns_eq_rep (c : Thread nD τ) M7 fullShare X7, owns_eq_rep (c : Thread nD τ) M10 fullShare xc, owns_eq_rep (c : Thread nD τ) M11 fullShare rs, owns_eq_rep (c : Thread nD τ) M12 fullShare mx, owns_eq_rep (c : Thread nD τ) M13 fullShare l]
  rw [cc0_head_eq_skeleton]
  unfold cc0_head_skel
  simp only [k0_part2_eq_skeleton, k0_part1_eq_skeleton]
  iintro ⟨⟨H4, H5, H6, H7, H10, H11, H12, H13⟩, Hk⟩
  have r4 : View.readAt (Elt F) M4.view (Rect.unit ![0, 0] S2048x2560.size inb_S2048x2560_S2048x2560_0_0).toLoadRect (M4.view.rep w) = w :=
    View.readAt_rep_full _ _ _
  have r5 : View.readAt (Elt F) M5.view (Rect.unit ![0, 0] S1x2048.size inb_S1x2048_S1x2048_0_0).toLoadRect (M5.view.rep ws) = ws :=
    View.readAt_rep_full _ _ _
  have r10 : View.readAt (Elt F) M10.view (Rect.unit ![0, 0] S256x2560.size inb_S256x2560_S256x2560_0_0).toLoadRect (M10.view.rep xc) = xc :=
    View.readAt_rep_full _ _ _
  have r11 : View.readAt (Elt F) M11.view (Rect.unit ![0, 0] S256x1.size inb_S256x1_S256x1_0_0).toLoadRect (M11.view.rep rs) = rs :=
    View.readAt_rep_full _ _ _
  have r12 : View.readAt (Elt F) M12.view (Rect.unit ![0, 0] S256x1.size inb_S256x1_S256x1_0_0).toLoadRect (M12.view.rep mx) = mx :=
    View.readAt_rep_full _ _ _
  have r13 : View.readAt (Elt F) M13.view (Rect.unit ![0, 0] S256x1.size inb_S256x1_S256x1_0_0).toLoadRect (M13.view.rep l) = l :=
    View.readAt_rep_full _ _ _
  sl_exec!
  sl_step
  iapply Hk
  isplitl [H4]
  · iexact H4
  isplitl [H5]
  · iexact H5
  isplitl [H6]
  · iapply (settle (c : Thread nD τ) M6 fullShare _ _ ?_) $$ H6
    try delta body_last.sl.H6_1
    try delta body_last.sl.H12_1
    try delta body_last.sl.H13_1
    try delta body_last.sl.H7_1
    try delta body_last.sl.v47
    try delta body_last.sl.v48
    try delta body_last.sl.H12_1
    try delta body_last.sl.H13_1
    try delta body_last.sl.r
    try delta body_last.sl.r_1
    try delta body_last.sl.r_2
    repeat rw [View.readCov_cons_toLoadRect]
    try rw [r4]
    try rw [r5]
    try rw [r10]
    try rw [r11]
    try rw [r12]
    try rw [r13]
    refine (View.canon_cons_unit_zero (S := S256x2048) hz2 _ _ _).trans ?_
    rfl
  isplitl [H7]
  · iapply (settle (c : Thread nD τ) M7 fullShare _ _ ?_) $$ H7
    try delta body_last.sl.H6_1
    try delta body_last.sl.H12_1
    try delta body_last.sl.H13_1
    try delta body_last.sl.H7_1
    try delta body_last.sl.v47
    try delta body_last.sl.v48
    try delta body_last.sl.H12_1
    try delta body_last.sl.H13_1
    try delta body_last.sl.r
    try delta body_last.sl.r_1
    try delta body_last.sl.r_2
    repeat rw [View.readCov_cons_toLoadRect]
    try rw [r4]
    try rw [r5]
    try rw [r10]
    try rw [r11]
    try rw [r12]
    try rw [r13]
    refine (View.canon_cons_unit_zero (S := S256x1) hz2 _ _ _).trans ?_
    rfl
  isplitl [H10]
  · iexact H10
  isplitl [H11]
  · iexact H11
  isplitl [H12]
  · iapply (settle (c : Thread nD τ) M12 fullShare _ _ ?_) $$ H12
    try delta body_last.sl.H6_1
    try delta body_last.sl.H12_1
    try delta body_last.sl.H13_1
    try delta body_last.sl.H7_1
    try delta body_last.sl.v47
    try delta body_last.sl.v48
    try delta body_last.sl.H12_1
    try delta body_last.sl.H13_1
    try delta body_last.sl.r
    try delta body_last.sl.r_1
    try delta body_last.sl.r_2
    repeat rw [View.readCov_cons_toLoadRect]
    try rw [r4]
    try rw [r5]
    try rw [r10]
    try rw [r11]
    try rw [r12]
    try rw [r13]
    refine (View.canon_cons_unit_zero (S := S256x1) hz2 _ _ _).trans ?_
    rfl
  · iapply (settle (c : Thread nD τ) M13 fullShare _ _ ?_) $$ H13
    try delta body_last.sl.H6_1
    try delta body_last.sl.H12_1
    try delta body_last.sl.H13_1
    try delta body_last.sl.H7_1
    try delta body_last.sl.v47
    try delta body_last.sl.v48
    try delta body_last.sl.H12_1
    try delta body_last.sl.H13_1
    try delta body_last.sl.r
    try delta body_last.sl.r_1
    try delta body_last.sl.r_2
    repeat rw [View.readCov_cons_toLoadRect]
    try rw [r4]
    try rw [r5]
    try rw [r10]
    try rw [r11]
    try rw [r12]
    try rw [r13]
    refine (View.canon_cons_unit_zero (S := S256x1) hz2 _ _ _).trans ?_
    rfl

set_option maxHeartbeats 800000 in
/-- The first point: the activations are quantised, the running maximum and sum started, then as a middle point. -/
theorem body_first (hC1 : k0_cond1 i = 1#1) (hC2 : ¬ k0_cond2 i = 1#1)
    (x1 : Vec F S256x2560 .bf16) (x2 : Vec F S1x2560 .f32) (x3 : Vec F S256x1 .f32)
    (w : Vec F S2048x2560 .fp8e4m3) (ws : Vec F S1x2048 .f32) (X6 : Vec F S256x2048 .f32) (X7 : Vec F S256x1 .f32)
    (X8 : Vec F S256x2560 .fp8e4m3) (X9 : Vec F S256x1 .f32) (xc : Vec F S256x2560 .fp8e4m3)
    (rs mx l : Vec F S256x1 .f32) (K : PUnit → sProp 𝕄) :
    iprop((owns (c : Thread nD τ) M1 fullShare x1 ∗ owns (c : Thread nD τ) M2 fullShare x2 ∗ owns (c : Thread nD τ) M3 fullShare x3 ∗ owns (c : Thread nD τ) M4 fullShare w ∗ owns (c : Thread nD τ) M5 fullShare ws ∗ owns (c : Thread nD τ) M6 fullShare X6 ∗ owns (c : Thread nD τ) M8 fullShare X8 ∗ owns (c : Thread nD τ) M9 fullShare X9 ∗ owns (c : Thread nD τ) M10 fullShare xc ∗ owns (c : Thread nD τ) M11 fullShare rs ∗ owns (c : Thread nD τ) M12 fullShare mx ∗ owns (c : Thread nD τ) M13 fullShare l)
          ∗ (iprop(owns (c : Thread nD τ) M1 fullShare x1 ∗ owns (c : Thread nD τ) M2 fullShare x2 ∗ owns (c : Thread nD τ) M3 fullShare x3 ∗ owns (c : Thread nD τ) M4 fullShare w ∗ owns (c : Thread nD τ) M5 fullShare ws ∗ owns (c : Thread nD τ) M6 fullShare (k0_pay11 (k0_pay7 x1 x2) w (k0_pay8 (k0_pay5 x1 x2) x3) ws) ∗ owns (c : Thread nD τ) M8 fullShare (k0_pay6 x1 x2) ∗ owns (c : Thread nD τ) M9 fullShare (k0_pay5 x1 x2) ∗ owns (c : Thread nD τ) M10 fullShare (k0_pay7 x1 x2) ∗ owns (c : Thread nD τ) M11 fullShare (k0_pay8 (k0_pay5 x1 x2) x3) ∗ owns (c : Thread nD τ) M12 fullShare (stepM i (k0_pay7 x1 x2) w (k0_pay8 (k0_pay5 x1 x2) x3) ws k0_pay9) ∗ owns (c : Thread nD τ) M13 fullShare (stepL i (k0_pay7 x1 x2) w (k0_pay8 (k0_pay5 x1 x2) x3) ws k0_pay9 k0_pay10)) -∗ K ⟨⟩))
      ⊢ wp frame (wpE (defs₀ (F := F)) 𝒱₀ c none) E
          (cc0_head i M1 h1 M2 h2 M3 h3 M4 h4 M5 h5 M6 h6 M7 h7 M8 h8 M9 h9 M10 h10 M11 h11 M12 h12 M13 h13) K := by
  rw [owns_eq_rep (c : Thread nD τ) M1 fullShare x1, owns_eq_rep (c : Thread nD τ) M2 fullShare x2, owns_eq_rep (c : Thread nD τ) M3 fullShare x3, owns_eq_rep (c : Thread nD τ) M4 fullShare w, owns_eq_rep (c : Thread nD τ) M5 fullShare ws, owns_eq_rep (c : Thread nD τ) M6 fullShare X6, owns_eq_rep (c : Thread nD τ) M8 fullShare X8, owns_eq_rep (c : Thread nD τ) M9 fullShare X9, owns_eq_rep (c : Thread nD τ) M10 fullShare xc, owns_eq_rep (c : Thread nD τ) M11 fullShare rs, owns_eq_rep (c : Thread nD τ) M12 fullShare mx, owns_eq_rep (c : Thread nD τ) M13 fullShare l]
  rw [cc0_head_eq_skeleton]
  unfold cc0_head_skel
  simp only [k0_part2_eq_skeleton]
  unfold k0_part2_skel
  simp only [k0_part1_eq_skeleton]
  unfold k0_part1_skel
  iintro ⟨⟨H1, H2, H3, H4, H5, H6, H8, H9, H10, H11, H12, H13⟩, Hk⟩
  have r1 : View.readAt (Elt F) M1.view (Rect.unit ![0, 0] S256x2560.size inb_S256x2560_S256x2560_0_0).toLoadRect (M1.view.rep x1) = x1 :=
    View.readAt_rep_full _ _ _
  have r2 : View.readAt (Elt F) M2.view (Rect.unit ![0, 0] S1x2560.size inb_S1x2560_S1x2560_0_0).toLoadRect (M2.view.rep x2) = x2 :=
    View.readAt_rep_full _ _ _
  have r3 : View.readAt (Elt F) M3.view (Rect.unit ![0, 0] S256x1.size inb_S256x1_S256x1_0_0).toLoadRect (M3.view.rep x3) = x3 :=
    View.readAt_rep_full _ _ _
  have r4 : View.readAt (Elt F) M4.view (Rect.unit ![0, 0] S2048x2560.size inb_S2048x2560_S2048x2560_0_0).toLoadRect (M4.view.rep w) = w :=
    View.readAt_rep_full _ _ _
  have r5 : View.readAt (Elt F) M5.view (Rect.unit ![0, 0] S1x2048.size inb_S1x2048_S1x2048_0_0).toLoadRect (M5.view.rep ws) = ws :=
    View.readAt_rep_full _ _ _
  sl_exec!
  sl_step
  iapply Hk
  isplitl [H1]
  · iexact H1
  isplitl [H2]
  · iexact H2
  isplitl [H3]
  · iexact H3
  isplitl [H4]
  · iexact H4
  isplitl [H5]
  · iexact H5
  isplitl [H6]
  · iapply (settle (c : Thread nD τ) M6 fullShare _ _ ?_) $$ H6
    try delta body_first.sl.H6_1
    try delta body_first.sl.H12_1
    try delta body_first.sl.H13_1
    try delta body_first.sl.H8_1
    try delta body_first.sl.H9_1
    try delta body_first.sl.H10_1
    try delta body_first.sl.H11_1
    try delta body_first.sl.H12_2
    try delta body_first.sl.H13_2
    try delta body_first.sl.v3
    try delta body_first.sl.v6
    try delta body_first.sl.v22
    try delta body_first.sl.v27
    try delta body_first.sl.H10_1
    try delta body_first.sl.H11_1
    try delta body_first.sl.H12_1
    try delta body_first.sl.H13_1
    repeat rw [View.readCov_cons_toLoadRect]
    try rw [r1]
    try rw [r2]
    try rw [r3]
    try rw [r4]
    try rw [r5]
    refine (View.canon_cons_unit_zero (S := S256x2048) hz2 _ _ _).trans ?_
    rfl
  isplitl [H8]
  · iapply (settle (c : Thread nD τ) M8 fullShare _ _ ?_) $$ H8
    try delta body_first.sl.H6_1
    try delta body_first.sl.H12_1
    try delta body_first.sl.H13_1
    try delta body_first.sl.H8_1
    try delta body_first.sl.H9_1
    try delta body_first.sl.H10_1
    try delta body_first.sl.H11_1
    try delta body_first.sl.H12_2
    try delta body_first.sl.H13_2
    try delta body_first.sl.v3
    try delta body_first.sl.v6
    try delta body_first.sl.v22
    try delta body_first.sl.v27
    try delta body_first.sl.H10_1
    try delta body_first.sl.H11_1
    try delta body_first.sl.H12_1
    try delta body_first.sl.H13_1
    repeat rw [View.readCov_cons_toLoadRect]
    try rw [r1]
    try rw [r2]
    try rw [r3]
    try rw [r4]
    try rw [r5]
    refine (View.canon_cons_unit_zero (S := S256x2560) hz2 _ _ _).trans ?_
    rfl
  isplitl [H9]
  · iapply (settle (c : Thread nD τ) M9 fullShare _ _ ?_) $$ H9
    try delta body_first.sl.H6_1
    try delta body_first.sl.H12_1
    try delta body_first.sl.H13_1
    try delta body_first.sl.H8_1
    try delta body_first.sl.H9_1
    try delta body_first.sl.H10_1
    try delta body_first.sl.H11_1
    try delta body_first.sl.H12_2
    try delta body_first.sl.H13_2
    try delta body_first.sl.v3
    try delta body_first.sl.v6
    try delta body_first.sl.v22
    try delta body_first.sl.v27
    try delta body_first.sl.H10_1
    try delta body_first.sl.H11_1
    try delta body_first.sl.H12_1
    try delta body_first.sl.H13_1
    repeat rw [View.readCov_cons_toLoadRect]
    try rw [r1]
    try rw [r2]
    try rw [r3]
    try rw [r4]
    try rw [r5]
    refine (View.canon_cons_unit_zero (S := S256x1) hz2 _ _ _).trans ?_
    rfl
  isplitl [H10]
  · iapply (settle (c : Thread nD τ) M10 fullShare _ _ ?_) $$ H10
    try delta body_first.sl.H6_1
    try delta body_first.sl.H12_1
    try delta body_first.sl.H13_1
    try delta body_first.sl.H8_1
    try delta body_first.sl.H9_1
    try delta body_first.sl.H10_1
    try delta body_first.sl.H11_1
    try delta body_first.sl.H12_2
    try delta body_first.sl.H13_2
    try delta body_first.sl.v3
    try delta body_first.sl.v6
    try delta body_first.sl.v22
    try delta body_first.sl.v27
    try delta body_first.sl.H10_1
    try delta body_first.sl.H11_1
    try delta body_first.sl.H12_1
    try delta body_first.sl.H13_1
    repeat rw [View.readCov_cons_toLoadRect]
    try rw [r1]
    try rw [r2]
    try rw [r3]
    try rw [r4]
    try rw [r5]
    refine (View.canon_cons_unit_zero (S := S256x2560) hz2 _ _ _).trans ?_
    rfl
  isplitl [H11]
  · iapply (settle (c : Thread nD τ) M11 fullShare _ _ ?_) $$ H11
    try delta body_first.sl.H6_1
    try delta body_first.sl.H12_1
    try delta body_first.sl.H13_1
    try delta body_first.sl.H8_1
    try delta body_first.sl.H9_1
    try delta body_first.sl.H10_1
    try delta body_first.sl.H11_1
    try delta body_first.sl.H12_2
    try delta body_first.sl.H13_2
    try delta body_first.sl.v3
    try delta body_first.sl.v6
    try delta body_first.sl.v22
    try delta body_first.sl.v27
    try delta body_first.sl.H10_1
    try delta body_first.sl.H11_1
    try delta body_first.sl.H12_1
    try delta body_first.sl.H13_1
    repeat rw [View.readCov_cons_toLoadRect]
    try rw [r1]
    try rw [r2]
    try rw [r3]
    try rw [r4]
    try rw [r5]
    refine (View.canon_cons_unit_zero (S := S256x1) hz2 _ _ _).trans ?_
    rfl
  isplitl [H12]
  · iapply (settle (c : Thread nD τ) M12 fullShare _ _ ?_) $$ H12
    try delta body_first.sl.H6_1
    try delta body_first.sl.H12_1
    try delta body_first.sl.H13_1
    try delta body_first.sl.H8_1
    try delta body_first.sl.H9_1
    try delta body_first.sl.H10_1
    try delta body_first.sl.H11_1
    try delta body_first.sl.H12_2
    try delta body_first.sl.H13_2
    try delta body_first.sl.v3
    try delta body_first.sl.v6
    try delta body_first.sl.v22
    try delta body_first.sl.v27
    try delta body_first.sl.H10_1
    try delta body_first.sl.H11_1
    try delta body_first.sl.H12_1
    try delta body_first.sl.H13_1
    repeat rw [View.readCov_cons_toLoadRect]
    try rw [r1]
    try rw [r2]
    try rw [r3]
    try rw [r4]
    try rw [r5]
    refine (View.canon_cons_unit_zero (S := S256x1) hz2 _ _ _).trans ?_
    rfl
  · iapply (settle (c : Thread nD τ) M13 fullShare _ _ ?_) $$ H13
    try delta body_first.sl.H6_1
    try delta body_first.sl.H12_1
    try delta body_first.sl.H13_1
    try delta body_first.sl.H8_1
    try delta body_first.sl.H9_1
    try delta body_first.sl.H10_1
    try delta body_first.sl.H11_1
    try delta body_first.sl.H12_2
    try delta body_first.sl.H13_2
    try delta body_first.sl.v3
    try delta body_first.sl.v6
    try delta body_first.sl.v22
    try delta body_first.sl.v27
    try delta body_first.sl.H10_1
    try delta body_first.sl.H11_1
    try delta body_first.sl.H12_1
    try delta body_first.sl.H13_1
    repeat rw [View.readCov_cons_toLoadRect]
    try rw [r1]
    try rw [r2]
    try rw [r3]
    try rw [r4]
    try rw [r5]
    refine (View.canon_cons_unit_zero (S := S256x1) hz2 _ _ _).trans ?_
    rfl
end

end Cert.KernelIdeal.Hand

end
-- ==== Proof.Softmax.lean ====
/-
  The running maximum and the running sum of powers of two over the extended reals: what a pass over blocks of
  values, which keeps the maximum rounded up and a sum rescaled to it, holds after every block. No hypothesis on the
  values: at either infinity the rescaling factor is 0 where it must be.
-/
module

public import Idealize.ShloMosaic.PureOps.Ideal
public import Idealize.ShloMosaic.Lib.Pointwise

@[expose] public section

noncomputable section

namespace Cert.Softmax

open Idealize.ShloMosaic

/-- Rounding up, at either infinity the identity. -/
abbrev up : EReal → EReal := Ideal.liftRound Int.ceil

theorem up_mono : Monotone up := by
  intro a b h
  induction a using EReal.rec with
  | bot => exact bot_le
  | top => rw [top_le_iff] at h; subst h; exact le_rfl
  | coe a =>
    induction b using EReal.rec with
    | bot => exact absurd h (by simp)
    | top => exact le_top
    | coe b =>
      have h' : a ≤ b := EReal.coe_le_coe_iff.mp h
      exact EReal.coe_le_coe_iff.mpr (Int.cast_le.mpr (Int.ceil_mono h'))

theorem le_up (a : EReal) : a ≤ up a := by
  induction a using EReal.rec with
  | bot => exact le_rfl
  | top => exact le_rfl
  | coe a => exact EReal.coe_le_coe_iff.mpr (Int.le_ceil a)

theorem exp2_nonneg (a : EReal) : 0 ≤ Ideal.exp2 a := by
  induction a using EReal.rec with
  | bot => exact le_rfl
  | top => exact le_top
  | coe a => exact EReal.coe_nonneg.mpr (Real.rpow_nonneg (by norm_num) a)

theorem exp2_bot_sub (a : EReal) : Ideal.exp2 (⊥ - a) = 0 := by
  rw [sub_eq_add_neg, EReal.bot_add]; rfl

/-- Rescaling a power from one maximum to a later one. -/
theorem exp2_rescale (a m m' : EReal) (h : a ≤ m) (h' : m ≤ m') :
    Ideal.exp2 (a - m) * Ideal.exp2 (m - m') = Ideal.exp2 (a - m') := by
  have top_sub (x : EReal) : Ideal.exp2 (x - ⊤) = 0 := by
    rw [sub_eq_add_neg, EReal.neg_top, EReal.add_bot]; rfl
  induction m' using EReal.rec with
  | top => rw [top_sub, top_sub, mul_zero]
  | bot =>
    have hm : m = ⊥ := le_bot_iff.mp h'
    subst hm
    have ha : a = ⊥ := le_bot_iff.mp h
    subst ha
    rw [exp2_bot_sub, zero_mul]
  | coe m' =>
    induction m using EReal.rec with
    | top => exact absurd h' (by simp)
    | bot =>
      have ha : a = ⊥ := le_bot_iff.mp h
      subst ha
      rw [exp2_bot_sub, exp2_bot_sub, zero_mul]
    | coe m =>
      induction a using EReal.rec with
      | top => exact absurd h (by simp)
      | bot => rw [exp2_bot_sub, exp2_bot_sub, zero_mul]
      | coe a =>
        rw [← EReal.coe_sub, ← EReal.coe_sub, ← EReal.coe_sub]
        change ((Real.rpow 2 (a - m) : ℝ) : EReal) * ((Real.rpow 2 (m - m') : ℝ) : EReal) = ((Real.rpow 2 (a - m') : ℝ) : EReal)
        rw [← EReal.coe_mul]
        congr 1
        have := Real.rpow_add (x := 2) (by norm_num) (a - m) (m - m')
        rw [show a - m + (m - m') = a - m' by ring] at this
        exact this.symm

theorem sum_mul_nonneg {ι : Type*} (s : Finset ι) (f : ι → EReal) (c : EReal) (hf : ∀ i, 0 ≤ f i) :
    (∑ i ∈ s, f i) * c = ∑ i ∈ s, f i * c := by
  classical
  induction s using Finset.induction_on with
  | empty => simp
  | insert a s ha ih =>
    rw [Finset.sum_insert ha, Finset.sum_insert ha, EReal.right_distrib_of_nonneg (hf a) (Finset.sum_nonneg fun i _ => hf i), ih]

variable (f : ℕ → EReal)

/-- The maximum of the first `n` values, rounded up. -/
def runM (n : ℕ) : EReal := up ((Finset.range n).sup f)

/-- The sum over the first `n` values of the powers of two of their distances below `runM`. -/
def runL (n : ℕ) : EReal := ∑ i ∈ Finset.range n, Ideal.exp2 (f i - runM f n)

theorem runM_zero : runM f 0 = ⊥ := by simp [runM]
theorem runL_zero : runL f 0 = 0 := by simp [runL]

theorem fold_max_eq_sup {ι : Type*} (s : Finset ι) (g : ι → EReal) : s.fold max ⊥ g = s.sup g := rfl

theorem range_add_sup (n B : ℕ) : (Finset.range (n + B)).sup f = max ((Finset.range n).sup f) ((Finset.univ : Finset (Fin B)).sup fun j => f (n + j.val)) := by
  apply le_antisymm
  · refine Finset.sup_le fun i hi => ?_
    rw [Finset.mem_range] at hi
    by_cases h : i < n
    · exact le_max_of_le_left (Finset.le_sup (f := f) (Finset.mem_range.mpr h))
    · refine le_max_of_le_right ?_
      have := Finset.le_sup (f := fun j : Fin B => f (n + j.val)) (Finset.mem_univ ⟨i - n, by omega⟩)
      simp only at this
      rwa [show n + (i - n) = i by omega] at this
  · refine max_le ?_ ?_
    · exact Finset.sup_mono (Finset.range_mono (Nat.le_add_right _ _))
    · exact Finset.sup_le fun j _ => Finset.le_sup (f := f) (Finset.mem_range.mpr (by omega))

theorem runM_step (n B : ℕ) :
    runM f (n + B) = max (runM f n) (up ((Finset.univ : Finset (Fin B)).fold max ⊥ fun j => f (n + j.val))) := by
  rw [fold_max_eq_sup, runM, range_add_sup, up_mono.map_max]
  rfl

theorem runM_mono (n B : ℕ) : runM f n ≤ runM f (n + B) := by
  rw [runM_step]; exact le_max_left _ _

theorem le_runM {n i : ℕ} (h : i < n) : f i ≤ runM f n :=
  (Finset.le_sup (f := f) (Finset.mem_range.mpr h)).trans (le_up _)

theorem runL_step (n B : ℕ) :
    runL f (n + B) = runL f n * Ideal.exp2 (runM f n - runM f (n + B)) + ∑ j : Fin B, Ideal.exp2 (f (n + j.val) - runM f (n + B)) := by
  rw [runL, Finset.sum_range_add, ← Fin.sum_univ_eq_sum_range (fun j => Ideal.exp2 (f (n + j) - runM f (n + B))) B]
  congr 1
  rw [runL, sum_mul_nonneg _ _ _ fun i => exp2_nonneg _]
  exact Finset.sum_congr rfl fun i hi => (exp2_rescale _ _ _ (le_runM f (Finset.mem_range.mp hi)) (runM_mono f n B)).symm

/-- Values past the first `V` that are the bottom element change neither the maximum nor the sum. -/
theorem runM_total {V : ℕ} (g : Fin V → EReal) (hf : ∀ n, f n = if h : n < V then g ⟨n, h⟩ else ⊥) (N : ℕ) (hN : V ≤ N) :
    runM f N = up ((Finset.univ : Finset (Fin V)).fold max ⊥ g) := by
  obtain ⟨B, rfl⟩ := Nat.exists_eq_add_of_le hN
  rw [fold_max_eq_sup, runM]
  congr 1
  apply le_antisymm
  · refine Finset.sup_le fun i _ => ?_
    rw [hf]
    split
    · exact Finset.le_sup (f := g) (Finset.mem_univ _)
    · exact bot_le
  · refine Finset.sup_le fun j _ => ?_
    have h : f j.val = g j := by rw [hf, dif_pos j.isLt]
    rw [← h]
    exact Finset.le_sup (f := f) (Finset.mem_range.mpr (by omega))

theorem runL_total {V : ℕ} (g : Fin V → EReal) (hf : ∀ n, f n = if h : n < V then g ⟨n, h⟩ else ⊥) (N : ℕ) (hN : V ≤ N) :
    runL f N = ∑ j : Fin V, Ideal.exp2 (g j - up ((Finset.univ : Finset (Fin V)).fold max ⊥ g)) := by
  rw [runL, runM_total f g hf N hN]
  obtain ⟨B, rfl⟩ := Nat.exists_eq_add_of_le hN
  rw [Finset.sum_range_add, ← Fin.sum_univ_eq_sum_range (fun j => Ideal.exp2 (f j - _)) V]
  rw [Finset.sum_eq_zero (s := Finset.range B), add_zero]
  · exact Finset.sum_congr rfl fun j _ => by rw [hf, dif_pos j.isLt]
  · intro i _
    rw [hf, dif_neg (by omega), exp2_bot_sub]

/-- The comparison of a column's number with the vocabulary's size, as a condition on naturals. -/
theorem col_lt (a : ℕ) (ha : a < 75) (j : Fin 2048) :
    IntOp.cmpi CmpIPredicate.slt (IntOp.addi (Scalar.muli (BitVec.ofNat 32 a) 2048#32) (BitVec.ofNat 32 j.val)) 151936#32
      = BitVec.ofBool (decide (a * 2048 + j.val < 151936)) := by
  obtain ⟨j, hj⟩ := j
  simp only
  have h : (IntOp.addi (Scalar.muli (BitVec.ofNat 32 a) 2048#32) (BitVec.ofNat 32 j)) = BitVec.ofNat 32 (a * 2048 + j) := by
    change BitVec.ofNat 32 a * BitVec.ofNat 32 2048 + BitVec.ofNat 32 j = _
    rw [← BitVec.ofNat_mul, ← BitVec.ofNat_add]
  rw [h]
  change BitVec.ofBool (BitVec.slt _ _) = _
  congr 1
  have h2 : (BitVec.ofNat 32 (a * 2048 + j)).toInt = ((a * 2048 + j : ℕ) : ℤ) := by
    rw [BitVec.toInt_eq_toNat_cond, BitVec.toNat_ofNat, Nat.mod_eq_of_lt (by omega), if_pos (by omega)]
  rw [BitVec.slt, h2, show (151936#32 : BitVec 32).toInt = ((151936 : ℕ) : ℤ) from rfl, decide_eq_decide]
  exact Int.ofNat_lt

end Cert.Softmax

end
-- ==== Proof.Pay.lean ====
/-
  The kernel's payloads read at an index, over the extended reals.
-/
module

public import proofs.«01_k».proof.Proof.KBody
public import proofs.«01_k».proof.Proof.Softmax
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

theorem mask_eq : (Named.named (F := Ideal) κ "mask" (0xF149F2CA#32 : BitVec (FTy.bits .f32)) : Ideal .f32) = (⊥ : EReal) := by
  simp [Named.named, κ]

theorem negInf : Ideal.ofBits FTy.f32 0xFF800000#32 = (⊥ : EReal) := by
  simp [Ideal.ofBits, Ideal.ieee]

/-- A block of scaled logits, one entry. -/
theorem pay11_apply (xc : Vec Ideal S256x2560 .fp8e4m3) (w : Vec Ideal S2048x2560 .fp8e4m3) (rs : Vec Ideal S256x1 .f32)
    (ws : Vec Ideal S1x2048 .f32) (r : Fin 256) (j : Fin 2048) :
    k0_pay11 (F := Ideal) xc w rs ws (ix2 r j) = (∑ k : Fin 2560, xc (ix2 r k) * w (ix2 j k)) * rs (ix2 r 0) * ws (ix2 0 j) := by
  pointwise [k0_pay11]

theorem pay12_apply (i : grid0.Coords) (xc : Vec Ideal S256x2560 .fp8e4m3) (w : Vec Ideal S2048x2560 .fp8e4m3) (rs : Vec Ideal S256x1 .f32)
    (ws : Vec Ideal S1x2048 .f32) (r : Fin 256) (j : Fin 2048) :
    k0_pay12 (F := Ideal) i xc w rs ws (ix2 r j) = if (i 0).val * 2048 + j.val < 151936 then k0_pay11 (F := Ideal) xc w rs ws (ix2 r j) else (⊥ : EReal) := by
  pointwise [k0_pay12]
  rw [mask_eq, Softmax.col_lt (i 0).val (i 0).isLt j]
  by_cases h : (i 0).val * 2048 + j.val < 151936
  · simp [h, Scalar.select]
  · simp [h, Scalar.select]

theorem stepM_apply (i : grid0.Coords) (xc : Vec Ideal S256x2560 .fp8e4m3) (w : Vec Ideal S2048x2560 .fp8e4m3) (rs : Vec Ideal S256x1 .f32)
    (ws : Vec Ideal S1x2048 .f32) (mx : Vec Ideal S256x1 .f32) (r : Fin 256) :
    stepM (F := Ideal) i xc w rs ws mx (ix2 r 0) = max (mx (ix2 r 0))
      (Softmax.up (Finset.univ.fold max ⊥ fun x => k0_pay12 (F := Ideal) i xc w rs ws (ix2 r x))) := by
  pointwise [stepM, k0_pay13, k0_pay2]
  rw [negInf]

theorem stepL_apply (i : grid0.Coords) (xc : Vec Ideal S256x2560 .fp8e4m3) (w : Vec Ideal S2048x2560 .fp8e4m3) (rs : Vec Ideal S256x1 .f32)
    (ws : Vec Ideal S1x2048 .f32) (mx l : Vec Ideal S256x1 .f32) (r : Fin 256) :
    stepL (F := Ideal) i xc w rs ws mx l (ix2 r 0) = l (ix2 r 0) * Ideal.exp2 (mx (ix2 r 0) - stepM (F := Ideal) i xc w rs ws mx (ix2 r 0)) +
      ∑ x, Ideal.exp2 (k0_pay12 (F := Ideal) i xc w rs ws (ix2 r x) - stepM (F := Ideal) i xc w rs ws mx (ix2 r 0)) := by
  pointwise [stepL, stepM, k0_pay1, k0_pay2, k0_pay14, k0_pay15]
  rfl

theorem pay3_apply (mx l : Vec Ideal S256x1 .f32) (r : Fin 256) :
    k0_pay3 (F := Ideal) mx l (ix2 r 0) = mx (ix2 r 0) + Ideal.div (Ideal.log (l (ix2 r 0))) (Ideal.log (Ideal.ofBits FTy.f32 0x40000000#32)) := by
  pointwise [k0_pay3]

theorem pay9_apply (r : Fin 256) : k0_pay9 (F := Ideal) (ix2 r 0) = (⊥ : EReal) := by
  pointwise [k0_pay9]
  exact mask_eq

theorem pay10_apply (r : Fin 256) : k0_pay10 (F := Ideal) (ix2 r 0) = (0 : EReal) := by
  pointwise [k0_pay10]

end Cert.KernelIdeal.Hand

end
-- ==== Proof.Blocks.lean ====
/-
  The blocks of the weights and of the weights' scales as the body finds them, the scaled logits over the whole
  vocabulary, and what one grid point does to the running maximum and the running sum, over the extended reals.
  The last block overhangs the arrays: its columns past the vocabulary's end hold anything, and nothing here depends on them.
-/
module

public import proofs.«01_k».proof.Proof.Pay
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ)

/-! ## The schedule's numbers -/

theorem coords_val : ∀ t : Fin cfg0.N, (grid0.coords t 0).val = t.val :=
  (by decide +kernel : ∀ t : Fin grid0.N, (grid0.coords t 0).val = t.val)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = 0 ∧ win0_4.index t 1 = t.val :=
  (by decide +kernel : ∀ t : Fin grid0.N, win0_4.index t 0 = 0 ∧ win0_4.index t 1 = t.val)
theorem xs3 : ∀ t : Fin cfg0.N, win0_3.xsize (grid0.coords t) 0 = min 2048 (151936 - t.val * 2048) ∧ win0_3.xsize (grid0.coords t) 1 = 2560 :=
  (by decide +kernel : ∀ t : Fin grid0.N, win0_3.xsize (grid0.coords t) 0 = min 2048 (151936 - t.val * 2048) ∧ win0_3.xsize (grid0.coords t) 1 = 2560)
theorem xs4 : ∀ t : Fin cfg0.N, win0_4.xsize (grid0.coords t) 0 = 1 ∧ win0_4.xsize (grid0.coords t) 1 = min 2048 (151936 - t.val * 2048) :=
  (by decide +kernel : ∀ t : Fin grid0.N, win0_4.xsize (grid0.coords t) 0 = 1 ∧ win0_4.xsize (grid0.coords t) 1 = min 2048 (151936 - t.val * 2048))

/-! ## The arrays the region finds, and its blocks of them -/

/-- The weights' codes and their scales, as the region finds them. -/
def arrW (c : Dev nD) : Vec Ideal S151936x2560 .fp8e4m3 := V m c (Pipeline.arrRef spec0 3)
def arrS (c : Dev nD) : Vec Ideal S1x151936 .f32 := V m c (Pipeline.arrRef spec0 4)

/-- A row of the weights' block inside the array is the array's row. -/
theorem fill3 (c : Dev nD) (t : Fin cfg0.N) (d) (j : Fin 2048) (k : Fin 2560) (h : t.val * 2048 + j.val < 151936) :
    win0_3.fill (grid0.coords t) d (iblk m c 3 t) (ix2 j k) = arrW m c (ix2 ⟨t.val * 2048 + j.val, h⟩ k) := by
  have hm : win0_3.moved (grid0.coords t) (ix2 j k) = true := by
    rw [Pipeline.Window.moved_iff]
    intro a
    match a with
    | ⟨0, _⟩ =>
      change j.val < win0_3.xsize (grid0.coords t) 0
      rw [(xs3 t).1]; have := j.isLt; omega
    | ⟨1, _⟩ =>
      change k.val < win0_3.xsize (grid0.coords t) 1
      rw [(xs3 t).2]; exact k.isLt
  unfold Pipeline.Window.fill
  rw [dif_pos hm]
  unfold iblk arrW
  refine congrArg (V m c (Pipeline.arrRef spec0 3)) (funext fun a => Fin.ext ?_)
  match a with
  | ⟨0, _⟩ =>
    change win0_3.index t 0 * 2048 + 1 * j.val = t.val * 2048 + j.val
    rw [(idx3 t).1]; omega
  | ⟨1, _⟩ =>
    change win0_3.index t 1 * 2560 + 1 * k.val = k.val
    rw [(idx3 t).2]; omega

/-- An entry of the scales' block inside the array is the array's. -/
theorem fill4 (c : Dev nD) (t : Fin cfg0.N) (d) (j : Fin 2048) (h : t.val * 2048 + j.val < 151936) :
    win0_4.fill (grid0.coords t) d (iblk m c 4 t) (ix2 0 j) = arrS m c (ix2 0 ⟨t.val * 2048 + j.val, h⟩) := by
  have hm : win0_4.moved (grid0.coords t) (ix2 0 j) = true := by
    rw [Pipeline.Window.moved_iff]
    intro a
    match a with
    | ⟨0, _⟩ =>
      change 0 < win0_4.xsize (grid0.coords t) 0
      rw [(xs4 t).1]; omega
    | ⟨1, _⟩ =>
      change j.val < win0_4.xsize (grid0.coords t) 1
      rw [(xs4 t).2]; have := j.isLt; omega
  unfold Pipeline.Window.fill
  rw [dif_pos hm]
  unfold iblk arrS
  refine congrArg (V m c (Pipeline.arrRef spec0 4)) (funext fun a => Fin.ext ?_)
  match a with
  | ⟨0, _⟩ =>
    change win0_4.index t 0 * 1 + 1 * 0 = 0
    rw [(idx4 t).1]
  | ⟨1, _⟩ =>
    change win0_4.index t 1 * 2048 + 1 * j.val = t.val * 2048 + j.val
    rw [(idx4 t).2]; omega

/-! ## The scaled logits and the pass over them -/

/-- The scaled logits over the whole vocabulary, from the activations' codes and the rows' scales. -/
def logits (xc : Vec Ideal S256x2560 .fp8e4m3) (rs : Vec Ideal S256x1 .f32) (W : Vec Ideal S151936x2560 .fp8e4m3)
    (S : Vec Ideal S1x151936 .f32) : Vec Ideal S256x151936 .f32 := fun y =>
  (∑ k : Fin 2560, xc (ix2 (y 0) k) * W (ix2 (y 1) k)) * rs (ix2 (y 0) 0) * S (ix2 0 (y 1))

/-- A row of the scaled logits as a sequence, the bottom element past the vocabulary. -/
def col (s2 : Vec Ideal S256x151936 .f32) (r : Fin 256) (n : ℕ) : EReal :=
  if h : n < 151936 then s2 (ix2 r ⟨n, h⟩) else ⊥

/-- The running maximum, rounded up, and the running sum, after the first `n` blocks. -/
def runMx (s2 : Vec Ideal S256x151936 .f32) (n : ℕ) : Vec Ideal S256x1 .f32 := fun y => Softmax.runM (col s2 (y 0)) (n * 2048)
def runSm (s2 : Vec Ideal S256x151936 .f32) (n : ℕ) : Vec Ideal S256x1 .f32 := fun y => Softmax.runL (col s2 (y 0)) (n * 2048)

variable (xc : Vec Ideal S256x2560 .fp8e4m3) (rs : Vec Ideal S256x1 .f32)

/-- The block of scaled logits of a point is the array's block of them. -/
theorem pay11_block (c : Dev nD) (t : Fin cfg0.N) (d3 d4) (r : Fin 256) (j : Fin 2048) (h : t.val * 2048 + j.val < 151936) :
    k0_pay11 (F := Ideal) xc (win0_3.fill (grid0.coords t) d3 (iblk m c 3 t)) rs (win0_4.fill (grid0.coords t) d4 (iblk m c 4 t)) (ix2 r j)
      = logits xc rs (arrW m c) (arrS m c) (ix2 r ⟨t.val * 2048 + j.val, h⟩) := by
  rw [pay11_apply, fill4 m c t d4 j h]
  simp only [fill3 m c t d3 j _ h]
  rfl

theorem pay12_block (c : Dev nD) (t : Fin cfg0.N) (d3 d4) (r : Fin 256) (j : Fin 2048) :
    k0_pay12 (F := Ideal) (grid0.coords t) xc (win0_3.fill (grid0.coords t) d3 (iblk m c 3 t)) rs (win0_4.fill (grid0.coords t) d4 (iblk m c 4 t)) (ix2 r j)
      = col (logits xc rs (arrW m c) (arrS m c)) r (t.val * 2048 + j.val) := by
  rw [pay12_apply, coords_val, col]
  by_cases h : t.val * 2048 + j.val < 151936
  · rw [if_pos h, dif_pos h, pay11_block m xc rs c t d3 d4 r j h]
  · rw [if_neg h, dif_neg h]

theorem ix_col (y : S256x1.Idx) : y = ix2 (y 0) 0 := by
  rw [eq_ix2 y]; congr 1; exact Subsingleton.elim (α := Fin 1) _ _

/-- One point advances the running maximum by its block. -/
theorem stepM_block (c : Dev nD) (t : Fin cfg0.N) (d3 d4) :
    stepM (F := Ideal) (grid0.coords t) xc (win0_3.fill (grid0.coords t) d3 (iblk m c 3 t)) rs (win0_4.fill (grid0.coords t) d4 (iblk m c 4 t))
      (runMx (logits xc rs (arrW m c) (arrS m c)) t.val) = runMx (logits xc rs (arrW m c) (arrS m c)) (t.val + 1) := by
  funext y
  obtain ⟨r, rfl⟩ : ∃ r : Fin 256, y = ix2 r 0 := ⟨y 0, ix_col y⟩
  rw [stepM_apply]
  refine (congrArg (fun f : Fin 2048 → EReal => max (runMx (logits xc rs (arrW m c) (arrS m c)) t.val (ix2 r 0))
    (Softmax.up (Finset.univ.fold max ⊥ f))) (funext (pay12_block m xc rs c t d3 d4 r))).trans ?_
  unfold runMx
  rw [show (t.val + 1) * 2048 = t.val * 2048 + 2048 by ring, Softmax.runM_step]
  rfl

/-- One point advances the running sum by its block. -/
theorem stepL_block (c : Dev nD) (t : Fin cfg0.N) (d3 d4) :
    stepL (F := Ideal) (grid0.coords t) xc (win0_3.fill (grid0.coords t) d3 (iblk m c 3 t)) rs (win0_4.fill (grid0.coords t) d4 (iblk m c 4 t))
      (runMx (logits xc rs (arrW m c) (arrS m c)) t.val) (runSm (logits xc rs (arrW m c) (arrS m c)) t.val)
      = runSm (logits xc rs (arrW m c) (arrS m c)) (t.val + 1) := by
  funext y
  obtain ⟨r, rfl⟩ : ∃ r : Fin 256, y = ix2 r 0 := ⟨y 0, ix_col y⟩
  rw [stepL_apply, stepM_block]
  refine (congrArg (fun f : Fin 2048 → EReal => runSm (logits xc rs (arrW m c) (arrS m c)) t.val (ix2 r 0)
      * Ideal.exp2 (runMx (logits xc rs (arrW m c) (arrS m c)) t.val (ix2 r 0) - runMx (logits xc rs (arrW m c) (arrS m c)) (t.val + 1) (ix2 r 0))
      + ∑ x, Ideal.exp2 (f x - runMx (logits xc rs (arrW m c) (arrS m c)) (t.val + 1) (ix2 r 0))) (funext (pay12_block m xc rs c t d3 d4 r))).trans ?_
  unfold runMx runSm
  rw [show (t.val + 1) * 2048 = t.val * 2048 + 2048 by ring, Softmax.runL_step]
  rfl

/-- Before the first block: the bottom element and 0, as the first point initialises them. -/
theorem runMx_zero (s2 : Vec Ideal S256x151936 .f32) : runMx s2 0 = k0_pay9 (F := Ideal) := by
  funext y
  obtain ⟨r, rfl⟩ : ∃ r : Fin 256, y = ix2 r 0 := ⟨y 0, ix_col y⟩
  rw [pay9_apply]
  exact Softmax.runM_zero _
theorem runSm_zero (s2 : Vec Ideal S256x151936 .f32) : runSm s2 0 = k0_pay10 (F := Ideal) := by
  funext y
  obtain ⟨r, rfl⟩ : ∃ r : Fin 256, y = ix2 r 0 := ⟨y 0, ix_col y⟩
  rw [pay10_apply]
  exact Softmax.runL_zero _

end Cert.KernelIdeal.Hand

end
-- ==== Proof.Value.lean ====
/-
  The head kernel's run over the extended reals: what its outputs' buffers hold after every point, the scratch
  followed from point to point, and the run itself.
-/
module

public import proofs.«01_k».proof.Proof.Blocks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf kernel pipe ΦA)

local notation "𝕄" => MT nD τ sig Unit (Elt Ideal) ℕ (UR sig nD τ) ℕ

/-- The first condition of the body holds at the first point only, the second at the last only. -/
theorem hcond1 : ∀ t : Fin cfg0.N, k0_cond1 (grid0.coords t) = 1#1 ↔ t.val = 0 :=
  (by decide +kernel : ∀ t : Fin grid0.N, k0_cond1 (grid0.coords t) = 1#1 ↔ t.val = 0)
theorem hcond2 : ∀ t : Fin cfg0.N, k0_cond2 (grid0.coords t) = 1#1 ↔ t.val = 74 :=
  (by decide +kernel : ∀ t : Fin grid0.N, k0_cond2 (grid0.coords t) = 1#1 ↔ t.val = 74)

variable (m : (ℓ : Loc nD τ sig) → Buf (Elt Ideal) ℓ) (ρ : Dev nD → PrngReg)

/-- The first grid point. -/
abbrev tz : Fin cfg0.N := ⟨0, by decide⟩

/-- The arrays of activations, norm weights and temperatures: the block every point sees. -/
def inX (c : Dev nD) : Vec Ideal S256x2560 .bf16 := iblk m c 0 tz
def inN (c : Dev nD) : Vec Ideal S1x2560 .f32 := iblk m c 1 tz
def inT (c : Dev nD) : Vec Ideal S256x1 .f32 := iblk m c 2 tz

/-- The activations' codes, their scales, the rows' scales and the scaled logits. -/
def codesT (c : Dev nD) : Vec Ideal S256x2560 .fp8e4m3 := k0_pay7 (F := Ideal) (inX m c) (inN m c)
def scaleT (c : Dev nD) : Vec Ideal S256x1 .f32 := k0_pay5 (F := Ideal) (inX m c) (inN m c)
def rsT (c : Dev nD) : Vec Ideal S256x1 .f32 := k0_pay8 (F := Ideal) (scaleT m c) (inT m c)
def s2T (c : Dev nD) : Vec Ideal S256x151936 .f32 := logits (codesT m c) (rsT m c) (arrW m c) (arrS m c)

/-- The scaled logits' block at a point, 0 past the array's end. -/
def s2blk (c : Dev nD) (t : Fin cfg0.N) : Vec Ideal S256x2048 .f32 := fun y =>
  if h : t.val * 2048 + (y 1).val < 151936 then s2T m c (ix2 (y 0) ⟨t.val * 2048 + (y 1).val, h⟩) else (0 : EReal)

/-- The scratch between the points: anything before the first, then the codes, the rows' scales, the running maximum and sum. -/
def scr (c : Dev nD) (n : ℕ) : sProp 𝕄 :=
  if n = 0 then ΦA spec0 c else
    iprop((owns (c : Thread nD τ) (Memref.whole cc0_scratch0) fullShare (codesT m c) ∗ owns (c : Thread nD τ) (Memref.whole cc0_scratch1) fullShare (rsT m c)
      ∗ owns (c : Thread nD τ) (Memref.whole cc0_scratch2) fullShare (runMx (s2T m c) n) ∗ owns (c : Thread nD τ) (Memref.whole cc0_scratch3) fullShare (runSm (s2T m c) n))
      ∗ ∃ r, prngReg c r)

/-- The data of the run. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => win0_3.fill (grid0.coords t) (fun _ => Classical.arbitrary _) (iblk m c 3 t)
    | ⟨4, _⟩ => win0_4.fill (grid0.coords t) (fun _ => Classical.arbitrary _) (iblk m c 4 t)
    | ⟨5, _⟩ => s2blk m c t
    | ⟨6, _⟩ => k0_pay3 (F := Ideal) (runMx (s2T m c) 75) (runSm (s2T m c) 75)
    | ⟨7, _⟩ => k0_pay6 (F := Ideal) (inX m c) (inN m c)
    | ⟨8, _⟩ => scaleT m c
  Φ t := scr m c t.val
  q _ := fullShare
  owed _ := 0

theorem before_3 (c : Dev nD) (t : Fin cfg0.N) (d) :
    (dats m 0 c).before (3 : Fin 9) t d = win0_3.fill (grid0.coords t) d (iblk m c 3 t) := by
  unfold Dat.before; rw [if_pos (fetch0_3 t)]; rfl
theorem before_4 (c : Dev nD) (t : Fin cfg0.N) (d) :
    (dats m 0 c).before (4 : Fin 9) t d = win0_4.fill (grid0.coords t) d (iblk m c 4 t) := by
  unfold Dat.before; rw [if_pos (fetch0_4 t)]; rfl

/-- The class invariant with the four scratch buffers as whole memrefs. -/
theorem phiA_eq (c : Dev nD) : (ΦA spec0 c : sProp 𝕄) = iprop(((∃ f, owns (c : Thread nD τ) (Memref.whole cc0_scratch0) fullShare f)
    ∗ (∃ f, owns (c : Thread nD τ) (Memref.whole cc0_scratch1) fullShare f) ∗ (∃ f, owns (c : Thread nD τ) (Memref.whole cc0_scratch2) fullShare f)
    ∗ (∃ f, owns (c : Thread nD τ) (Memref.whole cc0_scratch3) fullShare f)) ∗ ∃ r, prngReg c r) := by
  unfold Pipeline.ΦA
  rw [scopedRest0_eq]
  simp only [owns_whole]

/-! ## Which points are idle, and which write back -/

theorem idle6 : ∀ t : Fin cfg0.N, idle0 6 (grid0.coords t) = !decide (t.val = 74) :=
  (by decide +kernel : ∀ t : Fin grid0.N, idle0 6 (grid0.coords t) = !decide (t.val = 74))
theorem idle7 : ∀ t : Fin cfg0.N, idle0 7 (grid0.coords t) = !decide (t.val = 0) :=
  (by decide +kernel : ∀ t : Fin grid0.N, idle0 7 (grid0.coords t) = !decide (t.val = 0))
theorem idle8 : ∀ t : Fin cfg0.N, idle0 8 (grid0.coords t) = !decide (t.val = 0) :=
  (by decide +kernel : ∀ t : Fin grid0.N, idle0 8 (grid0.coords t) = !decide (t.val = 0))

theorem flushed6 (t : Fin cfg0.N) : (win0 6).flush t = decide (t.val = 74) := by
  rw [Bool.eq_iff_iff, decide_eq_true_iff]
  refine (flush0_6 t).trans ?_
  have : t.val < 75 := t.isLt
  omega
theorem flushed7 (t : Fin cfg0.N) : (win0 7).flush t = decide (t.val = 74) := by
  rw [Bool.eq_iff_iff, decide_eq_true_iff]
  refine (flush0_7 t).trans ?_
  have : t.val < 75 := t.isLt
  omega
theorem flushed8 (t : Fin cfg0.N) : (win0 8).flush t = decide (t.val = 74) := by
  rw [Bool.eq_iff_iff, decide_eq_true_iff]
  refine (flush0_8 t).trans ?_
  have : t.val < 75 := t.isLt
  omega

theorem scr_zero (c : Dev nD) : scr m c 0 = iprop(((∃ f, owns (c : Thread nD τ) (Memref.whole cc0_scratch0) fullShare f)
    ∗ (∃ f, owns (c : Thread nD τ) (Memref.whole cc0_scratch1) fullShare f) ∗ (∃ f, owns (c : Thread nD τ) (Memref.whole cc0_scratch2) fullShare f)
    ∗ (∃ f, owns (c : Thread nD τ) (Memref.whole cc0_scratch3) fullShare f)) ∗ ∃ r, prngReg c r) :=
  (if_pos rfl).trans (phiA_eq c)

theorem scr_pos (c : Dev nD) (n : ℕ) (h : n ≠ 0) : scr m c n =
    iprop((owns (c : Thread nD τ) (Memref.whole cc0_scratch0) fullShare (codesT m c) ∗ owns (c : Thread nD τ) (Memref.whole cc0_scratch1) fullShare (rsT m c)
      ∗ owns (c : Thread nD τ) (Memref.whole cc0_scratch2) fullShare (runMx (s2T m c) n) ∗ owns (c : Thread nD τ) (Memref.whole cc0_scratch3) fullShare (runSm (s2T m c) n))
      ∗ ∃ r, prngReg c r) := if_neg h

theorem after_3 (c : Dev nD) (t : Fin cfg0.N) : win0_3.cut (grid0.coords t) ((dats m 0 c).after 3 t) = iblk m c 3 t := win0_3.cut_fill _ _ _
theorem after_4 (c : Dev nD) (t : Fin cfg0.N) : win0_4.cut (grid0.coords t) ((dats m 0 c).after 4 t) = iblk m c 4 t := win0_4.cut_fill _ _ _
theorem after_6 (c : Dev nD) (t : Fin cfg0.N) : (dats m 0 c).after 6 t = k0_pay3 (F := Ideal) (runMx (s2T m c) 75) (runSm (s2T m c) 75) := by unfold dats; dsimp only
theorem after_5 (c : Dev nD) (t : Fin cfg0.N) : (dats m 0 c).after 5 t = s2blk m c t := by unfold dats; dsimp only
theorem after_7 (c : Dev nD) (t : Fin cfg0.N) : (dats m 0 c).after 7 t = k0_pay6 (F := Ideal) (inX m c) (inN m c) := by unfold dats; dsimp only
theorem after_8 (c : Dev nD) (t : Fin cfg0.N) : (dats m 0 c).after 8 t = scaleT m c := by unfold dats; dsimp only

theorem fresh_7 : ∀ t : Fin cfg0.N, t.val = 74 → cfg0.fresh (7 : Fin 9) t.val = false := by decide +kernel
theorem fresh_8 : ∀ t : Fin cfg0.N, t.val = 74 → cfg0.fresh (8 : Fin 9) t.val = false := by decide +kernel

/-- At the last point the codes' and the scales' buffers still hold what the first point stored. -/
theorem before_7 (c : Dev nD) (t : Fin cfg0.N) (ht : t.val = 74) (d) : (dats m 0 c).before (7 : Fin 9) t d = k0_pay6 (F := Ideal) (inX m c) (inN m c) :=
  ((dats m 0 c).before_out_traj (7 : Fin 9) rfl (fun _ _ => rfl) (fun _ _ _ _ => rfl) t.val t rfl d).trans
    ((if_neg (by rw [fresh_7 t ht]; exact Bool.false_ne_true)).trans (after_7 m c _))
theorem before_8 (c : Dev nD) (t : Fin cfg0.N) (ht : t.val = 74) (d) : (dats m 0 c).before (8 : Fin 9) t d = scaleT m c :=
  ((dats m 0 c).before_out_traj (8 : Fin 9) rfl (fun _ _ => rfl) (fun _ _ _ _ => rfl) t.val t rfl d).trans
    ((if_neg (by rw [fresh_8 t ht]; exact Bool.false_ne_true)).trans (after_8 m c _))

theorem blk0_first (c : Dev nD) (t : Fin cfg0.N) (ht : t.val = 0) : iblk m c 0 t = inX m c := by obtain rfl : t = tz := Fin.ext ht; rfl
theorem blk1_first (c : Dev nD) (t : Fin cfg0.N) (ht : t.val = 0) : iblk m c 1 t = inN m c := by obtain rfl : t = tz := Fin.ext ht; rfl
theorem blk2_first (c : Dev nD) (t : Fin cfg0.N) (ht : t.val = 0) : iblk m c 2 t = inT m c := by obtain rfl : t = tz := Fin.ext ht; rfl

theorem xs5 : ∀ t : Fin cfg0.N, win0_5.xsize (grid0.coords t) 1 = min 2048 (151936 - t.val * 2048) :=
  (by decide +kernel : ∀ t : Fin grid0.N, win0_5.xsize (grid0.coords t) 1 = min 2048 (151936 - t.val * 2048))

/-- Inside the array the block the body stores is the scaled logits' block. -/
theorem s2blk_cut (c : Dev nD) (t : Fin cfg0.N) (d3 d4) :
    win0_5.cut (grid0.coords t) (s2blk m c t) = win0_5.cut (grid0.coords t) (k0_pay11 (F := Ideal) (codesT m c)
      (win0_3.fill (grid0.coords t) d3 (iblk m c 3 t)) (rsT m c) (win0_4.fill (grid0.coords t) d4 (iblk m c 4 t))) := by
  funext y
  have hlt : (y 1).val < win0_5.xsize (grid0.coords t) 1 := (y 1).isLt
  rw [xs5] at hlt
  have h1 : (y 1).val < 2048 := by omega
  have h : t.val * 2048 + (y 1).val < 151936 := by have : t.val < 75 := t.isLt; omega
  have h0 : (y 0).val < 256 := (win0_5.xinj (grid0.coords t) y 0).isLt
  have hx : win0_5.xinj (grid0.coords t) y = ix2 (⟨(y 0).val, h0⟩ : Fin 256) (⟨(y 1).val, h1⟩ : Fin 2048) := by
    funext a
    match a with
    | ⟨0, _⟩ => rfl
    | ⟨1, _⟩ => rfl
  change s2blk m c t (win0_5.xinj (grid0.coords t) y) = k0_pay11 (F := Ideal) (codesT m c) _ (rsT m c) _ (win0_5.xinj (grid0.coords t) y)
  rw [hx, pay11_block m (codesT m c) (rsT m c) c t d3 d4 ⟨(y 0).val, h0⟩ ⟨(y 1).val, h1⟩ h]
  exact dif_pos h

/-- The window of the scaled logits keeps what the body stores there: outside the array anything may stand. -/
theorem keep5 (c : Dev nD) (t : Fin cfg0.N) (X : Vec Ideal S256x2048 .f32)
    (h5 : win0_5.cut (grid0.coords t) (s2blk m c t) = win0_5.cut (grid0.coords t) X) :
    owns (c : Thread nD τ) (st0_5 t) fullShare X ⊢ (iprop(∃ d, owns (c : Thread nD τ) (stage0_5 (cfg0.slots t 5)) fullShare
      ((win0 5).fill (grid0.coords t) d ((win0 5).cut (grid0.coords t) ((dats m 0 c).after 5 t)))) : sProp 𝕄) := by
  have hX : win0_5.fill (grid0.coords t) X (win0_5.cut (grid0.coords t) (s2blk m c t)) = X :=
    (congrArg (win0_5.fill (grid0.coords t) X) h5).trans (win0_5.fill_cut _ _)
  have e : ((win0 5).fill (grid0.coords t) X ((win0 5).cut (grid0.coords t) ((dats m 0 c).after 5 t))) = X := by
    rw [after_5]; exact hX
  iintro H
  iexists X
  rw [e]
  iexact H

end Cert.KernelIdeal.Hand

end
-- ==== Proof.ValFirst.lean ====
/-
  The body at the first point: the prologue and the first block.
-/
module

public import proofs.«01_k».proof.Proof.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf kernel pipe ΦA)

local notation "𝕄" => MT nD τ sig Unit (Elt Ideal) ℕ (UR sig nD τ) ℕ

variable (m : (ℓ : Loc nD τ sig) → Buf (Elt Ideal) ℓ) (ρ : Dev nD → PrngReg)

set_option maxHeartbeats 1000000 in
/-- The body's obligation at the first point. -/
theorem obligation_first (c : Dev nD) (t : Fin cfg0.N) (ht : t.val = 0) :
    iprop((dats m 0 c).Φ t.castSucc ∗ (dats m 0 c).owesAt () t.castSucc
        ∗ bigSep Finset.univ fun w : Fin cfg0.W => iprop(∃ d, owns (c : Thread nD τ) ((cfg0.win w).stage (cfg0.slots t w)) fullShare ((dats m 0 c).before w t d)))
      ⊢ wp frame (wpE (defs₀ (F := Ideal)) 𝒱₀ c none) Set.univ (defs₀ .tc cfg0.body (cfg0.bodyArgs t (cfg0.slots t))) fun _ =>
          iprop((dats m 0 c).Φ t.succ ∗ (dats m 0 c).owesAt () t.succ
            ∗ bigSep Finset.univ fun w : Fin cfg0.W =>
                  match cfg0.idle w (cfg0.grid.coords t) with
                  | true =>
                    match (cfg0.win w).flush t with
                    | false => iprop(∃ d, owns (c : Thread nD τ) ((cfg0.win w).stage (cfg0.slots t w)) fullShare ((dats m 0 c).before w t d))
                    | true =>
                      match cfg0.loose w with
                      | true => iprop(∃ d, owns (c : Thread nD τ) ((cfg0.win w).stage (cfg0.slots t w)) fullShare ((cfg0.win w).fill (cfg0.grid.coords t) d ((cfg0.win w).cut (cfg0.grid.coords t) ((dats m 0 c).after w t))))
                      | false => owns (c : Thread nD τ) ((cfg0.win w).stage (cfg0.slots t w)) fullShare ((dats m 0 c).after w t)
                  | false =>
                    match cfg0.loose w with
                    | true => iprop(∃ d, owns (c : Thread nD τ) ((cfg0.win w).stage (cfg0.slots t w)) fullShare ((cfg0.win w).fill (cfg0.grid.coords t) d ((cfg0.win w).cut (cfg0.grid.coords t) ((dats m 0 c).after w t))))
                    | false => owns (c : Thread nD τ) ((cfg0.win w).stage (cfg0.slots t w)) fullShare ((dats m 0 c).after w t)) := by
  have hi6 := idle6 t
  have hi7 := idle7 t
  have hi8 := idle8 t
  have hf6 := flushed6 t
  have hf7 := flushed7 t
  have hf8 := flushed8 t
  rw [decide_eq_false (by omega : ¬ t.val = 74)] at hi6 hf6 hf7 hf8
  rw [decide_eq_true ht] at hi7 hi8
  have hC1 : k0_cond1 (grid0.coords t) = 1#1 := (hcond1 t).mpr ht
  have hC2 : ¬ k0_cond2 (grid0.coords t) = 1#1 := fun h => by have := (hcond2 t).mp h; omega
  rw [bigSep_W0, bigSep_W0]
  simp only [hi6, hi7, hi8, hf6, hf7, hf8, Bool.not_true, Bool.not_false]
  rw [show (dats m 0 c).owesAt () t.succ = (dats m 0 c).owesAt () t.castSucc from rfl,
    show (dats m 0 c).Φ t.castSucc = scr m c t.val from rfl, show (dats m 0 c).Φ t.succ = scr m c (t.val + 1) from rfl, ht, scr_zero, scr_pos m c (0 + 1) (by decide)]
  iintro ⟨⟨⟨⟨%s0, S0⟩, ⟨%s1, S1⟩, ⟨%s2, S2⟩, ⟨%s3, S3⟩⟩, Hr⟩, Ho, ⟨%d0, H0⟩, ⟨%d1, H1⟩, ⟨%d2, H2⟩, ⟨%d3, H3⟩, ⟨%d4, H4⟩, ⟨%d5, H5⟩, H6, ⟨%d7, H7⟩, ⟨%d8, H8⟩⟩
  rw [before0_0_of m (dats m 0 c) rfl (fun _ => rfl) t d0, before0_1_of m (dats m 0 c) rfl (fun _ => rfl) t d1, before0_2_of m (dats m 0 c) rfl (fun _ => rfl) t d2, before_3 m c t d3, before_4 m c t d4, blk0_first m c t ht, blk1_first m c t ht, blk2_first m c t ht]
  have hM : stepM (F := Ideal) (grid0.coords t) (codesT m c) (win0_3.fill (grid0.coords t) d3 (iblk m c 3 t)) (rsT m c) (win0_4.fill (grid0.coords t) d4 (iblk m c 4 t)) (k0_pay9 (F := Ideal)) = runMx (s2T m c) (0 + 1) :=
    by have := stepM_block m (codesT m c) (rsT m c) c t d3 d4; rw [ht] at this; rw [← runMx_zero (s2T m c)]; exact this --stepM_block m (codesT m c) (rsT m c) c t d3 d4
  have hL : stepL (F := Ideal) (grid0.coords t) (codesT m c) (win0_3.fill (grid0.coords t) d3 (iblk m c 3 t)) (rsT m c) (win0_4.fill (grid0.coords t) d4 (iblk m c 4 t)) (k0_pay9 (F := Ideal)) (k0_pay10 (F := Ideal)) = runSm (s2T m c) (0 + 1) :=
    by have := stepL_block m (codesT m c) (rsT m c) c t d3 d4; rw [ht] at this; rw [← runMx_zero (s2T m c), ← runSm_zero (s2T m c)]; exact this --stepL_block m (codesT m c) (rsT m c) c t d3 d4
  iapply (body_first (F := Ideal) c Set.univ (grid0.coords t) (st0_0 t) (hstage0_0 ((cfg0.slots t 0).cast nbuf0_0))
    (st0_1 t) (hstage0_1 ((cfg0.slots t 1).cast nbuf0_1))
    (st0_2 t) (hstage0_2 ((cfg0.slots t 2).cast nbuf0_2))
    (st0_3 t) (hstage0_3 ((cfg0.slots t 3).cast nbuf0_3))
    (st0_4 t) (hstage0_4 ((cfg0.slots t 4).cast nbuf0_4))
    (st0_5 t) (hstage0_5 ((cfg0.slots t 5).cast nbuf0_5))
    (st0_6 t) (hstage0_6 ((cfg0.slots t 6).cast nbuf0_6))
    (st0_7 t) (hstage0_7 ((cfg0.slots t 7).cast nbuf0_7))
    (st0_8 t) (hstage0_8 ((cfg0.slots t 8).cast nbuf0_8))
    (Memref.whole cc0_scratch0) (Memref.isWhole_whole _) (Memref.whole cc0_scratch1) (Memref.isWhole_whole _) (Memref.whole cc0_scratch2) (Memref.isWhole_whole _) (Memref.whole cc0_scratch3) (Memref.isWhole_whole _) hC1 hC2 (inX m c) (inN m c) (inT m c) (win0_3.fill (grid0.coords t) d3 (iblk m c 3 t)) (win0_4.fill (grid0.coords t) d4 (iblk m c 4 t)) ((dats m 0 c).before 5 t d5) (fun _ => Classical.arbitrary _) ((dats m 0 c).before 7 t d7) ((dats m 0 c).before 8 t d8) s0 s1 s2 s3 _)
  isplitl [H0 H1 H2 H3 H4 H5 H7 H8 S0 S1 S2 S3]
  · isplitl [H0]
    · iexact H0
    isplitl [H1]
    · iexact H1
    isplitl [H2]
    · iexact H2
    isplitl [H3]
    · iexact H3
    isplitl [H4]
    · iexact H4
    isplitl [H5]
    · iexact H5
    isplitl [H7]
    · iexact H7
    isplitl [H8]
    · iexact H8
    isplitl [S0]
    · iexact S0
    isplitl [S1]
    · iexact S1
    isplitl [S2]
    · iexact S2
    iexact S3
  iintro ⟨H0, H1, H2, H3, H4, H5, H7, H8, S0, S1, S2, S3⟩
  rw [show k0_pay7 (F := Ideal) (inX m c) (inN m c) = codesT m c from rfl, show k0_pay5 (F := Ideal) (inX m c) (inN m c) = scaleT m c from rfl,
    show k0_pay8 (F := Ideal) (scaleT m c) (inT m c) = rsT m c from rfl, hM, hL]
  have h5 := s2blk_cut m c t d3 d4
  generalize k0_pay11 (F := Ideal) (codesT m c) (win0_3.fill (grid0.coords t) d3 (iblk m c 3 t)) (rsT m c) (win0_4.fill (grid0.coords t) d4 (iblk m c 4 t)) = X at h5 ⊢
  isplitl [S0 S1 S2 S3 Hr]
  · isplitl [S0 S1 S2 S3]
    · isplitl [S0]
      · iexact S0
      isplitl [S1]
      · iexact S1
      isplitl [S2]
      · iexact S2
      iexact S3
    · iexact Hr
  isplitl [Ho]
  · iexact Ho
  isplitl [H0]
  · rw [show (dats m 0 c).after 0 t = iblk m c 0 t from rfl, blk0_first m c t ht]; iexact H0
  isplitl [H1]
  · rw [show (dats m 0 c).after 1 t = iblk m c 1 t from rfl, blk1_first m c t ht]; iexact H1
  isplitl [H2]
  · rw [show (dats m 0 c).after 2 t = iblk m c 2 t from rfl, blk2_first m c t ht]; iexact H2
  isplitl [H3]
  · iexists d3
    change _ ⊢ owns (c : Thread nD τ) (st0_3 t) fullShare (win0_3.fill (grid0.coords t) d3 (win0_3.cut (grid0.coords t) ((dats m 0 c).after 3 t)))
    rw [after_3]; try iexact H3
  isplitl [H4]
  · iexists d4
    change _ ⊢ owns (c : Thread nD τ) (st0_4 t) fullShare (win0_4.fill (grid0.coords t) d4 (win0_4.cut (grid0.coords t) ((dats m 0 c).after 4 t)))
    rw [after_4]; try iexact H4
  isplitl [H5]
  · iapply (keep5 m c t X h5); iexact H5
  isplitl [H6]
  · iexact H6
  isplitl [H7]
  · rw [after_7]; iexact H7
  rw [after_8]; iexact H8

end Cert.KernelIdeal.Hand

end
-- ==== Proof.ValMid.lean ====
/-
  The body at a middle point: one more block.
-/
module

public import proofs.«01_k».proof.Proof.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf kernel pipe ΦA)

local notation "𝕄" => MT nD τ sig Unit (Elt Ideal) ℕ (UR sig nD τ) ℕ

variable (m : (ℓ : Loc nD τ sig) → Buf (Elt Ideal) ℓ) (ρ : Dev nD → PrngReg)

set_option maxHeartbeats 1000000 in
/-- The body's obligation at a middle point. -/
theorem obligation_mid (c : Dev nD) (t : Fin cfg0.N) (ht : t.val ≠ 0) (ht2 : t.val ≠ 74) :
    iprop((dats m 0 c).Φ t.castSucc ∗ (dats m 0 c).owesAt () t.castSucc
        ∗ bigSep Finset.univ fun w : Fin cfg0.W => iprop(∃ d, owns (c : Thread nD τ) ((cfg0.win w).stage (cfg0.slots t w)) fullShare ((dats m 0 c).before w t d)))
      ⊢ wp frame (wpE (defs₀ (F := Ideal)) 𝒱₀ c none) Set.univ (defs₀ .tc cfg0.body (cfg0.bodyArgs t (cfg0.slots t))) fun _ =>
          iprop((dats m 0 c).Φ t.succ ∗ (dats m 0 c).owesAt () t.succ
            ∗ bigSep Finset.univ fun w : Fin cfg0.W =>
                  match cfg0.idle w (cfg0.grid.coords t) with
                  | true =>
                    match (cfg0.win w).flush t with
                    | false => iprop(∃ d, owns (c : Thread nD τ) ((cfg0.win w).stage (cfg0.slots t w)) fullShare ((dats m 0 c).before w t d))
                    | true =>
                      match cfg0.loose w with
                      | true => iprop(∃ d, owns (c : Thread nD τ) ((cfg0.win w).stage (cfg0.slots t w)) fullShare ((cfg0.win w).fill (cfg0.grid.coords t) d ((cfg0.win w).cut (cfg0.grid.coords t) ((dats m 0 c).after w t))))
                      | false => owns (c : Thread nD τ) ((cfg0.win w).stage (cfg0.slots t w)) fullShare ((dats m 0 c).after w t)
                  | false =>
                    match cfg0.loose w with
                    | true => iprop(∃ d, owns (c : Thread nD τ) ((cfg0.win w).stage (cfg0.slots t w)) fullShare ((cfg0.win w).fill (cfg0.grid.coords t) d ((cfg0.win w).cut (cfg0.grid.coords t) ((dats m 0 c).after w t))))
                    | false => owns (c : Thread nD τ) ((cfg0.win w).stage (cfg0.slots t w)) fullShare ((dats m 0 c).after w t)) := by
  have hi6 := idle6 t
  have hi7 := idle7 t
  have hi8 := idle8 t
  have hf6 := flushed6 t
  have hf7 := flushed7 t
  have hf8 := flushed8 t
  rw [decide_eq_false ht2] at hi6 hf6 hf7 hf8
  rw [decide_eq_false ht] at hi7 hi8
  have hC1 : ¬ k0_cond1 (grid0.coords t) = 1#1 := fun h => ht ((hcond1 t).mp h)
  have hC2 : ¬ k0_cond2 (grid0.coords t) = 1#1 := fun h => ht2 ((hcond2 t).mp h)
  rw [bigSep_W0, bigSep_W0]
  simp only [hi6, hi7, hi8, hf6, hf7, hf8, Bool.not_true, Bool.not_false]
  rw [show (dats m 0 c).owesAt () t.succ = (dats m 0 c).owesAt () t.castSucc from rfl,
    show (dats m 0 c).Φ t.castSucc = scr m c t.val from rfl, show (dats m 0 c).Φ t.succ = scr m c (t.val + 1) from rfl, scr_pos m c t.val ht, scr_pos m c (t.val + 1) (Nat.succ_ne_zero _)]
  iintro ⟨⟨⟨S0, S1, S2, S3⟩, Hr⟩, Ho, ⟨%d0, H0⟩, ⟨%d1, H1⟩, ⟨%d2, H2⟩, ⟨%d3, H3⟩, ⟨%d4, H4⟩, ⟨%d5, H5⟩, H6, H7, H8⟩
  rw [before0_0_of m (dats m 0 c) rfl (fun _ => rfl) t d0, before0_1_of m (dats m 0 c) rfl (fun _ => rfl) t d1, before0_2_of m (dats m 0 c) rfl (fun _ => rfl) t d2, before_3 m c t d3, before_4 m c t d4]
  have hM : stepM (F := Ideal) (grid0.coords t) (codesT m c) (win0_3.fill (grid0.coords t) d3 (iblk m c 3 t)) (rsT m c) (win0_4.fill (grid0.coords t) d4 (iblk m c 4 t)) (runMx (s2T m c) t.val) = runMx (s2T m c) (t.val + 1) :=
    stepM_block m (codesT m c) (rsT m c) c t d3 d4
  have hL : stepL (F := Ideal) (grid0.coords t) (codesT m c) (win0_3.fill (grid0.coords t) d3 (iblk m c 3 t)) (rsT m c) (win0_4.fill (grid0.coords t) d4 (iblk m c 4 t)) (runMx (s2T m c) t.val) (runSm (s2T m c) t.val) = runSm (s2T m c) (t.val + 1) :=
    stepL_block m (codesT m c) (rsT m c) c t d3 d4
  iapply (body_mid (F := Ideal) c Set.univ (grid0.coords t) (st0_0 t) (hstage0_0 ((cfg0.slots t 0).cast nbuf0_0))
    (st0_1 t) (hstage0_1 ((cfg0.slots t 1).cast nbuf0_1))
    (st0_2 t) (hstage0_2 ((cfg0.slots t 2).cast nbuf0_2))
    (st0_3 t) (hstage0_3 ((cfg0.slots t 3).cast nbuf0_3))
    (st0_4 t) (hstage0_4 ((cfg0.slots t 4).cast nbuf0_4))
    (st0_5 t) (hstage0_5 ((cfg0.slots t 5).cast nbuf0_5))
    (st0_6 t) (hstage0_6 ((cfg0.slots t 6).cast nbuf0_6))
    (st0_7 t) (hstage0_7 ((cfg0.slots t 7).cast nbuf0_7))
    (st0_8 t) (hstage0_8 ((cfg0.slots t 8).cast nbuf0_8))
    (Memref.whole cc0_scratch0) (Memref.isWhole_whole _) (Memref.whole cc0_scratch1) (Memref.isWhole_whole _) (Memref.whole cc0_scratch2) (Memref.isWhole_whole _) (Memref.whole cc0_scratch3) (Memref.isWhole_whole _) hC1 hC2 (inX m c) (inN m c) (inT m c) (win0_3.fill (grid0.coords t) d3 (iblk m c 3 t)) (win0_4.fill (grid0.coords t) d4 (iblk m c 4 t)) ((dats m 0 c).before 5 t d5) (fun _ => Classical.arbitrary _) (fun _ => Classical.arbitrary _) (fun _ => Classical.arbitrary _) (codesT m c) (rsT m c) (runMx (s2T m c) t.val) (runSm (s2T m c) t.val) _)
  isplitl [H3 H4 H5 S0 S1 S2 S3]
  · isplitl [H3]
    · iexact H3
    isplitl [H4]
    · iexact H4
    isplitl [H5]
    · iexact H5
    isplitl [S0]
    · iexact S0
    isplitl [S1]
    · iexact S1
    isplitl [S2]
    · iexact S2
    iexact S3
  iintro ⟨H3, H4, H5, S0, S1, S2, S3⟩
  rw [hM, hL]
  have h5 := s2blk_cut m c t d3 d4
  generalize k0_pay11 (F := Ideal) (codesT m c) (win0_3.fill (grid0.coords t) d3 (iblk m c 3 t)) (rsT m c) (win0_4.fill (grid0.coords t) d4 (iblk m c 4 t)) = X at h5 ⊢
  isplitl [S0 S1 S2 S3 Hr]
  · isplitl [S0 S1 S2 S3]
    · isplitl [S0]
      · iexact S0
      isplitl [S1]
      · iexact S1
      isplitl [S2]
      · iexact S2
      iexact S3
    · iexact Hr
  isplitl [Ho]
  · iexact Ho
  isplitl [H0]
  · iexact H0
  isplitl [H1]
  · iexact H1
  isplitl [H2]
  · iexact H2
  isplitl [H3]
  · iexists d3
    change _ ⊢ owns (c : Thread nD τ) (st0_3 t) fullShare (win0_3.fill (grid0.coords t) d3 (win0_3.cut (grid0.coords t) ((dats m 0 c).after 3 t)))
    rw [after_3]; try iexact H3
  isplitl [H4]
  · iexists d4
    change _ ⊢ owns (c : Thread nD τ) (st0_4 t) fullShare (win0_4.fill (grid0.coords t) d4 (win0_4.cut (grid0.coords t) ((dats m 0 c).after 4 t)))
    rw [after_4]; try iexact H4
  isplitl [H5]
  · iapply (keep5 m c t X h5); iexact H5
  isplitl [H6]
  · iexact H6
  isplitl [H7]
  · iexact H7
  iexact H8

end Cert.KernelIdeal.Hand

end
-- ==== Proof.ValLast.lean ====
/-
  The body at the last point: the last block and the logarithm of the sum.
-/
module

public import proofs.«01_k».proof.Proof.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf kernel pipe ΦA)

local notation "𝕄" => MT nD τ sig Unit (Elt Ideal) ℕ (UR sig nD τ) ℕ

variable (m : (ℓ : Loc nD τ sig) → Buf (Elt Ideal) ℓ) (ρ : Dev nD → PrngReg)

set_option maxHeartbeats 1000000 in
/-- The body's obligation at the last point. -/
theorem obligation_last (c : Dev nD) (t : Fin cfg0.N) (ht : t.val = 74) :
    iprop((dats m 0 c).Φ t.castSucc ∗ (dats m 0 c).owesAt () t.castSucc
        ∗ bigSep Finset.univ fun w : Fin cfg0.W => iprop(∃ d, owns (c : Thread nD τ) ((cfg0.win w).stage (cfg0.slots t w)) fullShare ((dats m 0 c).before w t d)))
      ⊢ wp frame (wpE (defs₀ (F := Ideal)) 𝒱₀ c none) Set.univ (defs₀ .tc cfg0.body (cfg0.bodyArgs t (cfg0.slots t))) fun _ =>
          iprop((dats m 0 c).Φ t.succ ∗ (dats m 0 c).owesAt () t.succ
            ∗ bigSep Finset.univ fun w : Fin cfg0.W =>
                  match cfg0.idle w (cfg0.grid.coords t) with
                  | true =>
                    match (cfg0.win w).flush t with
                    | false => iprop(∃ d, owns (c : Thread nD τ) ((cfg0.win w).stage (cfg0.slots t w)) fullShare ((dats m 0 c).before w t d))
                    | true =>
                      match cfg0.loose w with
                      | true => iprop(∃ d, owns (c : Thread nD τ) ((cfg0.win w).stage (cfg0.slots t w)) fullShare ((cfg0.win w).fill (cfg0.grid.coords t) d ((cfg0.win w).cut (cfg0.grid.coords t) ((dats m 0 c).after w t))))
                      | false => owns (c : Thread nD τ) ((cfg0.win w).stage (cfg0.slots t w)) fullShare ((dats m 0 c).after w t)
                  | false =>
                    match cfg0.loose w with
                    | true => iprop(∃ d, owns (c : Thread nD τ) ((cfg0.win w).stage (cfg0.slots t w)) fullShare ((cfg0.win w).fill (cfg0.grid.coords t) d ((cfg0.win w).cut (cfg0.grid.coords t) ((dats m 0 c).after w t))))
                    | false => owns (c : Thread nD τ) ((cfg0.win w).stage (cfg0.slots t w)) fullShare ((dats m 0 c).after w t)) := by
  have hi6 := idle6 t
  have hi7 := idle7 t
  have hi8 := idle8 t
  have hf6 := flushed6 t
  have hf7 := flushed7 t
  have hf8 := flushed8 t
  rw [decide_eq_true ht] at hi6 hf6 hf7 hf8
  rw [decide_eq_false (by omega : ¬ t.val = 0)] at hi7 hi8
  have hC1 : ¬ k0_cond1 (grid0.coords t) = 1#1 := fun h => by have := (hcond1 t).mp h; omega
  have hC2 : k0_cond2 (grid0.coords t) = 1#1 := (hcond2 t).mpr ht
  rw [bigSep_W0, bigSep_W0]
  simp only [hi6, hi7, hi8, hf6, hf7, hf8, Bool.not_true, Bool.not_false]
  rw [show (dats m 0 c).owesAt () t.succ = (dats m 0 c).owesAt () t.castSucc from rfl,
    show (dats m 0 c).Φ t.castSucc = scr m c t.val from rfl, show (dats m 0 c).Φ t.succ = scr m c (t.val + 1) from rfl, scr_pos m c t.val (by omega), scr_pos m c (t.val + 1) (Nat.succ_ne_zero _)]
  iintro ⟨⟨⟨S0, S1, S2, S3⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0_0_of m (dats m 0 c) rfl (fun _ => rfl) t d0, before0_1_of m (dats m 0 c) rfl (fun _ => rfl) t d1, before0_2_of m (dats m 0 c) rfl (fun _ => rfl) t d2, before_3 m c t d3, before_4 m c t d4, before_7 m c t ht d7, before_8 m c t ht d8]
  have hM : stepM (F := Ideal) (grid0.coords t) (codesT m c) (win0_3.fill (grid0.coords t) d3 (iblk m c 3 t)) (rsT m c) (win0_4.fill (grid0.coords t) d4 (iblk m c 4 t)) (runMx (s2T m c) t.val) = runMx (s2T m c) (t.val + 1) :=
    stepM_block m (codesT m c) (rsT m c) c t d3 d4
  have hL : stepL (F := Ideal) (grid0.coords t) (codesT m c) (win0_3.fill (grid0.coords t) d3 (iblk m c 3 t)) (rsT m c) (win0_4.fill (grid0.coords t) d4 (iblk m c 4 t)) (runMx (s2T m c) t.val) (runSm (s2T m c) t.val) = runSm (s2T m c) (t.val + 1) :=
    stepL_block m (codesT m c) (rsT m c) c t d3 d4
  iapply (body_last (F := Ideal) c Set.univ (grid0.coords t) (st0_0 t) (hstage0_0 ((cfg0.slots t 0).cast nbuf0_0))
    (st0_1 t) (hstage0_1 ((cfg0.slots t 1).cast nbuf0_1))
    (st0_2 t) (hstage0_2 ((cfg0.slots t 2).cast nbuf0_2))
    (st0_3 t) (hstage0_3 ((cfg0.slots t 3).cast nbuf0_3))
    (st0_4 t) (hstage0_4 ((cfg0.slots t 4).cast nbuf0_4))
    (st0_5 t) (hstage0_5 ((cfg0.slots t 5).cast nbuf0_5))
    (st0_6 t) (hstage0_6 ((cfg0.slots t 6).cast nbuf0_6))
    (st0_7 t) (hstage0_7 ((cfg0.slots t 7).cast nbuf0_7))
    (st0_8 t) (hstage0_8 ((cfg0.slots t 8).cast nbuf0_8))
    (Memref.whole cc0_scratch0) (Memref.isWhole_whole _) (Memref.whole cc0_scratch1) (Memref.isWhole_whole _) (Memref.whole cc0_scratch2) (Memref.isWhole_whole _) (Memref.whole cc0_scratch3) (Memref.isWhole_whole _) hC1 hC2 (inX m c) (inN m c) (inT m c) (win0_3.fill (grid0.coords t) d3 (iblk m c 3 t)) (win0_4.fill (grid0.coords t) d4 (iblk m c 4 t)) ((dats m 0 c).before 5 t d5) ((dats m 0 c).before 6 t d6) (fun _ => Classical.arbitrary _) (fun _ => Classical.arbitrary _) (codesT m c) (rsT m c) (runMx (s2T m c) t.val) (runSm (s2T m c) t.val) _)
  isplitl [H3 H4 H5 H6 S0 S1 S2 S3]
  · isplitl [H3]
    · iexact H3
    isplitl [H4]
    · iexact H4
    isplitl [H5]
    · iexact H5
    isplitl [H6]
    · iexact H6
    isplitl [S0]
    · iexact S0
    isplitl [S1]
    · iexact S1
    isplitl [S2]
    · iexact S2
    iexact S3
  iintro ⟨H3, H4, H5, H6, S0, S1, S2, S3⟩
  rw [hM, hL]
  have h5 := s2blk_cut m c t d3 d4
  generalize k0_pay11 (F := Ideal) (codesT m c) (win0_3.fill (grid0.coords t) d3 (iblk m c 3 t)) (rsT m c) (win0_4.fill (grid0.coords t) d4 (iblk m c 4 t)) = X at h5 ⊢
  isplitl [S0 S1 S2 S3 Hr]
  · isplitl [S0 S1 S2 S3]
    · isplitl [S0]
      · iexact S0
      isplitl [S1]
      · iexact S1
      isplitl [S2]
      · iexact S2
      iexact S3
    · iexact Hr
  isplitl [Ho]
  · iexact Ho
  isplitl [H0]
  · iexact H0
  isplitl [H1]
  · iexact H1
  isplitl [H2]
  · iexact H2
  isplitl [H3]
  · iexists d3
    change _ ⊢ owns (c : Thread nD τ) (st0_3 t) fullShare (win0_3.fill (grid0.coords t) d3 (win0_3.cut (grid0.coords t) ((dats m 0 c).after 3 t)))
    rw [after_3]; try iexact H3
  isplitl [H4]
  · iexists d4
    change _ ⊢ owns (c : Thread nD τ) (st0_4 t) fullShare (win0_4.fill (grid0.coords t) d4 (win0_4.cut (grid0.coords t) ((dats m 0 c).after 4 t)))
    rw [after_4]; try iexact H4
  isplitl [H5]
  · iapply (keep5 m c t X h5); iexact H5
  isplitl [H6]
  · rw [after_6]; rw [ht]; iexact H6
  isplitl [H7]
  · rw [after_7]; iexact H7
  rw [after_8]; iexact H8

end Cert.KernelIdeal.Hand

end
-- ==== Proof.Run.lean ====
/-
  The run of the kernel: every array at its value.
-/
module

public import proofs.«01_k».proof.Proof.ValFirst
public import proofs.«01_k».proof.Proof.ValMid
public import proofs.«01_k».proof.Proof.ValLast

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf kernel pipe ΦA)

local notation "𝕄" => MT nD τ sig Unit (Elt Ideal) ℕ (UR sig nD τ) ℕ

variable (m : (ℓ : Loc nD τ sig) → Buf (Elt Ideal) ℓ) (ρ : Dev nD → PrngReg)

/-- The body's obligation at every point. -/
theorem body_obligation (c : Dev nD) : BodyObligationLoose (dats m 0 c) (defs₀ (F := Ideal)) 𝒱₀ () Set.univ := fun t => by
  by_cases h0 : t.val = 0
  · exact obligation_first m c t h0
  by_cases h74 : t.val = 74
  · exact obligation_last m c t h74
  · exact obligation_mid m c t h0 h74

/-- The scratch's first contents are any. -/
theorem scr_in (c : Dev nD) : ΦA spec0 c ⊢ scr m c 0 := by
  rw [scr_zero, phiA_eq]

/-- The scratch's last contents are forgotten. -/
theorem scr_out (c : Dev nD) : scr m c 75 ⊢ ΦA spec0 c := by
  rw [scr_pos m c 75 (by decide), phiA_eq]
  iintro ⟨⟨S0, S1, S2, S3⟩, Hr⟩
  isplitl [S0 S1 S2 S3]
  · isplitl [S0]
    · iexists _; iexact S0
    isplitl [S1]
    · iexists _; iexact S1
    isplitl [S2]
    · iexists _; iexact S2
    iexists _; iexact S3
  iexact Hr

set_option backward.isDefEq.respectTransparency.types false in
/-- The run: every array of the region at its contents after the last write-back, the host lines' results computed from them,
    and every counter at zero. -/
theorem run : θ_run defs (onTc (τ := τ) (main (F := Ideal))) ⟨m, fun _ => 0, ρ⟩
    (fun r => Pipeline.FramePost cfgs (dats m) 0 (Pipeline.afterTail₀ cfgs (dats m) 0 (V0 m) [hostOps1]) r ∧ r.2.sem = fun _ => 0) :=
  Pipeline.θ_run_frame_around_track cfgs (dats m) 0 launch0 defs₀ 𝒱₀ m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := Gen.hmain m 𝒱₀) (hA := fun _ _ => rfl)
    (hin := fun c => scr_in m c)
    (hout := fun c => scr_out m c)
    (Q' := _) (hQ' := fun r h => h)

end Cert.KernelIdeal.Hand

end
-- ==== Proof.ReadBack.lean ====
/-
  What the kernel's run leaves in the arrays, read back: the region's outputs, and the host lines before and after it.
-/
module

public import proofs.«01_k».proof.Proof.Run
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf kernel pipe ΦA)

local notation "𝕄" => MT nD τ sig Unit (Elt Ideal) ℕ (UR sig nD τ) ℕ

variable (m : (ℓ : Loc nD τ sig) → Buf (Elt Ideal) ℓ) (ρ : Dev nD → PrngReg)

/-! ## The host lines -/

/-- The activations, norm weights, temperatures and scales as the region finds them: the arguments reshaped. -/
theorem V_v3 (c : Dev nD) : V m c main_v3 = (shapeCast S256x2560 (m ((c : Thread nD τ).loc main_arg0) : Vec Ideal S32x8x2560 .bf16) shapeCasts_S32x8x2560_S256x2560 : Vec Ideal S256x2560 .bf16) := by
  show StableHlo.after (List.flatten [hostOps0]) (fun b => m (c, b)) (Proc.devRef .tc main_v3) = _
  simp only [List.flatten_cons, List.flatten_nil, List.append_nil]
  after_results_simp
  rfl
theorem V_v4 (c : Dev nD) : V m c main_v4 = (shapeCast S1x2560 (m ((c : Thread nD τ).loc main_arg1) : Vec Ideal S2560 .f32) shapeCasts_S2560_S1x2560 : Vec Ideal S1x2560 .f32) := by
  show StableHlo.after (List.flatten [hostOps0]) (fun b => m (c, b)) (Proc.devRef .tc main_v4) = _
  simp only [List.flatten_cons, List.flatten_nil, List.append_nil]
  after_results_simp
  rfl
theorem V_v5 (c : Dev nD) : V m c main_v5 = (shapeCast S1x151936 (m ((c : Thread nD τ).loc main_arg3) : Vec Ideal S151936 .f32) shapeCasts_S151936_S1x151936 : Vec Ideal S1x151936 .f32) := by
  show StableHlo.after (List.flatten [hostOps0]) (fun b => m (c, b)) (Proc.devRef .tc main_v5) = _
  simp only [List.flatten_cons, List.flatten_nil, List.append_nil]
  after_results_simp
  rfl
theorem V_v2 (c : Dev nD) : V m c main_v2 = (shapeCast S256x1 (broadcastInDim S32x8 ![0, 1] bcast_S32x1_S32x8_0_1
    (broadcastInDim S32x1 ![0] bcast_S32_S32x1_0 (m ((c : Thread nD τ).loc main_arg4) : Vec Ideal S32 .f32) : Vec Ideal S32x1 .f32) : Vec Ideal S32x8 .f32) shapeCasts_S32x8_S256x1 : Vec Ideal S256x1 .f32) := by
  show StableHlo.after (List.flatten [hostOps0]) (fun b => m (c, b)) (Proc.devRef .tc main_v2) = _
  simp only [List.flatten_cons, List.flatten_nil, List.append_nil]
  after_results_simp
  rfl

/-- The host lines after the region, from any contents. -/
theorem tail_v11 (W : Valuation τ sig (Elt Ideal)) : StableHlo.after hostOps1 W (Proc.devRef .tc main_v11)
    = (subf (mulf (shapeCast S32x8 (W (Proc.devRef .tc main_v6_1) : Vec Ideal S256x1 .f32) shapeCasts_S256x1_S32x8 : Vec Ideal S32x8 .f32)
        (broadcastInDim S32x8 ![] bcast_S_S32x8 (constant (F := Ideal) S_ .f32 0x3F317218#32)))
        (broadcastInDim S32x8 ![] bcast_S_S32x8 (constant (F := Ideal) S_ .f32 0x413EE641#32)) : Vec Ideal S32x8 .f32) := by
  after_results_simp
  rfl
theorem tail_v12 (W : Valuation τ sig (Elt Ideal)) : StableHlo.after hostOps1 W (Proc.devRef .tc main_v12)
    = (shapeCast S32x8x2560 (W (Proc.devRef .tc main_v6_2) : Vec Ideal S256x2560 .fp8e4m3) shapeCasts_S256x2560_S32x8x2560 : Vec Ideal S32x8x2560 .fp8e4m3) := by
  after_results_simp
  rfl
theorem tail_v13 (W : Valuation τ sig (Elt Ideal)) : StableHlo.after hostOps1 W (Proc.devRef .tc main_v13)
    = (shapeCast S32x8 (W (Proc.devRef .tc main_v6_3) : Vec Ideal S256x1 .f32) shapeCasts_S256x1_S32x8 : Vec Ideal S32x8 .f32) := by
  after_results_simp
  rfl

/-! ## The blocks of the small inputs are their arrays -/

theorem index0 : ∀ t : Fin cfg0.N, win0_0.index t = ![0, 0] := (by decide +kernel : ∀ t : Fin grid0.N, win0_0.index t = ![0, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])

theorem inX_eq (c : Dev nD) : inX m c = V m c main_v3 := by
  funext y
  unfold inX iblk
  refine congrArg (V m c main_v3) (funext fun a => Fin.ext ?_)
  match a with
  | ⟨0, _⟩ =>
    change win0_0.index tz 0 * 256 + 1 * (y 0).val = (y 0).val
    rw [index0]; simp
  | ⟨1, _⟩ =>
    change win0_0.index tz 1 * 2560 + 1 * (y 1).val = (y 1).val
    rw [index0]; simp
theorem inN_eq (c : Dev nD) : inN m c = V m c main_v4 := by
  funext y
  unfold inN iblk
  refine congrArg (V m c main_v4) (funext fun a => Fin.ext ?_)
  match a with
  | ⟨0, _⟩ =>
    change win0_1.index tz 0 * 1 + 1 * (y 0).val = (y 0).val
    rw [index1]; simp
  | ⟨1, _⟩ =>
    change win0_1.index tz 1 * 2560 + 1 * (y 1).val = (y 1).val
    rw [index1]; simp
theorem inT_eq (c : Dev nD) : inT m c = V m c main_v2 := by
  funext y
  unfold inT iblk
  refine congrArg (V m c main_v2) (funext fun a => Fin.ext ?_)
  match a with
  | ⟨0, _⟩ =>
    change win0_2.index tz 0 * 256 + 1 * (y 0).val = (y 0).val
    rw [index2]; simp
  | ⟨1, _⟩ =>
    change win0_2.index tz 1 * 1 + 1 * (y 1).val = (y 1).val
    rw [index2]; simp

/-! ## The region's outputs -/

theorem idx5 : ∀ t : Fin cfg0.N, win0_5.index t = ![0, t.val] := (by decide +kernel : ∀ t : Fin grid0.N, win0_5.index t = ![0, t.val])

theorem covers5 : (cfg0.win 5).Covers := by decide +kernel
theorem tiles5 (c : Dev nD) (G : Vec Ideal S256x151936 .f32)
    (hG : ∀ (t : Fin cfg0.N) (y : ((cfg0.win 5).xblock (cfg0.grid.coords t)).Idx) (h : t.val * 2048 + (y 1).val < 151936),
      (dats m 0 c).after 5 t ((cfg0.win 5).xinj (cfg0.grid.coords t) y) = G (ix2 (y 0) ⟨t.val * 2048 + (y 1).val, h⟩)) :
    (dats m 0 c).arrAt 5 cfg0.N = G := by
  refine (dats m 0 c).arrAt_eq_of_covers 5 _ covers5 fun t hf y => ?_
  have hlt : (y 1).val < win0_5.xsize (grid0.coords t) 1 := (y 1).isLt
  rw [xs5] at hlt
  have h : t.val * 2048 + (y 1).val < 151936 := by have : t.val < 75 := t.isLt; omega
  have e : ((cfg0.win 5).blk t).view.emb y = (ix2 (y 0) (⟨t.val * 2048 + (y 1).val, h⟩ : Fin 151936) : S256x151936.Idx) := by
    funext a
    apply Fin.ext
    match a with
    | ⟨0, _⟩ =>
      change win0_5.index t 0 * 256 + 1 * (y 0).val = (y 0).val
      rw [idx5]; simp
    | ⟨1, _⟩ =>
      change win0_5.index t 1 * 2048 + 1 * (y 1).val = t.val * 2048 + (y 1).val
      rw [idx5]; simp
  rw [e]
  exact hG t y h
theorem arr_5 (c : Dev nD) : (dats m 0 c).arrAt 5 cfg0.N = s2T m c :=
  tiles5 m c _ fun t y h => (congrFun (after_5 m c t) _).trans (dif_pos h)

theorem whole6 : (cfg0.win 6).WholeAt ⟨74, by decide⟩ := by decide +kernel
theorem last6 (c : Dev nD) (G : Vec Ideal S256x1 .f32) (hG : (dats m 0 c).after 6 ⟨74, by decide⟩ = G) : (dats m 0 c).arrAt 6 cfg0.N = G := by
  refine (dats m 0 c).arrAt_eq_of_after_last 6 ⟨74, by decide⟩ whole6 _ fun j => ?_
  rw [hG]; rfl
theorem arr_6 (c : Dev nD) : (dats m 0 c).arrAt 6 cfg0.N = k0_pay3 (F := Ideal) (runMx (s2T m c) 75) (runSm (s2T m c) 75) := last6 m c _ (after_6 m c _)
theorem whole7 : (cfg0.win 7).WholeAt ⟨74, by decide⟩ := by decide +kernel
theorem last7 (c : Dev nD) (G : Vec Ideal S256x2560 .fp8e4m3) (hG : (dats m 0 c).after 7 ⟨74, by decide⟩ = G) : (dats m 0 c).arrAt 7 cfg0.N = G := by
  refine (dats m 0 c).arrAt_eq_of_after_last 7 ⟨74, by decide⟩ whole7 _ fun j => ?_
  rw [hG]; rfl
theorem arr_7 (c : Dev nD) : (dats m 0 c).arrAt 7 cfg0.N = k0_pay6 (F := Ideal) (inX m c) (inN m c) := last7 m c _ (after_7 m c _)
theorem whole8 : (cfg0.win 8).WholeAt ⟨74, by decide⟩ := by decide +kernel
theorem last8 (c : Dev nD) (G : Vec Ideal S256x1 .f32) (hG : (dats m 0 c).after 8 ⟨74, by decide⟩ = G) : (dats m 0 c).arrAt 8 cfg0.N = G := by
  refine (dats m 0 c).arrAt_eq_of_after_last 8 ⟨74, by decide⟩ whole8 _ fun j => ?_
  rw [hG]; rfl
theorem arr_8 (c : Dev nD) : (dats m 0 c).arrAt 8 cfg0.N = scaleT m c := last8 m c _ (after_8 m c _)

end Cert.KernelIdeal.Hand

end
-- ==== Proof.EndKernel.lean ====
/-
  The kernel's run, with the four results at the values the region leaves.
-/
module

public import proofs.«01_k».proof.Proof.ReadBack
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

/-- The host lines around the results: the row logarithms scaled and shifted, the codes and scales reshaped. -/
def lseOut (a : Vec Ideal S256x1 .f32) : Vec Ideal S32x8 .f32 :=
  subf (mulf (shapeCast S32x8 a shapeCasts_S256x1_S32x8 : Vec Ideal S32x8 .f32)
    (broadcastInDim S32x8 ![] bcast_S_S32x8 (constant (F := Ideal) S_ .f32 0x3F317218#32)))
    (broadcastInDim S32x8 ![] bcast_S_S32x8 (constant (F := Ideal) S_ .f32 0x413EE641#32))
def codesOut (a : Vec Ideal S256x2560 .fp8e4m3) : Vec Ideal S32x8x2560 .fp8e4m3 := shapeCast S32x8x2560 a shapeCasts_S256x2560_S32x8x2560
def scaleOut (a : Vec Ideal S256x1 .f32) : Vec Ideal S32x8 .f32 := shapeCast S32x8 a shapeCasts_S256x1_S32x8

/-- The arrays of the region are different buffers. -/
theorem arr_inj : Function.Injective (Pipeline.arrRef spec0) := by decide

/-- What the host lines after the region leave, from the region's outputs. -/
theorem end_v11 (c : Dev nD) (G : Vec Ideal S256x1 .f32) (hG : (dats m 0 c).arrAt 6 cfg0.N = G) :
    Pipeline.afterTail₀ cfgs (dats m) 0 (V0 m) [hostOps1] c main_v11 = lseOut G := by
  unfold Pipeline.afterTail₀
  rw [List.flatten_cons, List.flatten_nil, List.append_nil, tail_v11]
  exact congrArg lseOut ((Pipeline.withArrays_arr spec0 arr_inj c (V0 m c) (fun w => (dats m 0 c).arrAt w cfg0.N) 6).trans hG)
theorem end_v12 (c : Dev nD) (G : Vec Ideal S256x2560 .fp8e4m3) (hG : (dats m 0 c).arrAt 7 cfg0.N = G) :
    Pipeline.afterTail₀ cfgs (dats m) 0 (V0 m) [hostOps1] c main_v12 = codesOut G := by
  unfold Pipeline.afterTail₀
  rw [List.flatten_cons, List.flatten_nil, List.append_nil, tail_v12]
  exact congrArg codesOut ((Pipeline.withArrays_arr spec0 arr_inj c (V0 m c) (fun w => (dats m 0 c).arrAt w cfg0.N) 7).trans hG)
theorem end_v13 (c : Dev nD) (G : Vec Ideal S256x1 .f32) (hG : (dats m 0 c).arrAt 8 cfg0.N = G) :
    Pipeline.afterTail₀ cfgs (dats m) 0 (V0 m) [hostOps1] c main_v13 = scaleOut G := by
  unfold Pipeline.afterTail₀
  rw [List.flatten_cons, List.flatten_nil, List.append_nil, tail_v13]
  exact congrArg scaleOut ((Pipeline.withArrays_arr spec0 arr_inj c (V0 m c) (fun w => (dats m 0 c).arrAt w cfg0.N) 8).trans hG)

/-- The run: the four results at the values of the region's outputs, the arguments as launched, every counter at zero. -/
theorem run_values (g5 : Dev nD → Vec Ideal S256x1 .f32) (g6 : Dev nD → Vec Ideal S256x2560 .fp8e4m3) (g7 : Dev nD → Vec Ideal S256x1 .f32) (g8 : Dev nD → Vec Ideal S256x151936 .f32)
    (h5 : ∀ c, (dats m 0 c).arrAt 6 cfg0.N = g5 c) (h6 : ∀ c, (dats m 0 c).arrAt 7 cfg0.N = g6 c)
    (h7 : ∀ c, (dats m 0 c).arrAt 8 cfg0.N = g7 c) (h8 : ∀ c, (dats m 0 c).arrAt 5 cfg0.N = g8 c) :
    θ_run defs (onTc (τ := τ) (main (F := Ideal))) ⟨m, fun _ => 0, ρ⟩ (fun r => ∀ c : Dev nD,
      r.2.mem ((c.tc : Thread nD τ).loc main_v11) = lseOut (g5 c)
      ∧ r.2.mem ((c.tc : Thread nD τ).loc main_v12) = codesOut (g6 c)
      ∧ r.2.mem ((c.tc : Thread nD τ).loc main_v13) = scaleOut (g7 c)
      ∧ r.2.mem ((c.tc : Thread nD τ).loc main_v6_0) = g8 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h.1.1 c).2 main_v11 (Pipeline.mem_restRefs_of main_v11 (by decide) (by decide))).trans (end_v11 m c _ (h5 c)),
      ((h.1.1 c).2 main_v12 (Pipeline.mem_restRefs_of main_v12 (by decide) (by decide))).trans (end_v12 m c _ (h6 c)),
      ((h.1.1 c).2 main_v13 (Pipeline.mem_restRefs_of main_v13 (by decide) (by decide))).trans (end_v13 m c _ (h7 c)),
      ((h.1.1 c).1 5).trans (h8 c), h.2 c⟩)
    (θ_run_and (run m ρ) (frame_of m ρ (dats m) (fun _ _ => rfl) ((θ_run defs _ _).mono (fun _ h => h.1) (run m ρ))))

/-- The kernel's frame, with every counter at zero. -/
theorem frame_run : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (frame_of m ρ (dats m) (fun _ _ => rfl) ((θ_run defs _ _).mono (fun _ h => h.1) (run m ρ))) ((θ_run defs _ _).mono (fun _ h => h.2) (run m ρ))

end Cert.KernelIdeal.Hand

end
-- ==== Proof.ReadRef.lean ====
/-
  What the reference's run leaves in the arrays, read back: the region's outputs, and the host lines before and after it.
-/
module

public import Idealize.ShloMosaic.Lib.Pointwise
public import Idealize.ShloMosaic.Lib.Pipeline.ValueKit.Geometry
public import proofs.«01_k».proof.Proof.Gen.ReferenceIdeal.Frame

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf kernel pipe ΦA)

variable (m : (ℓ : Loc nD τ sig) → Buf (Elt Ideal) ℓ) (ρ : Dev nD → PrngReg)

/-! ## The host lines -/

/-- The activations, norm weights, temperatures and scales as the region finds them: the arguments reshaped. -/
theorem V_v0 (c : Dev nD) : V m c main_v0 = (shapeCast S256x2560 (m ((c : Thread nD τ).loc main_arg0) : Vec Ideal S32x8x2560 .bf16) shapeCasts_S32x8x2560_S256x2560 : Vec Ideal S256x2560 .bf16) := by
  show StableHlo.after (List.flatten [hostOps0]) (fun b => m (c, b)) (Proc.devRef .tc main_v0) = _
  simp only [List.flatten_cons, List.flatten_nil, List.append_nil]
  after_results_simp
  rfl
theorem V_v1 (c : Dev nD) : V m c main_v1 = (shapeCast S1x2560 (m ((c : Thread nD τ).loc main_arg1) : Vec Ideal S2560 .f32) shapeCasts_S2560_S1x2560 : Vec Ideal S1x2560 .f32) := by
  show StableHlo.after (List.flatten [hostOps0]) (fun b => m (c, b)) (Proc.devRef .tc main_v1) = _
  simp only [List.flatten_cons, List.flatten_nil, List.append_nil]
  after_results_simp
  rfl
theorem V_v5 (c : Dev nD) : V m c main_v5 = (shapeCast S1x151936 (m ((c : Thread nD τ).loc main_arg3) : Vec Ideal S151936 .f32) shapeCasts_S151936_S1x151936 : Vec Ideal S1x151936 .f32) := by
  show StableHlo.after (List.flatten [hostOps0]) (fun b => m (c, b)) (Proc.devRef .tc main_v5) = _
  simp only [List.flatten_cons, List.flatten_nil, List.append_nil]
  after_results_simp
  rfl
theorem V_v4 (c : Dev nD) : V m c main_v4 = (shapeCast S256x1 (broadcastInDim S32x8 ![0, 1] bcast_S32x1_S32x8_0_1
    (broadcastInDim S32x1 ![0] bcast_S32_S32x1_0 (m ((c : Thread nD τ).loc main_arg4) : Vec Ideal S32 .f32) : Vec Ideal S32x1 .f32) : Vec Ideal S32x8 .f32) shapeCasts_S32x8_S256x1 : Vec Ideal S256x1 .f32) := by
  show StableHlo.after (List.flatten [hostOps0]) (fun b => m (c, b)) (Proc.devRef .tc main_v4) = _
  simp only [List.flatten_cons, List.flatten_nil, List.append_nil]
  after_results_simp
  rfl

/-- The host lines after the region, from any contents. -/
theorem tail_v11 (W : Valuation τ sig (Elt Ideal)) : StableHlo.after hostOps1 W (Proc.devRef .tc main_v11)
    = (subf (mulf (shapeCast S32x8 (W (Proc.devRef .tc main_v6_0) : Vec Ideal S256x1 .f32) shapeCasts_S256x1_S32x8 : Vec Ideal S32x8 .f32)
        (broadcastInDim S32x8 ![] bcast_S_S32x8 (constant (F := Ideal) S_ .f32 0x3F317218#32)))
        (broadcastInDim S32x8 ![] bcast_S_S32x8 (constant (F := Ideal) S_ .f32 0x413EE641#32)) : Vec Ideal S32x8 .f32) := by
  after_results_simp
  rfl
theorem tail_v12 (W : Valuation τ sig (Elt Ideal)) : StableHlo.after hostOps1 W (Proc.devRef .tc main_v12)
    = (shapeCast S32x8x2560 (W (Proc.devRef .tc main_v6_1) : Vec Ideal S256x2560 .fp8e4m3) shapeCasts_S256x2560_S32x8x2560 : Vec Ideal S32x8x2560 .fp8e4m3) := by
  after_results_simp
  rfl
theorem tail_v13 (W : Valuation τ sig (Elt Ideal)) : StableHlo.after hostOps1 W (Proc.devRef .tc main_v13)
    = (shapeCast S32x8 (W (Proc.devRef .tc main_v6_2) : Vec Ideal S256x1 .f32) shapeCasts_S256x1_S32x8 : Vec Ideal S32x8 .f32) := by
  after_results_simp
  rfl

/-! ## The blocks are their arrays -/

theorem index0 : ∀ t : Fin cfg0.N, win0_0.index t = ![0, 0] := (by decide +kernel : ∀ t : Fin grid0.N, win0_0.index t = ![0, 0])
theorem blk0_eq (c : Dev nD) (t : Fin cfg0.N) : iblk m c 0 t = V m c main_v0 := by
  funext y
  unfold iblk
  refine congrArg (V m c main_v0) (funext fun a => Fin.ext ?_)
  match a with
  | ⟨0, _⟩ =>
    change win0_0.index t 0 * 256 + 1 * (y 0).val = (y 0).val
    rw [index0]; simp
  | ⟨1, _⟩ =>
    change win0_0.index t 1 * 2560 + 1 * (y 1).val = (y 1).val
    rw [index0]; simp
theorem index1 : ∀ t : Fin cfg0.N, win0_1.index t = ![0, 0] := (by decide +kernel : ∀ t : Fin grid0.N, win0_1.index t = ![0, 0])
theorem blk1_eq (c : Dev nD) (t : Fin cfg0.N) : iblk m c 1 t = V m c main_v1 := by
  funext y
  unfold iblk
  refine congrArg (V m c main_v1) (funext fun a => Fin.ext ?_)
  match a with
  | ⟨0, _⟩ =>
    change win0_1.index t 0 * 1 + 1 * (y 0).val = (y 0).val
    rw [index1]; simp
  | ⟨1, _⟩ =>
    change win0_1.index t 1 * 2560 + 1 * (y 1).val = (y 1).val
    rw [index1]; simp
theorem index2 : ∀ t : Fin cfg0.N, win0_2.index t = ![0, 0] := (by decide +kernel : ∀ t : Fin grid0.N, win0_2.index t = ![0, 0])
theorem blk2_eq (c : Dev nD) (t : Fin cfg0.N) : iblk m c 2 t = V m c main_v4 := by
  funext y
  unfold iblk
  refine congrArg (V m c main_v4) (funext fun a => Fin.ext ?_)
  match a with
  | ⟨0, _⟩ =>
    change win0_2.index t 0 * 256 + 1 * (y 0).val = (y 0).val
    rw [index2]; simp
  | ⟨1, _⟩ =>
    change win0_2.index t 1 * 1 + 1 * (y 1).val = (y 1).val
    rw [index2]; simp
theorem index3 : ∀ t : Fin cfg0.N, win0_3.index t = ![0, 0] := (by decide +kernel : ∀ t : Fin grid0.N, win0_3.index t = ![0, 0])
theorem blk3_eq (c : Dev nD) (t : Fin cfg0.N) : iblk m c 3 t = V m c main_arg2 := by
  funext y
  unfold iblk
  refine congrArg (V m c main_arg2) (funext fun a => Fin.ext ?_)
  match a with
  | ⟨0, _⟩ =>
    change win0_3.index t 0 * 151936 + 1 * (y 0).val = (y 0).val
    rw [index3]; simp
  | ⟨1, _⟩ =>
    change win0_3.index t 1 * 2560 + 1 * (y 1).val = (y 1).val
    rw [index3]; simp
theorem index4 : ∀ t : Fin cfg0.N, win0_4.index t = ![0, 0] := (by decide +kernel : ∀ t : Fin grid0.N, win0_4.index t = ![0, 0])
theorem blk4_eq (c : Dev nD) (t : Fin cfg0.N) : iblk m c 4 t = V m c main_v5 := by
  funext y
  unfold iblk
  refine congrArg (V m c main_v5) (funext fun a => Fin.ext ?_)
  match a with
  | ⟨0, _⟩ =>
    change win0_4.index t 0 * 1 + 1 * (y 0).val = (y 0).val
    rw [index4]; simp
  | ⟨1, _⟩ =>
    change win0_4.index t 1 * 151936 + 1 * (y 1).val = (y 1).val
    rw [index4]; simp

/-! ## What the body leaves -/

theorem off0 : (![0, 0] : Fin 2 → ℕ) = fun _ => 0 := by funext a; fin_cases a <;> rfl

variable (x0 : Vec Ideal S256x2560 .bf16) (x1 : Vec Ideal S1x2560 .f32) (x2 : Vec Ideal S256x1 .f32) (x3 : Vec Ideal S151936x2560 .fp8e4m3) (x4 : Vec Ideal S1x151936 .f32)

theorem ld0 : View.ld x0 r0_0 = x0 := View.ld_unit_zero off0 _ _
theorem ld1 : View.ld x1 r0_1 = x1 := View.ld_unit_zero off0 _ _
theorem ld2 : View.ld x2 r0_2 = x2 := View.ld_unit_zero off0 _ _
theorem ld3 : View.ld x3 r0_3 = x3 := View.ld_unit_zero off0 _ _
theorem ld4 : View.ld x4 r0_4 = x4 := View.ld_unit_zero off0 _ _

theorem out5_eq : out0_5 x0 x1 x2 x3 x4 = k0_pay2 (k0_pay4 x0 x1) (k0_pay6 x0 x1 x3) (Scalar.ofBits .f32 0x3FB8AA3B#32) x2 x4 := by
  unfold out0_5 k0_pay8 k0_pay7
  rw [ld0, ld1, ld2, ld3, ld4]
  exact View.canon_unit_zero off0 _ _
theorem out6_eq : out0_6 x0 x1 x2 x3 x4 = k0_pay5 x0 x1 := by
  unfold out0_6
  rw [ld0, ld1]
  exact View.canon_unit_zero off0 _ _
theorem out7_eq : out0_7 x0 x1 x2 x3 x4 = k0_pay4 x0 x1 := by
  unfold out0_7
  rw [ld0, ld1]
  exact View.canon_unit_zero off0 _ _
theorem out8_eq : out0_8 x0 x1 x2 x3 x4 = k0_pay1 (k0_pay4 x0 x1) (k0_pay6 x0 x1 x3) (Scalar.ofBits .f32 0x3FB8AA3B#32) x2 x4 := by
  unfold out0_8 k0_pay8 k0_pay7
  rw [ld0, ld1, ld2, ld3, ld4]
  exact View.canon_unit_zero off0 _ _

/-! ## The region's outputs -/

/-- The region's inputs. -/
abbrev X (c : Dev nD) : Vec Ideal S256x2560 .bf16 := V m c main_v0
abbrev N (c : Dev nD) : Vec Ideal S1x2560 .f32 := V m c main_v1
abbrev T (c : Dev nD) : Vec Ideal S256x1 .f32 := V m c main_v4
abbrev W (c : Dev nD) : Vec Ideal S151936x2560 .fp8e4m3 := V m c main_arg2
abbrev S (c : Dev nD) : Vec Ideal S1x151936 .f32 := V m c main_v5

theorem whole5 : (cfg0.win 5).WholeAt ⟨0, by decide⟩ := by decide +kernel
theorem last5 (c : Dev nD) (G : Vec Ideal S256x1 .f32) (hG : (dats m 0 c).after 5 ⟨0, by decide⟩ = G) : (dats m 0 c).arrAt 5 cfg0.N = G := by
  refine (dats m 0 c).arrAt_eq_of_after_last 5 ⟨0, by decide⟩ whole5 _ fun j => ?_
  rw [hG]; rfl
theorem arr_5 (c : Dev nD) : (dats m 0 c).arrAt 5 cfg0.N = k0_pay2 (F := Ideal) (k0_pay4 (X m c) (N m c)) (k0_pay6 (X m c) (N m c) (W m c)) (Scalar.ofBits .f32 0x3FB8AA3B#32) (T m c) (S m c) :=
  last5 m c _ (by rw [after0_5, blk0_eq, blk1_eq, blk2_eq, blk3_eq, blk4_eq, out5_eq])
theorem whole6 : (cfg0.win 6).WholeAt ⟨0, by decide⟩ := by decide +kernel
theorem last6 (c : Dev nD) (G : Vec Ideal S256x2560 .fp8e4m3) (hG : (dats m 0 c).after 6 ⟨0, by decide⟩ = G) : (dats m 0 c).arrAt 6 cfg0.N = G := by
  refine (dats m 0 c).arrAt_eq_of_after_last 6 ⟨0, by decide⟩ whole6 _ fun j => ?_
  rw [hG]; rfl
theorem arr_6 (c : Dev nD) : (dats m 0 c).arrAt 6 cfg0.N = k0_pay5 (F := Ideal) (X m c) (N m c) :=
  last6 m c _ (by rw [after0_6, blk0_eq, blk1_eq, blk2_eq, blk3_eq, blk4_eq, out6_eq])
theorem whole7 : (cfg0.win 7).WholeAt ⟨0, by decide⟩ := by decide +kernel
theorem last7 (c : Dev nD) (G : Vec Ideal S256x1 .f32) (hG : (dats m 0 c).after 7 ⟨0, by decide⟩ = G) : (dats m 0 c).arrAt 7 cfg0.N = G := by
  refine (dats m 0 c).arrAt_eq_of_after_last 7 ⟨0, by decide⟩ whole7 _ fun j => ?_
  rw [hG]; rfl
theorem arr_7 (c : Dev nD) : (dats m 0 c).arrAt 7 cfg0.N = k0_pay4 (F := Ideal) (X m c) (N m c) :=
  last7 m c _ (by rw [after0_7, blk0_eq, blk1_eq, blk2_eq, blk3_eq, blk4_eq, out7_eq])
theorem whole8 : (cfg0.win 8).WholeAt ⟨0, by decide⟩ := by decide +kernel
theorem last8 (c : Dev nD) (G : Vec Ideal S256x151936 .f32) (hG : (dats m 0 c).after 8 ⟨0, by decide⟩ = G) : (dats m 0 c).arrAt 8 cfg0.N = G := by
  refine (dats m 0 c).arrAt_eq_of_after_last 8 ⟨0, by decide⟩ whole8 _ fun j => ?_
  rw [hG]; rfl
theorem arr_8 (c : Dev nD) : (dats m 0 c).arrAt 8 cfg0.N = k0_pay1 (F := Ideal) (k0_pay4 (X m c) (N m c)) (k0_pay6 (X m c) (N m c) (W m c)) (Scalar.ofBits .f32 0x3FB8AA3B#32) (T m c) (S m c) :=
  last8 m c _ (by rw [after0_8, blk0_eq, blk1_eq, blk2_eq, blk3_eq, blk4_eq, out8_eq])

end Cert.ReferenceIdeal.Hand

end
-- ==== Proof.EndRef.lean ====
/-
  The reference's run, with the four results at the values the region leaves.
-/
module

public import proofs.«01_k».proof.Proof.ReadRef

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

/-- The host lines around the results: the row logarithms scaled and shifted, the codes and scales reshaped. -/
def lseOut (a : Vec Ideal S256x1 .f32) : Vec Ideal S32x8 .f32 :=
  subf (mulf (shapeCast S32x8 a shapeCasts_S256x1_S32x8 : Vec Ideal S32x8 .f32)
    (broadcastInDim S32x8 ![] bcast_S_S32x8 (constant (F := Ideal) S_ .f32 0x3F317218#32)))
    (broadcastInDim S32x8 ![] bcast_S_S32x8 (constant (F := Ideal) S_ .f32 0x413EE641#32))
def codesOut (a : Vec Ideal S256x2560 .fp8e4m3) : Vec Ideal S32x8x2560 .fp8e4m3 := shapeCast S32x8x2560 a shapeCasts_S256x2560_S32x8x2560
def scaleOut (a : Vec Ideal S256x1 .f32) : Vec Ideal S32x8 .f32 := shapeCast S32x8 a shapeCasts_S256x1_S32x8

/-- The arrays of the region are different buffers. -/
theorem arr_inj : Function.Injective (Pipeline.arrRef spec0) := by decide

/-- What the host lines after the region leave, from the region's outputs. -/
theorem end_v11 (c : Dev nD) (G : Vec Ideal S256x1 .f32) (hG : (dats m 0 c).arrAt 5 cfg0.N = G) :
    Pipeline.afterTail₀ cfgs (dats m) 0 (V0 m) [hostOps1] c main_v11 = lseOut G := by
  unfold Pipeline.afterTail₀
  rw [List.flatten_cons, List.flatten_nil, List.append_nil, tail_v11]
  exact congrArg lseOut ((Pipeline.withArrays_arr spec0 arr_inj c (V0 m c) (fun w => (dats m 0 c).arrAt w cfg0.N) 5).trans hG)
theorem end_v12 (c : Dev nD) (G : Vec Ideal S256x2560 .fp8e4m3) (hG : (dats m 0 c).arrAt 6 cfg0.N = G) :
    Pipeline.afterTail₀ cfgs (dats m) 0 (V0 m) [hostOps1] c main_v12 = codesOut G := by
  unfold Pipeline.afterTail₀
  rw [List.flatten_cons, List.flatten_nil, List.append_nil, tail_v12]
  exact congrArg codesOut ((Pipeline.withArrays_arr spec0 arr_inj c (V0 m c) (fun w => (dats m 0 c).arrAt w cfg0.N) 6).trans hG)
theorem end_v13 (c : Dev nD) (G : Vec Ideal S256x1 .f32) (hG : (dats m 0 c).arrAt 7 cfg0.N = G) :
    Pipeline.afterTail₀ cfgs (dats m) 0 (V0 m) [hostOps1] c main_v13 = scaleOut G := by
  unfold Pipeline.afterTail₀
  rw [List.flatten_cons, List.flatten_nil, List.append_nil, tail_v13]
  exact congrArg scaleOut ((Pipeline.withArrays_arr spec0 arr_inj c (V0 m c) (fun w => (dats m 0 c).arrAt w cfg0.N) 7).trans hG)

/-- The run: the four results at the values of the region's outputs, the arguments as launched, every counter at zero. -/
theorem run_values (g5 : Dev nD → Vec Ideal S256x1 .f32) (g6 : Dev nD → Vec Ideal S256x2560 .fp8e4m3) (g7 : Dev nD → Vec Ideal S256x1 .f32) (g8 : Dev nD → Vec Ideal S256x151936 .f32)
    (h5 : ∀ c, (dats m 0 c).arrAt 5 cfg0.N = g5 c) (h6 : ∀ c, (dats m 0 c).arrAt 6 cfg0.N = g6 c)
    (h7 : ∀ c, (dats m 0 c).arrAt 7 cfg0.N = g7 c) (h8 : ∀ c, (dats m 0 c).arrAt 8 cfg0.N = g8 c) :
    θ_run defs (onTc (τ := τ) (main (F := Ideal))) ⟨m, fun _ => 0, ρ⟩ (fun r => ∀ c : Dev nD,
      r.2.mem ((c.tc : Thread nD τ).loc main_v11) = lseOut (g5 c)
      ∧ r.2.mem ((c.tc : Thread nD τ).loc main_v12) = codesOut (g6 c)
      ∧ r.2.mem ((c.tc : Thread nD τ).loc main_v13) = scaleOut (g7 c)
      ∧ r.2.mem ((c.tc : Thread nD τ).loc main_v6_3) = g8 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h.1.1 c).2 main_v11 (Pipeline.mem_restRefs_of main_v11 (by decide) (by decide))).trans (end_v11 m c _ (h5 c)),
      ((h.1.1 c).2 main_v12 (Pipeline.mem_restRefs_of main_v12 (by decide) (by decide))).trans (end_v12 m c _ (h6 c)),
      ((h.1.1 c).2 main_v13 (Pipeline.mem_restRefs_of main_v13 (by decide) (by decide))).trans (end_v13 m c _ (h7 c)),
      ((h.1.1 c).1 8).trans (h8 c), h.2 c⟩)
    (θ_run_and (run_main_quiescent m ρ) (frame_of m ρ (dats m) (A_eq m) ((θ_run defs _ _).mono (fun _ h => h.1) (run_main_quiescent m ρ))))

end Cert.ReferenceIdeal.Hand

end
-- ==== Proof.Compare.lean ====
/-
  The kernel's values and the reference's are the same functions of the arrays the regions find: the codes and scales
  by computation, the scaled logits entry by entry, the rows' logarithms of sums by the one pass in blocks.
-/
module

public import proofs.«01_k».proof.Proof.Blocks
public import proofs.«01_k».proof.Proof.ReadRef

@[expose] public section

set_option maxRecDepth 16384

noncomputable section

namespace Cert.Compare

open Idealize.ShloMosaic Idealize.ShloMosaic.TcCoe Idealize.ShloMosaic.Tactic
open Cert.KernelIdeal (S256x2560 S1x2560 S256x1 S151936x2560 S1x151936 S256x151936 S256x2048)
open Cert.KernelIdeal.Hand (logits runMx runSm col negInf pay3_apply ix_col)

variable (x : Vec Ideal S256x2560 .bf16) (n : Vec Ideal S1x2560 .f32) (t : Vec Ideal S256x1 .f32)
  (w : Vec Ideal S151936x2560 .fp8e4m3) (s : Vec Ideal S1x151936 .f32)

/-- The reference's and the kernel's scales and codes: the same operations. -/
theorem scale_eq : Cert.ReferenceIdeal.Gen.k0_pay4 (F := Ideal) x n = Cert.KernelIdeal.Gen.k0_pay5 (F := Ideal) x n := rfl
theorem codes_eq : Cert.ReferenceIdeal.Gen.k0_pay5 (F := Ideal) x n = Cert.KernelIdeal.Gen.k0_pay6 (F := Ideal) x n := rfl
/-- The scratch's codes are the codes written out. -/
theorem codes_scratch : Cert.KernelIdeal.Gen.k0_pay7 (F := Ideal) x n = Cert.KernelIdeal.Gen.k0_pay6 (F := Ideal) x n := by
  funext y
  obtain ⟨r, k, rfl⟩ : ∃ (r : Fin 256) (k : Fin 2560), y = ix2 r k := ⟨y 0, y 1, eq_ix2 y⟩
  pointwise [Cert.KernelIdeal.Gen.k0_pay7]

/-- The reference's scaled logits, from the scales and the codes. -/
theorem ref_logits (sc : Vec Ideal S256x1 .f32) (r : Fin 256) (j : Fin 151936) :
    Cert.ReferenceIdeal.Gen.k0_pay1 (F := Ideal) sc (Cert.ReferenceIdeal.Gen.k0_pay6 x n w) (Scalar.ofBits .f32 0x3FB8AA3B#32) t s (ix2 r j)
      = (∑ k : Fin 2560, Cert.ReferenceIdeal.Gen.k0_pay5 (F := Ideal) x n (ix2 r k) * w (ix2 j k)) * Cert.KernelIdeal.Gen.k0_pay8 (F := Ideal) sc t (ix2 r 0) * s (ix2 0 j) := by
  pointwise [Cert.ReferenceIdeal.Gen.k0_pay1, Cert.ReferenceIdeal.Gen.k0_pay6, Cert.KernelIdeal.Gen.k0_pay8]
  try rfl

/-- The scaled logits of the two programs. -/
theorem s2_eq : Cert.ReferenceIdeal.Gen.k0_pay1 (F := Ideal) (Cert.ReferenceIdeal.Gen.k0_pay4 x n) (Cert.ReferenceIdeal.Gen.k0_pay6 x n w) (Scalar.ofBits .f32 0x3FB8AA3B#32) t s
    = logits (Cert.KernelIdeal.Gen.k0_pay7 (F := Ideal) x n) (Cert.KernelIdeal.Gen.k0_pay8 (F := Ideal) (Cert.KernelIdeal.Gen.k0_pay5 (F := Ideal) x n) t) w s := by
  funext y
  obtain ⟨r, j, rfl⟩ : ∃ (r : Fin 256) (j : Fin 151936), y = ix2 r j := ⟨y 0, y 1, eq_ix2 y⟩
  rw [codes_scratch, ref_logits, codes_eq, scale_eq]
  rfl

/-- The reference's logarithm of a row's sum over rows of any length `n`, with its operations. -/
def lseG (n : ℕ) (h : (⟨2, ![256, n]⟩ : Shape).Reduces [1] Cert.ReferenceIdeal.S256) (hb : S256x1.Broadcasts ⟨2, ![256, n]⟩)
    (hc : Cert.ReferenceIdeal.S256.ShapeCasts S256x1) (q : FVec Ideal ⟨2, ![256, n]⟩ .f32) : FVec Ideal S256x1 .f32 :=
  let m := ceil (shapeCast S256x1 (multiReduction .maximumf [1] Cert.ReferenceIdeal.S256 q 0xFF800000#32 h (.inl rfl) rfl) hc)
  addf m (divf (log (shapeCast S256x1 (multiReduction .add [1] Cert.ReferenceIdeal.S256 (exp2 (subf q (broadcastTo ⟨2, ![256, n]⟩ m hb))) 0x00000000#32 h (.inl rfl) rfl) hc))
    (log (broadcast S256x1 (Scalar.ofBits (F := Ideal) .f32 0x40000000#32))))

/-- Read at a row. -/
theorem lseG_apply (n : ℕ) (h : (⟨2, ![256, n]⟩ : Shape).Reduces [1] Cert.ReferenceIdeal.S256) (hb : S256x1.Broadcasts ⟨2, ![256, n]⟩)
    (hc : Cert.ReferenceIdeal.S256.ShapeCasts S256x1) (q : FVec Ideal ⟨2, ![256, n]⟩ .f32) (r : Fin 256) :
    lseG n h hb hc q (ix2 r 0)
      = Softmax.up (Finset.univ.fold max ⊥ fun j : Fin n => q (ix2 r j))
        + Ideal.div (Ideal.log (∑ j : Fin n, Ideal.exp2 (q (ix2 r j) - Softmax.up (Finset.univ.fold max ⊥ fun j : Fin n => q (ix2 r j)))))
          (Ideal.log (Ideal.ofBits FTy.f32 0x40000000#32)) := by
  pointwise [lseG]
  rw [negInf]
  rfl

/-- The reference's logarithm is that one of its scaled logits. -/
theorem ref_lseG (sc : Vec Ideal S256x1 .f32) (a : Vec Ideal S256x151936 .f32) (c : Ideal .f32) :
    Cert.ReferenceIdeal.Gen.k0_pay2 (F := Ideal) sc a c t s
      = lseG 151936 Cert.ReferenceIdeal.Gen.reduces_S256x151936_S256 Cert.ReferenceIdeal.Gen.broadcasts_S256x1_S256x151936 Cert.ReferenceIdeal.Gen.shapeCasts_S256_S256x1 (Cert.ReferenceIdeal.Gen.k0_pay1 (F := Ideal) sc a c t s) := by
  unfold Cert.ReferenceIdeal.Gen.k0_pay2
  generalize Cert.ReferenceIdeal.Gen.k0_pay1 (F := Ideal) sc a c t s = q
  rfl

/-- The pass over the 75 blocks ends at the maximum rounded up and the sum of the whole row. -/
theorem lse_eq (sc : Vec Ideal S256x1 .f32) (a : Vec Ideal S256x151936 .f32) (c : Ideal .f32) (s2 : Vec Ideal S256x151936 .f32)
    (h : Cert.ReferenceIdeal.Gen.k0_pay1 (F := Ideal) sc a c t s = s2) :
    Cert.ReferenceIdeal.Gen.k0_pay2 (F := Ideal) sc a c t s = Cert.KernelIdeal.Gen.k0_pay3 (F := Ideal) (runMx s2 75) (runSm s2 75) := by
  funext y
  obtain ⟨r, rfl⟩ : ∃ r : Fin 256, y = ix2 r 0 := ⟨y 0, ix_col y⟩
  rw [ref_lseG, h, lseG_apply, pay3_apply]
  have hM : runMx s2 75 (ix2 r 0) = Softmax.up (Finset.univ.fold max ⊥ fun j : Fin 151936 => s2 (ix2 r j)) :=
    Softmax.runM_total (col s2 r) (fun j => s2 (ix2 r j)) (fun _ => rfl) (75 * 2048) (by norm_num)
  have hL : runSm s2 75 (ix2 r 0) = ∑ j : Fin 151936, Ideal.exp2 (s2 (ix2 r j) - Softmax.up (Finset.univ.fold max ⊥ fun j : Fin 151936 => s2 (ix2 r j))) :=
    Softmax.runL_total (col s2 r) (fun j => s2 (ix2 r j)) (fun _ => rfl) (75 * 2048) (by norm_num)
  rw [hM, hL]

end Cert.Compare

end
-- ==== Proof.Algebraic.lean ====
/-
  The value claim: from memories agreeing on the arguments, the kernel and the reference end with equal results.
-/
module

public import proofs.«01_k».proof.Defs
public import proofs.«01_k».proof.Proof.EndKernel
public import proofs.«01_k».proof.Proof.EndRef
public import proofs.«01_k».proof.Proof.Compare

@[expose] public section

set_option maxRecDepth 16384

noncomputable section

namespace Cert.Compare

open Idealize.ShloMosaic Idealize.ShloMosaic.TcCoe Idealize.SL.Sem
open Cert.KernelIdeal (S32x8x2560 S2560 S151936x2560 S151936 S32 S32x1 S32x8 S256x2560 S1x2560 S1x151936 S256x1 S256x151936)
open Cert.KernelIdeal.Hand (runMx runSm s2T scaleT codesT rsT arrW arrS inX inN inT)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-! ## The two regions find the same arrays -/

theorem X_eq (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Hand.X m' c = inX m c :=
  (Cert.ReferenceIdeal.Hand.V_v0 m' c).trans ((congrArg (fun a : Vec Ideal S32x8x2560 .bf16 => (shapeCast S256x2560 a Cert.KernelIdeal.Gen.shapeCasts_S32x8x2560_S256x2560 : Vec Ideal S256x2560 .bf16)) h).trans
    ((Cert.KernelIdeal.Hand.inX_eq m c).trans (Cert.KernelIdeal.Hand.V_v3 m c)).symm)
theorem N_eq (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Hand.N m' c = inN m c :=
  (Cert.ReferenceIdeal.Hand.V_v1 m' c).trans ((congrArg (fun a : Vec Ideal S2560 .f32 => (shapeCast S1x2560 a Cert.KernelIdeal.Gen.shapeCasts_S2560_S1x2560 : Vec Ideal S1x2560 .f32)) h).trans
    ((Cert.KernelIdeal.Hand.inN_eq m c).trans (Cert.KernelIdeal.Hand.V_v4 m c)).symm)
theorem W_eq (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Hand.W m' c = arrW m c :=
  (Cert.ReferenceIdeal.Gen.V_main_arg2 m' c).trans (h.trans (Cert.KernelIdeal.Gen.V_main_arg2 m c).symm)
theorem S_eq (h : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Hand.S m' c = arrS m c :=
  (Cert.ReferenceIdeal.Hand.V_v5 m' c).trans ((congrArg (fun a : Vec Ideal S151936 .f32 => (shapeCast S1x151936 a Cert.KernelIdeal.Gen.shapeCasts_S151936_S1x151936 : Vec Ideal S1x151936 .f32)) h).trans
    (Cert.KernelIdeal.Hand.V_v5 m c).symm)
theorem T_eq (h : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Hand.T m' c = inT m c :=
  (Cert.ReferenceIdeal.Hand.V_v4 m' c).trans ((congrArg (fun a : Vec Ideal S32 .f32 => (shapeCast S256x1 (broadcastInDim S32x8 ![0, 1] Cert.KernelIdeal.Gen.bcast_S32x1_S32x8_0_1
      (broadcastInDim S32x1 ![0] Cert.KernelIdeal.Gen.bcast_S32_S32x1_0 a : Vec Ideal S32x1 .f32) : Vec Ideal S32x8 .f32) Cert.KernelIdeal.Gen.shapeCasts_S32x8_S256x1 : Vec Ideal S256x1 .f32)) h).trans
    ((Cert.KernelIdeal.Hand.inT_eq m c).trans (Cert.KernelIdeal.Hand.V_v2 m c)).symm)

/-! ## The two regions leave the same arrays -/

variable (hX : Cert.ReferenceIdeal.Hand.X m' c = inX m c) (hN : Cert.ReferenceIdeal.Hand.N m' c = inN m c)
  (hW : Cert.ReferenceIdeal.Hand.W m' c = arrW m c) (hS : Cert.ReferenceIdeal.Hand.S m' c = arrS m c) (hT : Cert.ReferenceIdeal.Hand.T m' c = inT m c)
include hX hN

theorem codes_out : (Cert.ReferenceIdeal.Gen.dats (F := Ideal) m' 0 c).arrAt 6 Cert.ReferenceIdeal.cfg0.N = Cert.KernelIdeal.Gen.k0_pay6 (F := Ideal) (inX m c) (inN m c) :=
  (Cert.ReferenceIdeal.Hand.arr_6 m' c).trans (by rw [hX, hN]; exact codes_eq _ _)
theorem scale_out : (Cert.ReferenceIdeal.Gen.dats (F := Ideal) m' 0 c).arrAt 7 Cert.ReferenceIdeal.cfg0.N = scaleT m c :=
  (Cert.ReferenceIdeal.Hand.arr_7 m' c).trans (by rw [hX, hN]; exact scale_eq _ _)

include hW hS hT
theorem logits_out : Cert.ReferenceIdeal.Gen.k0_pay1 (F := Ideal) (Cert.ReferenceIdeal.Gen.k0_pay4 (Cert.ReferenceIdeal.Hand.X m' c) (Cert.ReferenceIdeal.Hand.N m' c))
      (Cert.ReferenceIdeal.Gen.k0_pay6 (Cert.ReferenceIdeal.Hand.X m' c) (Cert.ReferenceIdeal.Hand.N m' c) (Cert.ReferenceIdeal.Hand.W m' c)) (Scalar.ofBits .f32 0x3FB8AA3B#32)
      (Cert.ReferenceIdeal.Hand.T m' c) (Cert.ReferenceIdeal.Hand.S m' c) = s2T m c := by
  rw [hX, hN, hW, hS, hT]
  exact s2_eq _ _ _ _ _
theorem s2_out : (Cert.ReferenceIdeal.Gen.dats (F := Ideal) m' 0 c).arrAt 8 Cert.ReferenceIdeal.cfg0.N = s2T m c :=
  (Cert.ReferenceIdeal.Hand.arr_8 m' c).trans (logits_out m m' c hX hN hW hS hT)
theorem lse_out : (Cert.ReferenceIdeal.Gen.dats (F := Ideal) m' 0 c).arrAt 5 Cert.ReferenceIdeal.cfg0.N = Cert.KernelIdeal.Gen.k0_pay3 (F := Ideal) (runMx (s2T m c) 75) (runSm (s2T m c) 75) :=
  (Cert.ReferenceIdeal.Hand.arr_5 m' c).trans (lse_eq _ _ _ _ _ _ (logits_out m m' c hX hN hW hS hT))

end Cert.Compare

/-- The claim. -/
theorem Cert.Compare.algebraic : Cert.algebraic_KernelIdeal_ReferenceIdeal (hKernelIdeal := Cert.KernelIdeal.Gen.facts) (hReferenceIdeal := Cert.ReferenceIdeal.Gen.facts) :=
  fun m g m' g' _ h => ⟨_, _, _, _,
    Cert.KernelIdeal.Hand.run_values m g _ _ _ _ (Cert.KernelIdeal.Hand.arr_6 m) (Cert.KernelIdeal.Hand.arr_7 m) (Cert.KernelIdeal.Hand.arr_8 m) (Cert.KernelIdeal.Hand.arr_5 m),
    Cert.ReferenceIdeal.Hand.run_values m' g' _ _ _ _
      (fun c => Cert.Compare.lse_out m m' c (Cert.Compare.X_eq m m' c (h c).1) (Cert.Compare.N_eq m m' c (h c).2.1) (Cert.Compare.W_eq m m' c (h c).2.2.1) (Cert.Compare.S_eq m m' c (h c).2.2.2.1) (Cert.Compare.T_eq m m' c (h c).2.2.2.2))
      (fun c => Cert.Compare.codes_out m m' c (Cert.Compare.X_eq m m' c (h c).1) (Cert.Compare.N_eq m m' c (h c).2.1))
      (fun c => Cert.Compare.scale_out m m' c (Cert.Compare.X_eq m m' c (h c).1) (Cert.Compare.N_eq m m' c (h c).2.1))
      (fun c => Cert.Compare.s2_out m m' c (Cert.Compare.X_eq m m' c (h c).1) (Cert.Compare.N_eq m m' c (h c).2.1) (Cert.Compare.W_eq m m' c (h c).2.2.1) (Cert.Compare.S_eq m m' c (h c).2.2.2.1) (Cert.Compare.T_eq m m' c (h c).2.2.2.2))⟩

end
-- ==== Proof.MassBitsSlab.lean ====
/-
  The mass body as 32 runs of one step: the step of batch `b` reads rows 8b..8b+7 and updates the same rows of the
  three results.
-/
module

public import proofs.«01_k».proof.Mass

@[expose] public section

set_option maxRecDepth 100000

noncomputable section

namespace Cert.Mass.Hand

open Cert.Mass
open Idealize.ShloMosaic Idealize.SL.Sem

variable {F : FTy → Type} [FloatOps F]
variable [Facts]
open Facts₀ Facts

/-- Rows 8b..8b+7 lie within 256 rows. -/
theorem inbRow (b : Nat) (hb : b < 32) (n : Nat) (a : Fin 2) :
    (![8 * b, 0] : Fin 2 → Nat) a + (![8, n] : Fin 2 → Nat) a ≤ (![256, n] : Fin 2 → Nat) a := by
  match a with
  | 0 => show 8 * b + 8 ≤ 256; omega
  | 1 => show 0 + n ≤ n; omega

/-- Batch b lies within 32 batches. -/
theorem inbBatch (b : Nat) (hb : b < 32) (a : Fin 3) :
    (![b, 0, 0] : Fin 3 → Nat) a + (![1, 7, 2048] : Fin 3 → Nat) a ≤ (![32, 7, 2048] : Fin 3 → Nat) a := by
  match a with
  | 0 => show b + 1 ≤ 32; omega
  | 1 => show 0 + 7 ≤ 7; omega
  | 2 => show 0 + 2048 ≤ 2048; omega

abbrev r2048 (b : Nat) (hb : b < 32) :=
  Rect.unit (s := S256x2048) ![8 * b, 0] S8x2048.size (inbRow b hb 2048)
abbrev r297 (b : Nat) (hb : b < 32) :=
  Rect.unit (s := S256x297) ![8 * b, 0] S8x297.size (inbRow b hb 297)
abbrev r1 (b : Nat) (hb : b < 32) :=
  Rect.unit (s := S256x1) ![8 * b, 0] S8x1.size (inbRow b hb 1)
abbrev rC (b : Nat) (hb : b < 32) :=
  Rect.unit (s := S32x7x2048) ![b, 0, 0] S1x7x2048.size (inbBatch b hb)

/-- The column indices of step i. -/
def colV (arg0 : BitVec 32) : IVec S8x2048 32 :=
  addi (broadcast S8x2048 (Scalar.muli arg0 2048#32)) (iota .tc S8x2048 32 [1] iota_S8x2048_d1_w32)

/-- The draft codes of one batch as floats, the eighth row zero. -/
def codeV (x : Vec F S1x7x2048 .i8) : FVec F S8x2048 .f32 :=
  concatenate S8x2048 0 [⟨S7x2048, sitofp .f32 (shapeCast S7x2048 x shapeCasts_S1x7x2048_S7x2048 : IVec S7x2048 8)⟩,
    ⟨S1x2048, broadcast S1x2048 (Scalar.ofBits .f32 0x00000000#32 : F .f32)⟩] concatenates_S7x2048_S1x2048_S8x2048_d0

/-- The residual of one batch. -/
def resV (arg0 : BitVec 32) (s2 : Vec F S8x2048 .f32) (lse : Vec F S8x1 .f32) (dc : Vec F S1x7x2048 .i8)
    (qs ql : Vec F S8x1 .f32) : FVec F S8x2048 .f32 :=
  select (cmpi .slt (colV arg0) (broadcast S8x2048 151936#32))
    (maximumf
      (subf (exp2 (subf s2 (broadcastTo S8x2048 lse broadcasts_S8x1_S8x2048)))
        (exp (subf (mulf (codeV dc) (broadcastTo S8x2048 (shapeCast S8x1 qs shapeCasts_S8x1_S8x1 : FVec F S8x1 .f32) broadcasts_S8x1_S8x2048))
          (broadcastTo S8x2048 (shapeCast S8x1 ql shapeCasts_S8x1_S8x1 : FVec F S8x1 .f32) broadcasts_S8x1_S8x2048))))
      (broadcast S8x2048 (Scalar.ofBits .f32 0x00000000#32 : F .f32)))
    (broadcast S8x2048 (Scalar.ofBits .f32 0x00000000#32 : F .f32))

/-- Where the column is the row's drawn id. -/
def hitV (arg0 : BitVec 32) (ids : Vec F S8x1 .i32) : IVec S8x2048 1 :=
  cmpi .eq (colV arg0) (broadcastTo S8x2048 (shapeCast S8x1 ids shapeCasts_S8x1_S8x1 : IVec S8x1 32) broadcasts_S8x1_S8x2048)

/-- The row sums of `x` at the hits, added to `old`. -/
def pickV (hit : IVec S8x2048 1) (old : Vec F S8x1 .f32) (x : FVec F S8x2048 .f32) : FVec F S8x1 .f32 :=
  addf (shapeCast S8x1 old shapeCasts_S8x1_S8x1 : FVec F S8x1 .f32)
    (shapeCast S8x1 (multiReduction .add [1] S8
      (select hit x (broadcast S8x2048 (Scalar.ofBits .f32 0x00000000#32 : F .f32))) 0x00000000#32 reduces_S8x2048_S8 (.inl rfl) rfl : FVec F S8 .f32)
      shapeCasts_S8_S8x1)

/-- One tile's row sums put at its lane. -/
def putV (arg0 k : BitVec 32) (part : FVec F S8x512 .f32) (out : FVec F S8x297 .f32) : FVec F S8x297 .f32 :=
  select (cmpi .eq (iota .tc S8x297 32 [1] iota_S8x297_d1_w32)
      (broadcast S8x297 (Scalar.addi (Scalar.muli arg0 4#32) k)))
    (broadcastTo S8x297 (shapeCast S8x1 (shapeCast S8x1
      (multiReduction .add [1] S8 part 0x00000000#32 reduces_S8x512_S8 (.inl rfl) rfl : FVec F S8 .f32)
      shapeCasts_S8_S8x1 : FVec F S8x1 .f32) shapeCasts_S8x1_S8x1 : FVec F S8x1 .f32) broadcasts_S8x1_S8x297) out

/-- The four tiles of one step put at their lanes. -/
def massV (arg0 : BitVec 32) (res : FVec F S8x2048 .f32) (old : Vec F S8x297 .f32) : FVec F S8x297 .f32 :=
  putV arg0 3#32 (extractStridedSlice S8x512 ![0, 1536] res slices_S8x2048_o0_1536_S8x512)
  (putV arg0 2#32 (extractStridedSlice S8x512 ![0, 1024] res slices_S8x2048_o0_1024_S8x512)
  (putV arg0 1#32 (extractStridedSlice S8x512 ![0, 512] res slices_S8x2048_o0_512_S8x512)
  (putV arg0 0#32 (extractStridedSlice S8x512 ![0, 0] res slices_S8x2048_o0_0_S8x512)
    (shapeCast S8x297 old shapeCasts_S8x297_S8x297 : FVec F S8x297 .f32))))

section body
variable (i : grid0.Coords) (arg1 : Memref sig .tc .vmem S256x2048 .f32) (harg1 : arg1.IsWhole) (arg2 : Memref sig .tc .vmem S256x1 .f32) (harg2 : arg2.IsWhole) (arg3 : Memref sig .tc .vmem S32x7x2048 .i8) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .i32) (harg6 : arg6.IsWhole) (arg7 : Memref sig .tc .vmem S256x297 .f32) (harg7 : arg7.IsWhole) (arg8 : Memref sig .tc .vmem S256x1 .f32) (harg8 : arg8.IsWhole) (arg9 : Memref sig .tc .vmem S256x1 .f32) (harg9 : arg9.IsWhole)

/-- The step of batch `b`. -/
def slab (b : Nat) (hb : b < 32) : Prog (TpuEff nD τ sig (Elt F) Λ₀ .tc) PUnit := do
  let s2 : Vec F S8x2048 .f32 ← Prog.lift (.load arg1 (r2048 b hb).toLoadRect (View.loadsAt_vmem h_S8x2048))
  let lse : Vec F S8x1 .f32 ← Prog.lift (.load arg2 (r1 b hb).toLoadRect (View.loadsAt_vmem h_S8x1))
  let dc : Vec F S1x7x2048 .i8 ← Prog.lift (.load arg3 (rC b hb).toLoadRect (View.loadsAt_vmem h_S1x7x2048))
  let qs : Vec F S8x1 .f32 ← Prog.lift (.load arg4 (r1 b hb).toLoadRect (View.loadsAt_vmem h_S8x1))
  let ql : Vec F S8x1 .f32 ← Prog.lift (.load arg5 (r1 b hb).toLoadRect (View.loadsAt_vmem h_S8x1))
  let ids : Vec F S8x1 .i32 ← Prog.lift (.load arg6 (r1 b hb).toLoadRect (View.loadsAt_vmem h_S8x1))
  let o8 : Vec F S8x1 .f32 ← Prog.lift (.load arg8 (r1 b hb).toLoadRect (View.loadsAt_vmem h_S8x1))
  let _o8 : Vec F S8x1 .f32 ← Prog.lift (.load arg8 (r1 b hb).toLoadRect (View.loadsAt_vmem h_S8x1))
  Prog.lift (.store arg8 (r1 b hb) (pickV (hitV (F := F) (BitVec.ofNat 32 (i 0).val) ids) o8 s2) Finset.univ (View.stores_vmem_bits_univ h_S8x1 rfl) (.inl rfl))
  let o9 : Vec F S8x1 .f32 ← Prog.lift (.load arg9 (r1 b hb).toLoadRect (View.loadsAt_vmem h_S8x1))
  let _o9 : Vec F S8x1 .f32 ← Prog.lift (.load arg9 (r1 b hb).toLoadRect (View.loadsAt_vmem h_S8x1))
  Prog.lift (.store arg9 (r1 b hb) (pickV (hitV (F := F) (BitVec.ofNat 32 (i 0).val) ids) o9 (codeV dc)) Finset.univ (View.stores_vmem_bits_univ h_S8x1 rfl) (.inl rfl))
  let o7 : Vec F S8x297 .f32 ← Prog.lift (.load arg7 (r297 b hb).toLoadRect (View.loadsAt_vmem h_S8x297))
  let _o7 : Vec F S8x297 .f32 ← Prog.lift (.load arg7 (r297 b hb).toLoadRect (View.loadsAt_vmem h_S8x297))
  Prog.lift (.store arg7 (r297 b hb) (massV (BitVec.ofNat 32 (i 0).val) (resV (BitVec.ofNat 32 (i 0).val) s2 lse dc qs ql) o7) Finset.univ (View.stores_vmem_bits_univ h_S8x297 rfl) (.inl rfl))

/-- The last `n` batches in order. -/
def slabs : (n : Nat) → (hn : n ≤ 32) → Prog (TpuEff nD τ sig (Elt F) Λ₀ .tc) PUnit
  | 0, _ => pure ⟨⟩
  | n + 1, hn => slab i arg1 arg2 arg3 arg4 arg5 arg6 arg7 arg8 arg9 (32 - (n + 1)) (by omega) >>= fun _ => slabs n (by omega)

/-- The zeroing at the first step. -/
def zeroing : Prog (TpuEff nD τ sig (Elt F) Λ₀ .tc) PUnit :=
  if Scalar.cmpi .ne (Scalar.extui (Scalar.cmpi .eq (BitVec.ofNat 32 (i 0).val) 0#32) : BitVec 32) 0#32 = 1#1 then do
    let v2857 : Vec F S256x297 .f32 ← Prog.lift (.load arg7 (Rect.unit (s := S256x297) ![0, 0] S256x297.size inb_S256x297_S256x297_0_0).toLoadRect (View.loadsAt_vmem h_S256x297))
    Prog.lift (.store arg7 (Rect.unit (s := S256x297) ![0, 0] S256x297.size inb_S256x297_S256x297_0_0) (broadcast S256x297 (Scalar.ofBits .f32 0x00000000#32 : F .f32)) Finset.univ (View.stores_vmem_bits_univ h_S256x297 rfl) (.inl rfl))
    let v2859 : Vec F S256x1 .f32 ← Prog.lift (.load arg8 (Rect.unit (s := S256x1) ![0, 0] S256x1.size inb_S256x1_S256x1_0_0).toLoadRect (View.loadsAt_vmem h_S256x1))
    Prog.lift (.store arg8 (Rect.unit (s := S256x1) ![0, 0] S256x1.size inb_S256x1_S256x1_0_0) (broadcast S256x1 (Scalar.ofBits .f32 0x00000000#32 : F .f32)) Finset.univ (View.stores_vmem_bits_univ h_S256x1 rfl) (.inl rfl))
    let v2861 : Vec F S256x1 .f32 ← Prog.lift (.load arg9 (Rect.unit (s := S256x1) ![0, 0] S256x1.size inb_S256x1_S256x1_0_0).toLoadRect (View.loadsAt_vmem h_S256x1))
    Prog.lift (.store arg9 (Rect.unit (s := S256x1) ![0, 0] S256x1.size inb_S256x1_S256x1_0_0) (broadcast S256x1 (Scalar.ofBits .f32 0x00000000#32 : F .f32)) Finset.univ (View.stores_vmem_bits_univ h_S256x1 rfl) (.inl rfl))
    pure ⟨⟩
  else pure ⟨⟩

end body

end Cert.Mass.Hand
-- ==== Proof.MassBitsSame.lean ====
/-
  The mass body is the zeroing followed by the 32 steps.
-/
module

public import proofs.«01_k».proof.Proof.MassBitsSlab

@[expose] public section

set_option maxRecDepth 100000
set_option maxHeartbeats 0

noncomputable section

namespace Cert.Mass.Hand

open Cert.Mass
open Idealize.ShloMosaic Idealize.SL.Sem

variable {F : FTy → Type} [FloatOps F]
variable [Facts]
open Facts₀ Facts

universe v in
/-- Two programs with the same first effect and the same continuations are the same. -/
theorem op_congr {E : Type → Type v} {α β : Type} (e : E β) {k k' : β → Prog E α} (h : ∀ x, k x = k' x) :
    Prog.op e k = Prog.op e k' := by rw [show k = k' from funext h]

section body
variable (i : grid0.Coords) (arg1 : Memref sig .tc .vmem S256x2048 .f32) (harg1 : arg1.IsWhole) (arg2 : Memref sig .tc .vmem S256x1 .f32) (harg2 : arg2.IsWhole) (arg3 : Memref sig .tc .vmem S32x7x2048 .i8) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .i32) (harg6 : arg6.IsWhole) (arg7 : Memref sig .tc .vmem S256x297 .f32) (harg7 : arg7.IsWhole) (arg8 : Memref sig .tc .vmem S256x1 .f32) (harg8 : arg8.IsWhole) (arg9 : Memref sig .tc .vmem S256x1 .f32) (harg9 : arg9.IsWhole)

theorem mass_same :
    (cc0_mass (F := F) i arg1 harg1 arg2 harg2 arg3 harg3 arg4 harg4 arg5 harg5 arg6 harg6 arg7 harg7 arg8 harg8 arg9 harg9) =
      (zeroing i arg7 arg8 arg9 >>= fun _ => slabs i arg1 arg2 arg3 arg4 arg5 arg6 arg7 arg8 arg9 32 (le_refl _)) := by
  unfold cc0_mass k0_part74 k0_part1 zeroing
  by_cases h : Scalar.cmpi .ne (Scalar.extui (Scalar.cmpi .eq (BitVec.ofNat 32 (i 0).val) 0#32) : BitVec 32) 0#32 = 1#1
  · rw [if_pos h]
    simp only [dif_pos h]
    iterate 486 refine op_congr _ fun _ => ?_
    rfl
  · rw [if_neg h]
    simp only [dif_neg h]
    iterate 480 refine op_congr _ fun _ => ?_
    rfl

end body

end Cert.Mass.Hand
-- ==== Proof.MassBitsBody.lean ====
/-
  The body of the mass kernel as a triple over symbolic staging memrefs: one batch's step by the executor, the 32
  steps by induction.
-/
module

public import proofs.«01_k».proof.Proof.MassBitsSame
public import proofs.«01_k».proof.Proof.Gen.Mass.Frame
public import Idealize.ShloMosaic.Lib.Pipeline.TableIdle
public import Idealize.ShloMosaic.Lib.VecWindow
public import Idealize.ShloMosaic.Lib.Pipeline.Value

@[expose] public section

set_option maxRecDepth 16384

noncomputable section

namespace Cert.Mass.Hand

open Cert.Mass Cert.Mass.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The kernel's variants: none. -/
abbrev 𝒱₀ : Variants := Variants.none

/-- Rows 8b..8b+7 of a column. -/
abbrev w1 {e : EltTy} (b : Nat) (hb : b < 32) (X : Vec F S256x1 e) : Vec F S8x1 e :=
  VecWindow.window X ![8 * b, 0] S8x1.size (inbRow b hb 1)
/-- Rows 8b..8b+7 of a block of scaled logits. -/
abbrev w2048 (b : Nat) (hb : b < 32) (X : Vec F S256x2048 .f32) : Vec F S8x2048 .f32 :=
  VecWindow.window X ![8 * b, 0] S8x2048.size (inbRow b hb 2048)
/-- Rows 8b..8b+7 of the tile masses. -/
abbrev w297 (b : Nat) (hb : b < 32) (X : Vec F S256x297 .f32) : Vec F S8x297 .f32 :=
  VecWindow.window X ![8 * b, 0] S8x297.size (inbRow b hb 297)
/-- Batch b of a block of draft codes. -/
abbrev wC (b : Nat) (hb : b < 32) (X : Vec F S32x7x2048 .i8) : Vec F S1x7x2048 .i8 :=
  VecWindow.window X ![b, 0, 0] S1x7x2048.size (inbBatch b hb)

/-- The tile masses after batch `b`. -/
def upd7 (a0 : BitVec 32) (x1 : Vec F S256x2048 .f32) (x2 : Vec F S256x1 .f32) (x3 : Vec F S32x7x2048 .i8)
    (x4 x5 : Vec F S256x1 .f32) (b : Nat) (hb : b < 32) (X : Vec F S256x297 .f32) : Vec F S256x297 .f32 :=
  VecWindow.put X ![8 * b, 0] S8x297.size
    (massV a0 (resV a0 (w2048 b hb x1) (w1 b hb x2) (wC b hb x3) (w1 b hb x4) (w1 b hb x5)) (w297 b hb X))
/-- The picked scaled logits after batch `b`. -/
def upd8 (a0 : BitVec 32) (x1 : Vec F S256x2048 .f32) (x6 : Vec F S256x1 .i32) (b : Nat) (hb : b < 32)
    (X : Vec F S256x1 .f32) : Vec F S256x1 .f32 :=
  VecWindow.put X ![8 * b, 0] S8x1.size (pickV (hitV (F := F) a0 (w1 b hb x6)) (w1 b hb X) (w2048 b hb x1))
/-- The picked codes after batch `b`. -/
def upd9 (a0 : BitVec 32) (x3 : Vec F S32x7x2048 .i8) (x6 : Vec F S256x1 .i32) (b : Nat) (hb : b < 32)
    (X : Vec F S256x1 .f32) : Vec F S256x1 .f32 :=
  VecWindow.put X ![8 * b, 0] S8x1.size (pickV (hitV (F := F) a0 (w1 b hb x6)) (w1 b hb X) (codeV (wC b hb x3)))

/-- The last `n` batches' updates in order. -/
def runUpd {α : Type} (u : (b : Nat) → b < 32 → α → α) : (n : Nat) → n ≤ 32 → α → α
  | 0, _, X => X
  | n + 1, hn, X => runUpd u n (by omega) (u (32 - (n + 1)) (by omega) X)

/-- A memref whose elements hold contents that read as `X` is owned at `X`. -/
theorem settleRead (c : Thread nD τ) {sp : Space} {sh : Shape} {e : EltTy} (m : Memref sig c.2.kind sp sh e) (q : PosShare TreeShare)
    (f : Buf (Elt F) (m.view.loc c)) (X : sh.Idx → Elt F e) (h : m.view.read (Elt F) f = X) :
    (m.view.loc c ↦[m.view.set]{q} f) ⊢ (owns c m q X : sProp 𝕄) := by
  unfold owns
  iintro H
  iexists _
  isplitr
  · ipureintro
    exact h
  iexact H

/-- A load of a memref's batch rows reads that window of its contents. -/
theorem rd1 {κ : Kind} {sp : Space} {e : EltTy} (v : View sig κ sp S256x1 e) (x : Vec F S256x1 e) (b : Nat) (hb : b < 32) :
    v.readAt (Elt F) (r1 b hb).toLoadRect (v.rep x) = w1 b hb x := View.readAt_rep_unit v x _ rfl _
theorem rd2048 {κ : Kind} {sp : Space} (v : View sig κ sp S256x2048 .f32) (x : Vec F S256x2048 .f32) (b : Nat) (hb : b < 32) :
    v.readAt (Elt F) (r2048 b hb).toLoadRect (v.rep x) = w2048 b hb x := View.readAt_rep_unit v x _ rfl _
theorem rd297 {κ : Kind} {sp : Space} (v : View sig κ sp S256x297 .f32) (x : Vec F S256x297 .f32) (b : Nat) (hb : b < 32) :
    v.readAt (Elt F) (r297 b hb).toLoadRect (v.rep x) = w297 b hb x := View.readAt_rep_unit v x _ rfl _
theorem rdC {κ : Kind} {sp : Space} (v : View sig κ sp S32x7x2048 .i8) (x : Vec F S32x7x2048 .i8) (b : Nat) (hb : b < 32) :
    v.readAt (Elt F) (rC b hb).toLoadRect (v.rep x) = wC b hb x := View.readAt_rep_unit v x _ rfl _

section
variable (c : Dev nD) (E : Set ℕ) (i : grid0.Coords)
  (M1 : Memref sig .tc .vmem S256x2048 .f32) (h1 : M1.IsWhole) (M2 : Memref sig .tc .vmem S256x1 .f32) (h2 : M2.IsWhole)
  (M3 : Memref sig .tc .vmem S32x7x2048 .i8) (h3 : M3.IsWhole) (M4 : Memref sig .tc .vmem S256x1 .f32) (h4 : M4.IsWhole)
  (M5 : Memref sig .tc .vmem S256x1 .f32) (h5 : M5.IsWhole) (M6 : Memref sig .tc .vmem S256x1 .i32) (h6 : M6.IsWhole)
  (M7 : Memref sig .tc .vmem S256x297 .f32) (h7 : M7.IsWhole) (M8 : Memref sig .tc .vmem S256x1 .f32) (h8 : M8.IsWhole)
  (M9 : Memref sig .tc .vmem S256x1 .f32) (h9 : M9.IsWhole)
  (x1 : Vec F S256x2048 .f32) (x2 : Vec F S256x1 .f32) (x3 : Vec F S32x7x2048 .i8) (x4 x5 : Vec F S256x1 .f32)
  (x6 : Vec F S256x1 .i32)

/-- The six inputs owned at their contents. -/
def ins : sProp 𝕄 :=
  iprop(owns (c : Thread nD τ) M1 fullShare x1 ∗ owns (c : Thread nD τ) M2 fullShare x2 ∗ owns (c : Thread nD τ) M3 fullShare x3
    ∗ owns (c : Thread nD τ) M4 fullShare x4 ∗ owns (c : Thread nD τ) M5 fullShare x5 ∗ owns (c : Thread nD τ) M6 fullShare x6)

/-- One batch's step. -/
theorem slab_triple (b : Nat) (hb : b < 32) (X7 : Vec F S256x297 .f32) (X8 X9 : Vec F S256x1 .f32) (K : PUnit → sProp 𝕄) :
    iprop((ins c M1 M2 M3 M4 M5 M6 x1 x2 x3 x4 x5 x6 ∗ owns (c : Thread nD τ) M7 fullShare X7 ∗ owns (c : Thread nD τ) M8 fullShare X8 ∗ owns (c : Thread nD τ) M9 fullShare X9)
          ∗ (iprop(ins c M1 M2 M3 M4 M5 M6 x1 x2 x3 x4 x5 x6
              ∗ owns (c : Thread nD τ) M7 fullShare (upd7 (BitVec.ofNat 32 (i 0).val) x1 x2 x3 x4 x5 b hb X7)
              ∗ owns (c : Thread nD τ) M8 fullShare (upd8 (BitVec.ofNat 32 (i 0).val) x1 x6 b hb X8)
              ∗ owns (c : Thread nD τ) M9 fullShare (upd9 (BitVec.ofNat 32 (i 0).val) x3 x6 b hb X9)) -∗ K ⟨⟩))
      ⊢ wp frame (wpE (defs₀ (F := F)) 𝒱₀ c none) E (slab i M1 M2 M3 M4 M5 M6 M7 M8 M9 b hb) K := by
  unfold slab
  refine Entails.trans (Q := iprop(((((M1.view.loc (c : Thread nD τ) ↦[M1.view.set]{fullShare} M1.view.rep x1) ∗ (M2.view.loc (c : Thread nD τ) ↦[M2.view.set]{fullShare} M2.view.rep x2)
    ∗ (M3.view.loc (c : Thread nD τ) ↦[M3.view.set]{fullShare} M3.view.rep x3) ∗ (M4.view.loc (c : Thread nD τ) ↦[M4.view.set]{fullShare} M4.view.rep x4)
    ∗ (M5.view.loc (c : Thread nD τ) ↦[M5.view.set]{fullShare} M5.view.rep x5) ∗ (M6.view.loc (c : Thread nD τ) ↦[M6.view.set]{fullShare} M6.view.rep x6))
    ∗ (M7.view.loc (c : Thread nD τ) ↦[M7.view.set]{fullShare} M7.view.rep X7) ∗ (M8.view.loc (c : Thread nD τ) ↦[M8.view.set]{fullShare} M8.view.rep X8)
    ∗ (M9.view.loc (c : Thread nD τ) ↦[M9.view.set]{fullShare} M9.view.rep X9))
    ∗ _))) (sep_mono (Entails.of_eq (by unfold ins; simp only [owns_eq_rep])) .rfl) ?_
  iintro ⟨⟨⟨H1, H2, H3, H4, H5, H6⟩, H7, H8, H9⟩, Hk⟩
  sl_exec!
  sl_step
  simp only [rd1, rd2048, rd297, rdC]
  iapply Hk
  unfold ins
  isplitl [H1 H2 H3 H4 H5 H6]
  · simp only [owns_eq_rep]
    isplitl [H1]
    · iexact H1
    isplitl [H2]
    · iexact H2
    isplitl [H3]
    · iexact H3
    isplitl [H4]
    · iexact H4
    isplitl [H5]
    · iexact H5
    iexact H6
  isplitl [H7]
  · iapply (settleRead (c : Thread nD τ) M7 fullShare _ _ (View.read_writes_rep_unit M7.view X7 _ _ rfl))
    iexact H7
  isplitl [H8]
  · iapply (settleRead (c : Thread nD τ) M8 fullShare _ _ (View.read_writes_rep_unit M8.view X8 _ _ rfl))
    iexact H8
  iapply (settleRead (c : Thread nD τ) M9 fullShare _ _ (View.read_writes_rep_unit M9.view X9 _ _ rfl))
  iexact H9

/-- The last `n` batches' steps. -/
theorem slabs_triple : ∀ (n : Nat) (hn : n ≤ 32) (X7 : Vec F S256x297 .f32) (X8 X9 : Vec F S256x1 .f32) (K : PUnit → sProp 𝕄),
    iprop((ins c M1 M2 M3 M4 M5 M6 x1 x2 x3 x4 x5 x6 ∗ owns (c : Thread nD τ) M7 fullShare X7 ∗ owns (c : Thread nD τ) M8 fullShare X8 ∗ owns (c : Thread nD τ) M9 fullShare X9)
          ∗ (iprop(ins c M1 M2 M3 M4 M5 M6 x1 x2 x3 x4 x5 x6
              ∗ owns (c : Thread nD τ) M7 fullShare (runUpd (upd7 (BitVec.ofNat 32 (i 0).val) x1 x2 x3 x4 x5) n hn X7)
              ∗ owns (c : Thread nD τ) M8 fullShare (runUpd (upd8 (BitVec.ofNat 32 (i 0).val) x1 x6) n hn X8)
              ∗ owns (c : Thread nD τ) M9 fullShare (runUpd (upd9 (BitVec.ofNat 32 (i 0).val) x3 x6) n hn X9)) -∗ K ⟨⟩))
      ⊢ wp frame (wpE (defs₀ (F := F)) 𝒱₀ c none) E (slabs i M1 M2 M3 M4 M5 M6 M7 M8 M9 n hn) K
  | 0, hn, X7, X8, X9, K => by
      unfold slabs runUpd
      iintro ⟨H, Hk⟩
      sl_step
      iapply Hk
      iexact H
  | n + 1, hn, X7, X8, X9, K => by
      unfold slabs runUpd
      rw [wp_bind]
      have hb : 32 - (n + 1) < 32 := by omega
      have hn' : n ≤ 32 := by omega
      iintro ⟨H, Hk⟩
      iapply (slab_triple c E i M1 M2 M3 M4 M5 M6 M7 M8 M9 x1 x2 x3 x4 x5 x6 (32 - (n + 1)) hb X7 X8 X9)
      isplitl [H]
      · iexact H
      iintro H
      iapply (slabs_triple n hn' _ _ _ K)
      isplitl [H]
      · iexact H
      iexact Hk

/-- What an output's buffer holds after the zeroing. -/
def start {α : Type} (i : grid0.Coords) (Z X : α) : α := if (i 0).val = 0 then Z else X

/-- Zeros. -/
def zero297 : Vec F S256x297 .f32 := broadcast S256x297 (Scalar.ofBits .f32 0x00000000#32 : F .f32)
def zero1 : Vec F S256x1 .f32 := broadcast S256x1 (Scalar.ofBits .f32 0x00000000#32 : F .f32)

/-- The zeroing's condition holds at the first point only. -/
theorem hcond : ∀ i : grid0.Coords, Scalar.cmpi .ne (Scalar.extui (Scalar.cmpi .eq (BitVec.ofNat 32 (i 0).val) 0#32) : BitVec 32) 0#32 = 1#1 ↔ (i 0).val = 0 :=
  fun i => (by decide +kernel : ∀ k : Fin 75, Scalar.cmpi .ne (Scalar.extui (Scalar.cmpi .eq (BitVec.ofNat 32 k.val) 0#32) : BitVec 32) 0#32 = 1#1 ↔ k.val = 0) (i 0)

/-- The zeroing. -/
theorem zeroing_triple (X7 : Vec F S256x297 .f32) (X8 X9 : Vec F S256x1 .f32) (K : PUnit → sProp 𝕄) :
    iprop((owns (c : Thread nD τ) M7 fullShare X7 ∗ owns (c : Thread nD τ) M8 fullShare X8 ∗ owns (c : Thread nD τ) M9 fullShare X9)
          ∗ (iprop(owns (c : Thread nD τ) M7 fullShare (start i zero297 X7) ∗ owns (c : Thread nD τ) M8 fullShare (start i zero1 X8)
              ∗ owns (c : Thread nD τ) M9 fullShare (start i zero1 X9)) -∗ K ⟨⟩))
      ⊢ wp frame (wpE (defs₀ (F := F)) 𝒱₀ c none) E (zeroing i M7 M8 M9) K := by
  unfold zeroing start
  by_cases h : (i 0).val = 0
  · rw [if_pos ((hcond i).2 h), if_pos h, if_pos h, if_pos h]
    refine Entails.trans (Q := iprop(((M7.view.loc (c : Thread nD τ) ↦[M7.view.set]{fullShare} M7.view.rep X7) ∗ (M8.view.loc (c : Thread nD τ) ↦[M8.view.set]{fullShare} M8.view.rep X8)
      ∗ (M9.view.loc (c : Thread nD τ) ↦[M9.view.set]{fullShare} M9.view.rep X9)) ∗ _)) (sep_mono (Entails.of_eq (by simp only [owns_eq_rep])) .rfl) ?_
    iintro ⟨⟨H7, H8, H9⟩, Hk⟩
    sl_exec!
    sl_step
    iapply Hk
    isplitl [H7]
    · iapply (settleRead (c : Thread nD τ) M7 fullShare _ _ (View.read_writes_full M7.view _ _ _ []))
      iexact H7
    isplitl [H8]
    · iapply (settleRead (c : Thread nD τ) M8 fullShare _ _ (View.read_writes_full M8.view _ _ _ []))
      iexact H8
    iapply (settleRead (c : Thread nD τ) M9 fullShare _ _ (View.read_writes_full M9.view _ _ _ []))
    iexact H9
  · rw [if_neg (fun h' => h ((hcond i).1 h')), if_neg h, if_neg h, if_neg h]
    iintro ⟨H, Hk⟩
    sl_step
    iapply Hk
    iexact H

/-- The tile masses after a point that found `X`. -/
def step7 (i : grid0.Coords) (x1 : Vec F S256x2048 .f32) (x2 : Vec F S256x1 .f32) (x3 : Vec F S32x7x2048 .i8)
    (x4 x5 : Vec F S256x1 .f32) (X : Vec F S256x297 .f32) : Vec F S256x297 .f32 :=
  runUpd (upd7 (BitVec.ofNat 32 (i 0).val) x1 x2 x3 x4 x5) 32 (le_refl _) (start i zero297 X)

/-- The body at a point. -/
theorem body_triple (X7 : Vec F S256x297 .f32) (X8 X9 : Vec F S256x1 .f32) (K : PUnit → sProp 𝕄) :
    iprop((ins c M1 M2 M3 M4 M5 M6 x1 x2 x3 x4 x5 x6 ∗ owns (c : Thread nD τ) M7 fullShare X7 ∗ owns (c : Thread nD τ) M8 fullShare X8 ∗ owns (c : Thread nD τ) M9 fullShare X9)
          ∗ (iprop(ins c M1 M2 M3 M4 M5 M6 x1 x2 x3 x4 x5 x6
              ∗ owns (c : Thread nD τ) M7 fullShare (step7 i x1 x2 x3 x4 x5 X7)
              ∗ (∃ X, owns (c : Thread nD τ) M8 fullShare X) ∗ (∃ X, owns (c : Thread nD τ) M9 fullShare X)) -∗ K ⟨⟩))
      ⊢ wp frame (wpE (defs₀ (F := F)) 𝒱₀ c none) E
          (cc0_mass i M1 h1 M2 h2 M3 h3 M4 h4 M5 h5 M6 h6 M7 h7 M8 h8 M9 h9) K := by
  rw [mass_same, wp_bind]
  iintro ⟨⟨Hi, H⟩, Hk⟩
  iapply (zeroing_triple c E i M7 M8 M9 X7 X8 X9)
  isplitl [H]
  · iexact H
  iintro H
  iapply (slabs_triple c E i M1 M2 M3 M4 M5 M6 M7 M8 M9 x1 x2 x3 x4 x5 x6 32 (le_refl _) _ _ _ K)
  isplitl [Hi H]
  · isplitl [Hi]
    · iexact Hi
    iexact H
  iintro ⟨Hi, H7, H8, H9⟩
  iapply Hk
  isplitl [Hi]
  · iexact Hi
  isplitl [H7]
  · iexact H7
  isplitl [H8]
  · iexists _; iexact H8
  iexists _; iexact H9
end

end Cert.Mass.Hand
-- ==== Proof.MassBitsFrame.lean ====
/-
  The frame of the mass kernel at its printed float values: every run of @main ends, its arguments as they were and every
  counter at zero. What the kernel writes into the outputs' buffers is not named here.
-/
module

public import proofs.«01_k».proof.Proof.MassBitsBody

@[expose] public section

set_option maxRecDepth 16384

noncomputable section

namespace Cert.Mass.Hand

open Cert.Mass Cert.Mass.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf kernel pipe ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The data of the run: the arrays as the region finds them, the inputs' buffers at their blocks (filled out past the array's
    end with any contents), the outputs not named. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Classical.arbitrary _) (iblk m c 0 t)
    | ⟨1, _⟩ => iblk m c 1 t
    | ⟨2, _⟩ => win0_2.fill (grid0.coords t) (fun _ => Classical.arbitrary _) (iblk m c 2 t)
    | ⟨3, _⟩ => iblk m c 3 t
    | ⟨4, _⟩ => iblk m c 4 t
    | ⟨5, _⟩ => iblk m c 5 t
    | ⟨6, _⟩ => fun _ => Classical.arbitrary _
    | ⟨7, _⟩ => fun _ => Classical.arbitrary _
    | ⟨8, _⟩ => fun _ => Classical.arbitrary _
  Φ _ := ΦA spec0 c
  q _ := fullShare
  owed _ := 0

/-- The outputs' windows, which the run does not name. -/
abbrev fgt : Fin cfg0.W → Bool := fun | 0 => false | 1 => false | 2 => false | 3 => false | 4 => false | 5 => false | 6 => true | 7 => true | 8 => true | ⟨_ + 9, h⟩ => absurd h (Nat.not_lt.2 (Nat.le_add_left _ _))

theorem before_0 (c : Dev nD) (t : Fin cfg0.N) (d) :
    (dats m 0 c).before (0 : Fin 9) t d = win0_0.fill (grid0.coords t) d (iblk m c 0 t) := by
  unfold Dat.before; rw [if_pos (fetch0_0 t)]; rfl
theorem before_2 (c : Dev nD) (t : Fin cfg0.N) (d) :
    (dats m 0 c).before (2 : Fin 9) t d = win0_2.fill (grid0.coords t) d (iblk m c 2 t) := by
  unfold Dat.before; rw [if_pos (fetch0_2 t)]; rfl

set_option maxHeartbeats 2000000 in
/-- The body's obligation at every point, the outputs' windows forgotten. -/
theorem body_obligation (c : Dev nD) : BodyObligationLoose (dats m 0 c) (defs₀ (F := F)) 𝒱₀ () Set.univ fgt := fun t => by
  rw [bigSep_W0, bigSep_W0]
  simp only
  rw [show (dats m 0 c).owesAt () t.succ = (dats m 0 c).owesAt () t.castSucc from rfl,
    show (dats m 0 c).Φ t.succ = ΦA spec0 c from rfl, show (dats m 0 c).Φ t.castSucc = ΦA spec0 c from rfl]
  iintro ⟨HΦ, Ho, ⟨%d0, H0⟩, ⟨%d1, H1⟩, ⟨%d2, H2⟩, ⟨%d3, H3⟩, ⟨%d4, H4⟩, ⟨%d5, H5⟩, ⟨%X6, H6⟩, ⟨%X7, H7⟩, ⟨%X8, H8⟩⟩
  rw [before_0 m c t d0, before0_1_of m (dats m 0 c) rfl (fun _ => rfl) t d1, before_2 m c t d2,
    before0_3_of m (dats m 0 c) rfl (fun _ => rfl) t d3, before0_4_of m (dats m 0 c) rfl (fun _ => rfl) t d4,
    before0_5_of m (dats m 0 c) rfl (fun _ => rfl) t d5]
  iapply (body_triple (F := F) c Set.univ (grid0.coords t) (st0_0 t) (hstage0_0 ((cfg0.slots t 0).cast nbuf0_0))
    (st0_1 t) (hstage0_1 ((cfg0.slots t 1).cast nbuf0_1)) (st0_2 t) (hstage0_2 ((cfg0.slots t 2).cast nbuf0_2))
    (st0_3 t) (hstage0_3 ((cfg0.slots t 3).cast nbuf0_3)) (st0_4 t) (hstage0_4 ((cfg0.slots t 4).cast nbuf0_4))
    (st0_5 t) (hstage0_5 ((cfg0.slots t 5).cast nbuf0_5)) (st0_6 t) (hstage0_6 ((cfg0.slots t 6).cast nbuf0_6))
    (st0_7 t) (hstage0_7 ((cfg0.slots t 7).cast nbuf0_7)) (st0_8 t) (hstage0_8 ((cfg0.slots t 8).cast nbuf0_8))
    (win0_0.fill (grid0.coords t) d0 (iblk m c 0 t)) (iblk m c 1 t) (win0_2.fill (grid0.coords t) d2 (iblk m c 2 t))
    (iblk m c 3 t) (iblk m c 4 t) (iblk m c 5 t) X6 X7 X8 _)
  unfold ins
  isplitl [H0 H1 H2 H3 H4 H5 H6 H7 H8]
  · isplitl [H0 H1 H2 H3 H4 H5]
    · isplitl [H0]
      · iexact H0
      isplitl [H1]
      · iexact H1
      isplitl [H2]
      · iexact H2
      isplitl [H3]
      · iexact H3
      isplitl [H4]
      · iexact H4
      iexact H5
    isplitl [H6]
    · iexact H6
    isplitl [H7]
    · iexact H7
    iexact H8
  iintro ⟨⟨H0, H1, H2, H3, H4, H5⟩, H6, H7, H8⟩
  isplitl [HΦ]
  · iexact HΦ
  isplitl [Ho]
  · iexact Ho
  have h0 : win0_0.cut (grid0.coords t) ((dats m 0 c).after 0 t) = iblk m c 0 t := win0_0.cut_fill _ _ _
  have h2 : win0_2.cut (grid0.coords t) ((dats m 0 c).after 2 t) = iblk m c 2 t := win0_2.cut_fill _ _ _
  isplitl [H0]
  · iexists d0
    change _ ⊢ owns (c : Thread nD τ) (st0_0 t) fullShare (win0_0.fill (grid0.coords t) d0 (win0_0.cut (grid0.coords t) ((dats m 0 c).after 0 t)))
    rw [h0]; try iexact H0
  isplitl [H1]
  · iexact H1
  isplitl [H2]
  · iexists d2
    change _ ⊢ owns (c : Thread nD τ) (st0_2 t) fullShare (win0_2.fill (grid0.coords t) d2 (win0_2.cut (grid0.coords t) ((dats m 0 c).after 2 t)))
    rw [h2]; try iexact H2
  isplitl [H3]
  · iexact H3
  isplitl [H4]
  · iexact H4
  isplitl [H5]
  · iexact H5
  isplitl [H6]
  · iexists _; iexact H6
  isplitl [H7]
  · iexact H7
  iexact H8

/-- The host lines after the region. -/
abbrev sfx : List (List (HloOp τ sig (Elt F))) := [hostOps1, hostOps1_1, hostOps1_2, hostOps1_3, hostOps1_4, hostOps1_5, hostOps1_6, hostOps1_7]

/-- The buffers they write. -/
abbrev T : Finset (Ref sig .tc) := {main_v20, main_v21, main_v22, main_v23, main_v24, main_v25, main_v26, main_v27, main_cst_2, main_v28, main_v29,
  main_cst_3, main_call4_v0, main_call4_v1, main_v30, main_v31, main_cst_4, main_call5_v0, main_call5_v1, main_v32, main_v33, main_v34, main_cst_5,
  main_v35, main_v36, main_cst_6, main_call6_v0, main_call6_v1, main_v37, main_v38, main_v39, main_cst_7, main_call7_v0, main_call7_v1, main_call7_v2, main_v40}

theorem sfx_T : ∀ ops ∈ (sfx : List (List (HloOp τ sig (Elt F)))), ∀ op ∈ ops, ∀ b : Ref sig .tc, Proc.devRef .tc b ∈ op.writes → b ∈ T := by
  intro ops hops op hop
  have hop' : op ∈ List.flatten (sfx : List (List (HloOp τ sig (Elt F)))) := List.mem_flatten.2 ⟨ops, hops, hop⟩
  clear hop hops
  simp only [sfx, hostOps1, hostOps1_1, hostOps1_2, hostOps1_3, hostOps1_4, hostOps1_5, hostOps1_6, hostOps1_7, List.flatten_cons, List.flatten_nil,
    List.append_nil, List.cons_append, List.nil_append, List.mem_cons, List.mem_nil_iff, or_false] at hop'
  rcases hop' with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    intro b hb
    simp only [StableHlo.nullary_writes, StableHlo.unary_writes, StableHlo.binary_writes, StableHlo.ternary_writes, StableHlo.reshape_writes, Finset.mem_singleton] at hb
    have hb' := Proc.devRef_injective .tc hb
    subst hb'
    decide

set_option backward.isDefEq.respectTransparency.types false in
/-- The run: the arguments end as launched, and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  Pipeline.θ_run_frame_around_T_forget cfgs (dats m) 0 launch0 defs₀ 𝒱₀ fgt T m ρ main
    (hbody := body_obligation m) (hshare := fun c => (dats m 0 c).share_full fun _ => rfl) (howed := fun _ _ => rfl)
    (V₀ := V0 m) (opss := sfx) (hsub := sfx_sub) (hfresh := sfx_fresh) (hkeep := sfx_keeps) (hT := sfx_T)
    (hmain := Gen.hmain m 𝒱₀) (hA := fun _ _ => rfl) (hΦ := fun _ _ => rfl)
    (Q' := _)
    (hQ' := fun r h => ⟨fun c => ⟨
      (RDat.FramePostR.arr_in h.1 c 0 rfl).trans (V_main_arg0 m c),
      (RDat.FramePostR.arr_in h.1 c 1 rfl).trans (V_main_arg1 m c),
      (RDat.FramePostR.arr_in h.1 c 2 rfl).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c),
      ((h.1 c).2 main_arg6 (Finset.mem_sdiff.mpr ⟨Pipeline.mem_restRefs_of main_arg6 (by decide) (by decide), by decide⟩)).trans (V_main_arg6 m c)⟩, h.2⟩)

end Cert.Mass.Hand

end
-- ==== Proof.MassSlab.lean ====
/-
  The mass body as 32 runs of one step: the step of batch `b` reads rows 8b..8b+7 and updates the same rows of the
  three results.
-/
module

public import proofs.«01_k».proof.MassIdeal

@[expose] public section

set_option maxRecDepth 100000

noncomputable section

namespace Cert.MassIdeal.Hand

open Cert.MassIdeal
open Idealize.ShloMosaic Idealize.SL.Sem

variable {F : FTy → Type} [FloatOps F]
variable [Facts]
open Facts₀ Facts

/-- Rows 8b..8b+7 lie within 256 rows. -/
theorem inbRow (b : Nat) (hb : b < 32) (n : Nat) (a : Fin 2) :
    (![8 * b, 0] : Fin 2 → Nat) a + (![8, n] : Fin 2 → Nat) a ≤ (![256, n] : Fin 2 → Nat) a := by
  match a with
  | 0 => show 8 * b + 8 ≤ 256; omega
  | 1 => show 0 + n ≤ n; omega

/-- Batch b lies within 32 batches. -/
theorem inbBatch (b : Nat) (hb : b < 32) (a : Fin 3) :
    (![b, 0, 0] : Fin 3 → Nat) a + (![1, 7, 2048] : Fin 3 → Nat) a ≤ (![32, 7, 2048] : Fin 3 → Nat) a := by
  match a with
  | 0 => show b + 1 ≤ 32; omega
  | 1 => show 0 + 7 ≤ 7; omega
  | 2 => show 0 + 2048 ≤ 2048; omega

abbrev r2048 (b : Nat) (hb : b < 32) :=
  Rect.unit (s := S256x2048) ![8 * b, 0] S8x2048.size (inbRow b hb 2048)
abbrev r297 (b : Nat) (hb : b < 32) :=
  Rect.unit (s := S256x297) ![8 * b, 0] S8x297.size (inbRow b hb 297)
abbrev r1 (b : Nat) (hb : b < 32) :=
  Rect.unit (s := S256x1) ![8 * b, 0] S8x1.size (inbRow b hb 1)
abbrev rC (b : Nat) (hb : b < 32) :=
  Rect.unit (s := S32x7x2048) ![b, 0, 0] S1x7x2048.size (inbBatch b hb)

/-- The column indices of step i. -/
def colV (arg0 : BitVec 32) : IVec S8x2048 32 :=
  addi (broadcast S8x2048 (Scalar.muli arg0 2048#32)) (iota .tc S8x2048 32 [1] iota_S8x2048_d1_w32)

/-- The draft codes of one batch as floats, the eighth row zero. -/
def codeV (x : Vec F S1x7x2048 .i8) : FVec F S8x2048 .f32 :=
  concatenate S8x2048 0 [⟨S7x2048, sitofp .f32 (shapeCast S7x2048 x shapeCasts_S1x7x2048_S7x2048 : IVec S7x2048 8)⟩,
    ⟨S1x2048, broadcast S1x2048 (Scalar.ofBits .f32 0x00000000#32 : F .f32)⟩] concatenates_S7x2048_S1x2048_S8x2048_d0

/-- The residual of one batch. -/
def resV (arg0 : BitVec 32) (s2 : Vec F S8x2048 .f32) (lse : Vec F S8x1 .f32) (dc : Vec F S1x7x2048 .i8)
    (qs ql : Vec F S8x1 .f32) : FVec F S8x2048 .f32 :=
  select (cmpi .slt (colV arg0) (broadcast S8x2048 151936#32))
    (maximumf
      (subf (exp2 (subf s2 (broadcastTo S8x2048 lse broadcasts_S8x1_S8x2048)))
        (exp (subf (mulf (codeV dc) (broadcastTo S8x2048 (shapeCast S8x1 qs shapeCasts_S8x1_S8x1 : FVec F S8x1 .f32) broadcasts_S8x1_S8x2048))
          (broadcastTo S8x2048 (shapeCast S8x1 ql shapeCasts_S8x1_S8x1 : FVec F S8x1 .f32) broadcasts_S8x1_S8x2048))))
      (broadcast S8x2048 (Scalar.ofBits .f32 0x00000000#32 : F .f32)))
    (broadcast S8x2048 (Scalar.ofBits .f32 0x00000000#32 : F .f32))

/-- Where the column is the row's drawn id. -/
def hitV (arg0 : BitVec 32) (ids : Vec F S8x1 .i32) : IVec S8x2048 1 :=
  cmpi .eq (colV arg0) (broadcastTo S8x2048 (shapeCast S8x1 ids shapeCasts_S8x1_S8x1 : IVec S8x1 32) broadcasts_S8x1_S8x2048)

/-- The row sums of `x` at the hits, added to `old`. -/
def pickV (hit : IVec S8x2048 1) (old : Vec F S8x1 .f32) (x : FVec F S8x2048 .f32) : FVec F S8x1 .f32 :=
  addf (shapeCast S8x1 old shapeCasts_S8x1_S8x1 : FVec F S8x1 .f32)
    (shapeCast S8x1 (multiReduction .add [1] S8
      (select hit x (broadcast S8x2048 (Scalar.ofBits .f32 0x00000000#32 : F .f32))) 0x00000000#32 reduces_S8x2048_S8 (.inl rfl) rfl : FVec F S8 .f32)
      shapeCasts_S8_S8x1)

/-- One tile's row sums put at its lane. -/
def putV (arg0 k : BitVec 32) (part : FVec F S8x512 .f32) (out : FVec F S8x297 .f32) : FVec F S8x297 .f32 :=
  select (cmpi .eq (iota .tc S8x297 32 [1] iota_S8x297_d1_w32)
      (broadcast S8x297 (Scalar.addi (Scalar.muli arg0 4#32) k)))
    (broadcastTo S8x297 (shapeCast S8x1 (shapeCast S8x1
      (multiReduction .add [1] S8 part 0x00000000#32 reduces_S8x512_S8 (.inl rfl) rfl : FVec F S8 .f32)
      shapeCasts_S8_S8x1 : FVec F S8x1 .f32) shapeCasts_S8x1_S8x1 : FVec F S8x1 .f32) broadcasts_S8x1_S8x297) out

/-- The four tiles of one step put at their lanes. -/
def massV (arg0 : BitVec 32) (res : FVec F S8x2048 .f32) (old : Vec F S8x297 .f32) : FVec F S8x297 .f32 :=
  putV arg0 3#32 (extractStridedSlice S8x512 ![0, 1536] res slices_S8x2048_o0_1536_S8x512)
  (putV arg0 2#32 (extractStridedSlice S8x512 ![0, 1024] res slices_S8x2048_o0_1024_S8x512)
  (putV arg0 1#32 (extractStridedSlice S8x512 ![0, 512] res slices_S8x2048_o0_512_S8x512)
  (putV arg0 0#32 (extractStridedSlice S8x512 ![0, 0] res slices_S8x2048_o0_0_S8x512)
    (shapeCast S8x297 old shapeCasts_S8x297_S8x297 : FVec F S8x297 .f32))))

section body
variable (i : grid0.Coords) (arg1 : Memref sig .tc .vmem S256x2048 .f32) (harg1 : arg1.IsWhole) (arg2 : Memref sig .tc .vmem S256x1 .f32) (harg2 : arg2.IsWhole) (arg3 : Memref sig .tc .vmem S32x7x2048 .i8) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .i32) (harg6 : arg6.IsWhole) (arg7 : Memref sig .tc .vmem S256x297 .f32) (harg7 : arg7.IsWhole) (arg8 : Memref sig .tc .vmem S256x1 .f32) (harg8 : arg8.IsWhole) (arg9 : Memref sig .tc .vmem S256x1 .f32) (harg9 : arg9.IsWhole)

/-- The step of batch `b`. -/
def slab (b : Nat) (hb : b < 32) : Prog (TpuEff nD τ sig (Elt F) Λ₀ .tc) PUnit := do
  let s2 : Vec F S8x2048 .f32 ← Prog.lift (.load arg1 (r2048 b hb).toLoadRect (View.loadsAt_vmem h_S8x2048))
  let lse : Vec F S8x1 .f32 ← Prog.lift (.load arg2 (r1 b hb).toLoadRect (View.loadsAt_vmem h_S8x1))
  let dc : Vec F S1x7x2048 .i8 ← Prog.lift (.load arg3 (rC b hb).toLoadRect (View.loadsAt_vmem h_S1x7x2048))
  let qs : Vec F S8x1 .f32 ← Prog.lift (.load arg4 (r1 b hb).toLoadRect (View.loadsAt_vmem h_S8x1))
  let ql : Vec F S8x1 .f32 ← Prog.lift (.load arg5 (r1 b hb).toLoadRect (View.loadsAt_vmem h_S8x1))
  let ids : Vec F S8x1 .i32 ← Prog.lift (.load arg6 (r1 b hb).toLoadRect (View.loadsAt_vmem h_S8x1))
  let o8 : Vec F S8x1 .f32 ← Prog.lift (.load arg8 (r1 b hb).toLoadRect (View.loadsAt_vmem h_S8x1))
  let _o8 : Vec F S8x1 .f32 ← Prog.lift (.load arg8 (r1 b hb).toLoadRect (View.loadsAt_vmem h_S8x1))
  Prog.lift (.store arg8 (r1 b hb) (pickV (hitV (F := F) (BitVec.ofNat 32 (i 0).val) ids) o8 s2) Finset.univ (View.stores_vmem_bits_univ h_S8x1 rfl) (.inl rfl))
  let o9 : Vec F S8x1 .f32 ← Prog.lift (.load arg9 (r1 b hb).toLoadRect (View.loadsAt_vmem h_S8x1))
  let _o9 : Vec F S8x1 .f32 ← Prog.lift (.load arg9 (r1 b hb).toLoadRect (View.loadsAt_vmem h_S8x1))
  Prog.lift (.store arg9 (r1 b hb) (pickV (hitV (F := F) (BitVec.ofNat 32 (i 0).val) ids) o9 (codeV dc)) Finset.univ (View.stores_vmem_bits_univ h_S8x1 rfl) (.inl rfl))
  let o7 : Vec F S8x297 .f32 ← Prog.lift (.load arg7 (r297 b hb).toLoadRect (View.loadsAt_vmem h_S8x297))
  let _o7 : Vec F S8x297 .f32 ← Prog.lift (.load arg7 (r297 b hb).toLoadRect (View.loadsAt_vmem h_S8x297))
  Prog.lift (.store arg7 (r297 b hb) (massV (BitVec.ofNat 32 (i 0).val) (resV (BitVec.ofNat 32 (i 0).val) s2 lse dc qs ql) o7) Finset.univ (View.stores_vmem_bits_univ h_S8x297 rfl) (.inl rfl))

/-- The last `n` batches in order. -/
def slabs : (n : Nat) → (hn : n ≤ 32) → Prog (TpuEff nD τ sig (Elt F) Λ₀ .tc) PUnit
  | 0, _ => pure ⟨⟩
  | n + 1, hn => slab i arg1 arg2 arg3 arg4 arg5 arg6 arg7 arg8 arg9 (32 - (n + 1)) (by omega) >>= fun _ => slabs n (by omega)

/-- The zeroing at the first step. -/
def zeroing : Prog (TpuEff nD τ sig (Elt F) Λ₀ .tc) PUnit :=
  if Scalar.cmpi .ne (Scalar.extui (Scalar.cmpi .eq (BitVec.ofNat 32 (i 0).val) 0#32) : BitVec 32) 0#32 = 1#1 then do
    let v2857 : Vec F S256x297 .f32 ← Prog.lift (.load arg7 (Rect.unit (s := S256x297) ![0, 0] S256x297.size inb_S256x297_S256x297_0_0).toLoadRect (View.loadsAt_vmem h_S256x297))
    Prog.lift (.store arg7 (Rect.unit (s := S256x297) ![0, 0] S256x297.size inb_S256x297_S256x297_0_0) (broadcast S256x297 (Scalar.ofBits .f32 0x00000000#32 : F .f32)) Finset.univ (View.stores_vmem_bits_univ h_S256x297 rfl) (.inl rfl))
    let v2859 : Vec F S256x1 .f32 ← Prog.lift (.load arg8 (Rect.unit (s := S256x1) ![0, 0] S256x1.size inb_S256x1_S256x1_0_0).toLoadRect (View.loadsAt_vmem h_S256x1))
    Prog.lift (.store arg8 (Rect.unit (s := S256x1) ![0, 0] S256x1.size inb_S256x1_S256x1_0_0) (broadcast S256x1 (Scalar.ofBits .f32 0x00000000#32 : F .f32)) Finset.univ (View.stores_vmem_bits_univ h_S256x1 rfl) (.inl rfl))
    let v2861 : Vec F S256x1 .f32 ← Prog.lift (.load arg9 (Rect.unit (s := S256x1) ![0, 0] S256x1.size inb_S256x1_S256x1_0_0).toLoadRect (View.loadsAt_vmem h_S256x1))
    Prog.lift (.store arg9 (Rect.unit (s := S256x1) ![0, 0] S256x1.size inb_S256x1_S256x1_0_0) (broadcast S256x1 (Scalar.ofBits .f32 0x00000000#32 : F .f32)) Finset.univ (View.stores_vmem_bits_univ h_S256x1 rfl) (.inl rfl))
    pure ⟨⟩
  else pure ⟨⟩

end body

end Cert.MassIdeal.Hand
-- ==== Proof.MassSame.lean ====
/-
  The mass body is the zeroing followed by the 32 steps.
-/
module

public import proofs.«01_k».proof.Proof.MassSlab

@[expose] public section

set_option maxRecDepth 100000
set_option maxHeartbeats 0

noncomputable section

namespace Cert.MassIdeal.Hand

open Cert.MassIdeal
open Idealize.ShloMosaic Idealize.SL.Sem

variable {F : FTy → Type} [FloatOps F]
variable [Facts]
open Facts₀ Facts

universe v in
/-- Two programs with the same first effect and the same continuations are the same. -/
theorem op_congr {E : Type → Type v} {α β : Type} (e : E β) {k k' : β → Prog E α} (h : ∀ x, k x = k' x) :
    Prog.op e k = Prog.op e k' := by rw [show k = k' from funext h]

section body
variable (i : grid0.Coords) (arg1 : Memref sig .tc .vmem S256x2048 .f32) (harg1 : arg1.IsWhole) (arg2 : Memref sig .tc .vmem S256x1 .f32) (harg2 : arg2.IsWhole) (arg3 : Memref sig .tc .vmem S32x7x2048 .i8) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .i32) (harg6 : arg6.IsWhole) (arg7 : Memref sig .tc .vmem S256x297 .f32) (harg7 : arg7.IsWhole) (arg8 : Memref sig .tc .vmem S256x1 .f32) (harg8 : arg8.IsWhole) (arg9 : Memref sig .tc .vmem S256x1 .f32) (harg9 : arg9.IsWhole)

theorem mass_same :
    (cc0_mass (F := F) i arg1 harg1 arg2 harg2 arg3 harg3 arg4 harg4 arg5 harg5 arg6 harg6 arg7 harg7 arg8 harg8 arg9 harg9) =
      (zeroing i arg7 arg8 arg9 >>= fun _ => slabs i arg1 arg2 arg3 arg4 arg5 arg6 arg7 arg8 arg9 32 (le_refl _)) := by
  unfold cc0_mass k0_part74 k0_part1 zeroing
  by_cases h : Scalar.cmpi .ne (Scalar.extui (Scalar.cmpi .eq (BitVec.ofNat 32 (i 0).val) 0#32) : BitVec 32) 0#32 = 1#1
  · rw [if_pos h]
    simp only [dif_pos h]
    iterate 486 refine op_congr _ fun _ => ?_
    rfl
  · rw [if_neg h]
    simp only [dif_neg h]
    iterate 480 refine op_congr _ fun _ => ?_
    rfl

end body

end Cert.MassIdeal.Hand
-- ==== Proof.MassBody.lean ====
/-
  The body of the mass kernel as a triple over symbolic staging memrefs: one batch's step by the executor, the 32
  steps by induction.
-/
module

public import proofs.«01_k».proof.Proof.MassSame
public import proofs.«01_k».proof.Proof.Gen.MassIdeal.Frame
public import Idealize.ShloMosaic.Lib.Pipeline.TableIdle
public import Idealize.ShloMosaic.Lib.VecWindow
public import Idealize.ShloMosaic.Lib.Pipeline.Value

@[expose] public section

set_option maxRecDepth 16384

noncomputable section

namespace Cert.MassIdeal.Hand

open Cert.MassIdeal Cert.MassIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The kernel's variants: none. -/
abbrev 𝒱₀ : Variants := Variants.none

/-- Rows 8b..8b+7 of a column. -/
abbrev w1 {e : EltTy} (b : Nat) (hb : b < 32) (X : Vec F S256x1 e) : Vec F S8x1 e :=
  VecWindow.window X ![8 * b, 0] S8x1.size (inbRow b hb 1)
/-- Rows 8b..8b+7 of a block of scaled logits. -/
abbrev w2048 (b : Nat) (hb : b < 32) (X : Vec F S256x2048 .f32) : Vec F S8x2048 .f32 :=
  VecWindow.window X ![8 * b, 0] S8x2048.size (inbRow b hb 2048)
/-- Rows 8b..8b+7 of the tile masses. -/
abbrev w297 (b : Nat) (hb : b < 32) (X : Vec F S256x297 .f32) : Vec F S8x297 .f32 :=
  VecWindow.window X ![8 * b, 0] S8x297.size (inbRow b hb 297)
/-- Batch b of a block of draft codes. -/
abbrev wC (b : Nat) (hb : b < 32) (X : Vec F S32x7x2048 .i8) : Vec F S1x7x2048 .i8 :=
  VecWindow.window X ![b, 0, 0] S1x7x2048.size (inbBatch b hb)

/-- The tile masses after batch `b`. -/
def upd7 (a0 : BitVec 32) (x1 : Vec F S256x2048 .f32) (x2 : Vec F S256x1 .f32) (x3 : Vec F S32x7x2048 .i8)
    (x4 x5 : Vec F S256x1 .f32) (b : Nat) (hb : b < 32) (X : Vec F S256x297 .f32) : Vec F S256x297 .f32 :=
  VecWindow.put X ![8 * b, 0] S8x297.size
    (massV a0 (resV a0 (w2048 b hb x1) (w1 b hb x2) (wC b hb x3) (w1 b hb x4) (w1 b hb x5)) (w297 b hb X))
/-- The picked scaled logits after batch `b`. -/
def upd8 (a0 : BitVec 32) (x1 : Vec F S256x2048 .f32) (x6 : Vec F S256x1 .i32) (b : Nat) (hb : b < 32)
    (X : Vec F S256x1 .f32) : Vec F S256x1 .f32 :=
  VecWindow.put X ![8 * b, 0] S8x1.size (pickV (hitV (F := F) a0 (w1 b hb x6)) (w1 b hb X) (w2048 b hb x1))
/-- The picked codes after batch `b`. -/
def upd9 (a0 : BitVec 32) (x3 : Vec F S32x7x2048 .i8) (x6 : Vec F S256x1 .i32) (b : Nat) (hb : b < 32)
    (X : Vec F S256x1 .f32) : Vec F S256x1 .f32 :=
  VecWindow.put X ![8 * b, 0] S8x1.size (pickV (hitV (F := F) a0 (w1 b hb x6)) (w1 b hb X) (codeV (wC b hb x3)))

/-- The last `n` batches' updates in order. -/
def runUpd {α : Type} (u : (b : Nat) → b < 32 → α → α) : (n : Nat) → n ≤ 32 → α → α
  | 0, _, X => X
  | n + 1, hn, X => runUpd u n (by omega) (u (32 - (n + 1)) (by omega) X)

/-- A memref whose elements hold contents that read as `X` is owned at `X`. -/
theorem settleRead (c : Thread nD τ) {sp : Space} {sh : Shape} {e : EltTy} (m : Memref sig c.2.kind sp sh e) (q : PosShare TreeShare)
    (f : Buf (Elt F) (m.view.loc c)) (X : sh.Idx → Elt F e) (h : m.view.read (Elt F) f = X) :
    (m.view.loc c ↦[m.view.set]{q} f) ⊢ (owns c m q X : sProp 𝕄) := by
  unfold owns
  iintro H
  iexists _
  isplitr
  · ipureintro
    exact h
  iexact H

/-- A load of a memref's batch rows reads that window of its contents. -/
theorem rd1 {κ : Kind} {sp : Space} {e : EltTy} (v : View sig κ sp S256x1 e) (x : Vec F S256x1 e) (b : Nat) (hb : b < 32) :
    v.readAt (Elt F) (r1 b hb).toLoadRect (v.rep x) = w1 b hb x := View.readAt_rep_unit v x _ rfl _
theorem rd2048 {κ : Kind} {sp : Space} (v : View sig κ sp S256x2048 .f32) (x : Vec F S256x2048 .f32) (b : Nat) (hb : b < 32) :
    v.readAt (Elt F) (r2048 b hb).toLoadRect (v.rep x) = w2048 b hb x := View.readAt_rep_unit v x _ rfl _
theorem rd297 {κ : Kind} {sp : Space} (v : View sig κ sp S256x297 .f32) (x : Vec F S256x297 .f32) (b : Nat) (hb : b < 32) :
    v.readAt (Elt F) (r297 b hb).toLoadRect (v.rep x) = w297 b hb x := View.readAt_rep_unit v x _ rfl _
theorem rdC {κ : Kind} {sp : Space} (v : View sig κ sp S32x7x2048 .i8) (x : Vec F S32x7x2048 .i8) (b : Nat) (hb : b < 32) :
    v.readAt (Elt F) (rC b hb).toLoadRect (v.rep x) = wC b hb x := View.readAt_rep_unit v x _ rfl _

section
variable (c : Dev nD) (E : Set ℕ) (i : grid0.Coords)
  (M1 : Memref sig .tc .vmem S256x2048 .f32) (h1 : M1.IsWhole) (M2 : Memref sig .tc .vmem S256x1 .f32) (h2 : M2.IsWhole)
  (M3 : Memref sig .tc .vmem S32x7x2048 .i8) (h3 : M3.IsWhole) (M4 : Memref sig .tc .vmem S256x1 .f32) (h4 : M4.IsWhole)
  (M5 : Memref sig .tc .vmem S256x1 .f32) (h5 : M5.IsWhole) (M6 : Memref sig .tc .vmem S256x1 .i32) (h6 : M6.IsWhole)
  (M7 : Memref sig .tc .vmem S256x297 .f32) (h7 : M7.IsWhole) (M8 : Memref sig .tc .vmem S256x1 .f32) (h8 : M8.IsWhole)
  (M9 : Memref sig .tc .vmem S256x1 .f32) (h9 : M9.IsWhole)
  (x1 : Vec F S256x2048 .f32) (x2 : Vec F S256x1 .f32) (x3 : Vec F S32x7x2048 .i8) (x4 x5 : Vec F S256x1 .f32)
  (x6 : Vec F S256x1 .i32)

/-- The six inputs owned at their contents. -/
def ins : sProp 𝕄 :=
  iprop(owns (c : Thread nD τ) M1 fullShare x1 ∗ owns (c : Thread nD τ) M2 fullShare x2 ∗ owns (c : Thread nD τ) M3 fullShare x3
    ∗ owns (c : Thread nD τ) M4 fullShare x4 ∗ owns (c : Thread nD τ) M5 fullShare x5 ∗ owns (c : Thread nD τ) M6 fullShare x6)

/-- One batch's step. -/
theorem slab_triple (b : Nat) (hb : b < 32) (X7 : Vec F S256x297 .f32) (X8 X9 : Vec F S256x1 .f32) (K : PUnit → sProp 𝕄) :
    iprop((ins c M1 M2 M3 M4 M5 M6 x1 x2 x3 x4 x5 x6 ∗ owns (c : Thread nD τ) M7 fullShare X7 ∗ owns (c : Thread nD τ) M8 fullShare X8 ∗ owns (c : Thread nD τ) M9 fullShare X9)
          ∗ (iprop(ins c M1 M2 M3 M4 M5 M6 x1 x2 x3 x4 x5 x6
              ∗ owns (c : Thread nD τ) M7 fullShare (upd7 (BitVec.ofNat 32 (i 0).val) x1 x2 x3 x4 x5 b hb X7)
              ∗ owns (c : Thread nD τ) M8 fullShare (upd8 (BitVec.ofNat 32 (i 0).val) x1 x6 b hb X8)
              ∗ owns (c : Thread nD τ) M9 fullShare (upd9 (BitVec.ofNat 32 (i 0).val) x3 x6 b hb X9)) -∗ K ⟨⟩))
      ⊢ wp frame (wpE (defs₀ (F := F)) 𝒱₀ c none) E (slab i M1 M2 M3 M4 M5 M6 M7 M8 M9 b hb) K := by
  unfold slab
  refine Entails.trans (Q := iprop(((((M1.view.loc (c : Thread nD τ) ↦[M1.view.set]{fullShare} M1.view.rep x1) ∗ (M2.view.loc (c : Thread nD τ) ↦[M2.view.set]{fullShare} M2.view.rep x2)
    ∗ (M3.view.loc (c : Thread nD τ) ↦[M3.view.set]{fullShare} M3.view.rep x3) ∗ (M4.view.loc (c : Thread nD τ) ↦[M4.view.set]{fullShare} M4.view.rep x4)
    ∗ (M5.view.loc (c : Thread nD τ) ↦[M5.view.set]{fullShare} M5.view.rep x5) ∗ (M6.view.loc (c : Thread nD τ) ↦[M6.view.set]{fullShare} M6.view.rep x6))
    ∗ (M7.view.loc (c : Thread nD τ) ↦[M7.view.set]{fullShare} M7.view.rep X7) ∗ (M8.view.loc (c : Thread nD τ) ↦[M8.view.set]{fullShare} M8.view.rep X8)
    ∗ (M9.view.loc (c : Thread nD τ) ↦[M9.view.set]{fullShare} M9.view.rep X9))
    ∗ _))) (sep_mono (Entails.of_eq (by unfold ins; simp only [owns_eq_rep])) .rfl) ?_
  iintro ⟨⟨⟨H1, H2, H3, H4, H5, H6⟩, H7, H8, H9⟩, Hk⟩
  sl_exec!
  sl_step
  simp only [rd1, rd2048, rd297, rdC]
  iapply Hk
  unfold ins
  isplitl [H1 H2 H3 H4 H5 H6]
  · simp only [owns_eq_rep]
    isplitl [H1]
    · iexact H1
    isplitl [H2]
    · iexact H2
    isplitl [H3]
    · iexact H3
    isplitl [H4]
    · iexact H4
    isplitl [H5]
    · iexact H5
    iexact H6
  isplitl [H7]
  · iapply (settleRead (c : Thread nD τ) M7 fullShare _ _ (View.read_writes_rep_unit M7.view X7 _ _ rfl))
    iexact H7
  isplitl [H8]
  · iapply (settleRead (c : Thread nD τ) M8 fullShare _ _ (View.read_writes_rep_unit M8.view X8 _ _ rfl))
    iexact H8
  iapply (settleRead (c : Thread nD τ) M9 fullShare _ _ (View.read_writes_rep_unit M9.view X9 _ _ rfl))
  iexact H9

/-- The last `n` batches' steps. -/
theorem slabs_triple : ∀ (n : Nat) (hn : n ≤ 32) (X7 : Vec F S256x297 .f32) (X8 X9 : Vec F S256x1 .f32) (K : PUnit → sProp 𝕄),
    iprop((ins c M1 M2 M3 M4 M5 M6 x1 x2 x3 x4 x5 x6 ∗ owns (c : Thread nD τ) M7 fullShare X7 ∗ owns (c : Thread nD τ) M8 fullShare X8 ∗ owns (c : Thread nD τ) M9 fullShare X9)
          ∗ (iprop(ins c M1 M2 M3 M4 M5 M6 x1 x2 x3 x4 x5 x6
              ∗ owns (c : Thread nD τ) M7 fullShare (runUpd (upd7 (BitVec.ofNat 32 (i 0).val) x1 x2 x3 x4 x5) n hn X7)
              ∗ owns (c : Thread nD τ) M8 fullShare (runUpd (upd8 (BitVec.ofNat 32 (i 0).val) x1 x6) n hn X8)
              ∗ owns (c : Thread nD τ) M9 fullShare (runUpd (upd9 (BitVec.ofNat 32 (i 0).val) x3 x6) n hn X9)) -∗ K ⟨⟩))
      ⊢ wp frame (wpE (defs₀ (F := F)) 𝒱₀ c none) E (slabs i M1 M2 M3 M4 M5 M6 M7 M8 M9 n hn) K
  | 0, hn, X7, X8, X9, K => by
      unfold slabs runUpd
      iintro ⟨H, Hk⟩
      sl_step
      iapply Hk
      iexact H
  | n + 1, hn, X7, X8, X9, K => by
      unfold slabs runUpd
      rw [wp_bind]
      have hb : 32 - (n + 1) < 32 := by omega
      have hn' : n ≤ 32 := by omega
      iintro ⟨H, Hk⟩
      iapply (slab_triple c E i M1 M2 M3 M4 M5 M6 M7 M8 M9 x1 x2 x3 x4 x5 x6 (32 - (n + 1)) hb X7 X8 X9)
      isplitl [H]
      · iexact H
      iintro H
      iapply (slabs_triple n hn' _ _ _ K)
      isplitl [H]
      · iexact H
      iexact Hk

/-- What an output's buffer holds after the zeroing. -/
def start {α : Type} (i : grid0.Coords) (Z X : α) : α := if (i 0).val = 0 then Z else X

/-- Zeros. -/
def zero297 : Vec F S256x297 .f32 := broadcast S256x297 (Scalar.ofBits .f32 0x00000000#32 : F .f32)
def zero1 : Vec F S256x1 .f32 := broadcast S256x1 (Scalar.ofBits .f32 0x00000000#32 : F .f32)

/-- The zeroing's condition holds at the first point only. -/
theorem hcond : ∀ i : grid0.Coords, Scalar.cmpi .ne (Scalar.extui (Scalar.cmpi .eq (BitVec.ofNat 32 (i 0).val) 0#32) : BitVec 32) 0#32 = 1#1 ↔ (i 0).val = 0 :=
  fun i => (by decide +kernel : ∀ k : Fin 75, Scalar.cmpi .ne (Scalar.extui (Scalar.cmpi .eq (BitVec.ofNat 32 k.val) 0#32) : BitVec 32) 0#32 = 1#1 ↔ k.val = 0) (i 0)

/-- The zeroing. -/
theorem zeroing_triple (X7 : Vec F S256x297 .f32) (X8 X9 : Vec F S256x1 .f32) (K : PUnit → sProp 𝕄) :
    iprop((owns (c : Thread nD τ) M7 fullShare X7 ∗ owns (c : Thread nD τ) M8 fullShare X8 ∗ owns (c : Thread nD τ) M9 fullShare X9)
          ∗ (iprop(owns (c : Thread nD τ) M7 fullShare (start i zero297 X7) ∗ owns (c : Thread nD τ) M8 fullShare (start i zero1 X8)
              ∗ owns (c : Thread nD τ) M9 fullShare (start i zero1 X9)) -∗ K ⟨⟩))
      ⊢ wp frame (wpE (defs₀ (F := F)) 𝒱₀ c none) E (zeroing i M7 M8 M9) K := by
  unfold zeroing start
  by_cases h : (i 0).val = 0
  · rw [if_pos ((hcond i).2 h), if_pos h, if_pos h, if_pos h]
    refine Entails.trans (Q := iprop(((M7.view.loc (c : Thread nD τ) ↦[M7.view.set]{fullShare} M7.view.rep X7) ∗ (M8.view.loc (c : Thread nD τ) ↦[M8.view.set]{fullShare} M8.view.rep X8)
      ∗ (M9.view.loc (c : Thread nD τ) ↦[M9.view.set]{fullShare} M9.view.rep X9)) ∗ _)) (sep_mono (Entails.of_eq (by simp only [owns_eq_rep])) .rfl) ?_
    iintro ⟨⟨H7, H8, H9⟩, Hk⟩
    sl_exec!
    sl_step
    iapply Hk
    isplitl [H7]
    · iapply (settleRead (c : Thread nD τ) M7 fullShare _ _ (View.read_writes_full M7.view _ _ _ []))
      iexact H7
    isplitl [H8]
    · iapply (settleRead (c : Thread nD τ) M8 fullShare _ _ (View.read_writes_full M8.view _ _ _ []))
      iexact H8
    iapply (settleRead (c : Thread nD τ) M9 fullShare _ _ (View.read_writes_full M9.view _ _ _ []))
    iexact H9
  · rw [if_neg (fun h' => h ((hcond i).1 h')), if_neg h, if_neg h, if_neg h]
    iintro ⟨H, Hk⟩
    sl_step
    iapply Hk
    iexact H

/-- The tile masses after a point that found `X`. -/
def step7 (i : grid0.Coords) (x1 : Vec F S256x2048 .f32) (x2 : Vec F S256x1 .f32) (x3 : Vec F S32x7x2048 .i8)
    (x4 x5 : Vec F S256x1 .f32) (X : Vec F S256x297 .f32) : Vec F S256x297 .f32 :=
  runUpd (upd7 (BitVec.ofNat 32 (i 0).val) x1 x2 x3 x4 x5) 32 (le_refl _) (start i zero297 X)

/-- The picked scaled logits and the picked codes after a point that found `X`. -/
def step8 (i : grid0.Coords) (x1 : Vec F S256x2048 .f32) (x6 : Vec F S256x1 .i32) (X : Vec F S256x1 .f32) : Vec F S256x1 .f32 :=
  runUpd (upd8 (BitVec.ofNat 32 (i 0).val) x1 x6) 32 (le_refl _) (start i zero1 X)
def step9 (i : grid0.Coords) (x3 : Vec F S32x7x2048 .i8) (x6 : Vec F S256x1 .i32) (X : Vec F S256x1 .f32) : Vec F S256x1 .f32 :=
  runUpd (upd9 (BitVec.ofNat 32 (i 0).val) x3 x6) 32 (le_refl _) (start i zero1 X)

/-- The body at a point. -/
theorem body_triple (X7 : Vec F S256x297 .f32) (X8 X9 : Vec F S256x1 .f32) (K : PUnit → sProp 𝕄) :
    iprop((ins c M1 M2 M3 M4 M5 M6 x1 x2 x3 x4 x5 x6 ∗ owns (c : Thread nD τ) M7 fullShare X7 ∗ owns (c : Thread nD τ) M8 fullShare X8 ∗ owns (c : Thread nD τ) M9 fullShare X9)
          ∗ (iprop(ins c M1 M2 M3 M4 M5 M6 x1 x2 x3 x4 x5 x6
              ∗ owns (c : Thread nD τ) M7 fullShare (step7 i x1 x2 x3 x4 x5 X7)
              ∗ owns (c : Thread nD τ) M8 fullShare (step8 i x1 x6 X8)
              ∗ owns (c : Thread nD τ) M9 fullShare (step9 i x3 x6 X9)) -∗ K ⟨⟩))
      ⊢ wp frame (wpE (defs₀ (F := F)) 𝒱₀ c none) E
          (cc0_mass i M1 h1 M2 h2 M3 h3 M4 h4 M5 h5 M6 h6 M7 h7 M8 h8 M9 h9) K := by
  rw [mass_same, wp_bind]
  iintro ⟨⟨Hi, H⟩, Hk⟩
  iapply (zeroing_triple c E i M7 M8 M9 X7 X8 X9)
  isplitl [H]
  · iexact H
  iintro H
  iapply (slabs_triple c E i M1 M2 M3 M4 M5 M6 M7 M8 M9 x1 x2 x3 x4 x5 x6 32 (le_refl _) _ _ _ K)
  isplitl [Hi H]
  · isplitl [Hi]
    · iexact Hi
    iexact H
  iintro ⟨Hi, H7, H8, H9⟩
  iapply Hk
  isplitl [Hi]
  · iexact Hi
  isplitl [H7]
  · iexact H7
  isplitl [H8]
  · iexact H8
  iexact H9
end

end Cert.MassIdeal.Hand
-- ==== Proof.MassPay.lean ====
/-
  One batch's step of the mass kernel entry by entry: where a tile's sum is put, and the masked residual.
-/
module

public import proofs.«01_k».proof.Proof.MassSlab
public import Idealize.ShloMosaic.Lib.Pointwise
public import Idealize.ShloMosaic.Lib.WordCmp

@[expose] public section

set_option maxRecDepth 16384

noncomputable section

namespace Cert.MassIdeal.Hand

open Cert.MassIdeal
open Idealize.ShloMosaic Idealize.ShloMosaic.TcCoe Idealize.ShloMosaic.Tactic

variable [Facts]
open Facts₀ Facts

/-- The lane of tile `k` of point `t`. -/
theorem lane_eq (t : ℕ) (ht : t < 75) (k : ℕ) (hk : k < 4) (l : Fin 297) :
    IntOp.cmpi .eq (BitVec.ofNat 32 l.val) (Scalar.addi (Scalar.muli (BitVec.ofNat 32 t) 4#32) (BitVec.ofNat 32 k)) = 1#1 ↔ l.val = t * 4 + k := by
  have e : Scalar.addi (Scalar.muli (BitVec.ofNat 32 t) 4#32) (BitVec.ofNat 32 k) = BitVec.ofNat 32 (t * 4 + k) := by
    rw [BitVec.ofNat_add, BitVec.ofNat_mul]; rfl
  rw [e]
  exact Idealize.ShloMosaic.WordCmp.cmpi_eq_ofNat_eq_one_iff (by have := l.isLt; omega) (by omega)

/-- The columns inside the vocabulary. -/
theorem inside_eq (t : ℕ) (ht : t < 75) (j : Fin 2048) :
    IntOp.cmpi .slt (IntOp.addi (Scalar.muli (BitVec.ofNat 32 t) 2048#32) (BitVec.ofNat 32 j.val)) 151936#32 = 1#1 ↔ t * 2048 + j.val < 151936 := by
  have e : IntOp.addi (Scalar.muli (BitVec.ofNat 32 t) 2048#32) (BitVec.ofNat 32 j.val) = BitVec.ofNat 32 (t * 2048 + j.val) := by
    rw [BitVec.ofNat_add, BitVec.ofNat_mul]; rfl
  rw [e]
  exact Idealize.ShloMosaic.WordCmp.cmpi_slt_ofNat_eq_one_iff (by have := j.isLt; omega) (by omega)

/-- A choice by a condition's word. -/
theorem select_iff {α : Type} {c : BitVec 1} {P : Prop} [Decidable P] (h : c = 1#1 ↔ P) (x y : α) : Scalar.select c x y = if P then x else y := by
  unfold Scalar.select
  by_cases hP : P
  · rw [if_pos hP]; exact if_pos (h.2 hP)
  · rw [if_neg hP]; exact if_neg fun hc => hP (h.1 hc)

/-- A tile's row sums are put at the tile's lane. -/
theorem putV_apply (t : ℕ) (ht : t < 75) (k : ℕ) (hk : k < 4) (part : FVec Ideal S8x512 .f32) (out : FVec Ideal S8x297 .f32) (p : Fin 8) (l : Fin 297) :
    putV (BitVec.ofNat 32 t) (BitVec.ofNat 32 k) part out (ix2 p l) = if l.val = t * 4 + k then ∑ j : Fin 512, part (ix2 p j) else out (ix2 p l) := by
  pointwise [putV]
  exact select_iff (lane_eq t ht k hk l) _ _

/-- A batch's codes, the eighth row zero. -/
theorem codeV_apply (dc : Vec Ideal S1x7x2048 .i8) (p : Fin 8) (j : Fin 2048) :
    codeV (F := Ideal) dc (ix2 p j) = if h : p.val < 7 then FloatOps.sitofp (F := Ideal) .f32 (dc (ix3 0 ⟨p.val, h⟩ j)) else (0 : EReal) := by
  pointwise [codeV]

/-- The masked residual. -/
theorem resV_apply (t : ℕ) (ht : t < 75) (s2 : Vec Ideal S8x2048 .f32) (lse : Vec Ideal S8x1 .f32) (dc : Vec Ideal S1x7x2048 .i8)
    (qs ql : Vec Ideal S8x1 .f32) (p : Fin 8) (j : Fin 2048) :
    resV (BitVec.ofNat 32 t) s2 lse dc qs ql (ix2 p j) = if t * 2048 + j.val < 151936
      then max (Ideal.exp2 (s2 (ix2 p j) - lse (ix2 p 0)) - Ideal.exp (codeV (F := Ideal) dc (ix2 p j) * qs (ix2 p 0) - ql (ix2 p 0))) (0 : EReal) else 0 := by
  pointwise [resV, colV]
  exact select_iff (inside_eq t ht j) _ _

/-- The four tiles of a point. -/
theorem massV_apply (t : ℕ) (ht : t < 75) (res : FVec Ideal S8x2048 .f32) (old : Vec Ideal S8x297 .f32) (p : Fin 8) (l : Fin 297) :
    massV (BitVec.ofNat 32 t) res old (ix2 p l) = if l.val / 4 = t then ∑ j : Fin 512, res (ix2 p ⟨l.val % 4 * 512 + j.val, by have := j.isLt; omega⟩)
      else old (ix2 p l) := by
  unfold massV
  rw [putV_apply t ht 3 (by decide), putV_apply t ht 2 (by decide), putV_apply t ht 1 (by decide), putV_apply t ht 0 (by decide)]
  have s0 : ∀ (j : Fin 512), extractStridedSlice S8x512 ![0, 0] res slices_S8x2048_o0_0_S8x512 (ix2 p j) = res (ix2 p ⟨j.val, by have := j.isLt; omega⟩) := fun j => by
    pointwise []
  have s1 : ∀ (j : Fin 512), extractStridedSlice S8x512 ![0, 512] res slices_S8x2048_o0_512_S8x512 (ix2 p j) = res (ix2 p ⟨512 + j.val, by have := j.isLt; omega⟩) := fun j => by
    pointwise []
  have s2 : ∀ (j : Fin 512), extractStridedSlice S8x512 ![0, 1024] res slices_S8x2048_o0_1024_S8x512 (ix2 p j) = res (ix2 p ⟨1024 + j.val, by have := j.isLt; omega⟩) := fun j => by
    pointwise []
  have s3 : ∀ (j : Fin 512), extractStridedSlice S8x512 ![0, 1536] res slices_S8x2048_o0_1536_S8x512 (ix2 p j) = res (ix2 p ⟨1536 + j.val, by have := j.isLt; omega⟩) := fun j => by
    pointwise []
  have so : shapeCast S8x297 old shapeCasts_S8x297_S8x297 (ix2 p l) = old (ix2 p l) := by
    pointwise []
  simp only [s0, s1, s2, s3, so]
  by_cases h : l.val / 4 = t
  · rw [if_pos h]
    have h4 : l.val % 4 < 4 := Nat.mod_lt _ (by decide)
    by_cases e3 : l.val % 4 = 3
    · rw [if_pos (by omega)]
      exact Finset.sum_congr rfl fun j _ => congrArg (fun k => res (ix2 p k)) (Fin.ext (by show 1536 + j.val = l.val % 4 * 512 + j.val; omega))
    rw [if_neg (by omega)]
    by_cases e2 : l.val % 4 = 2
    · rw [if_pos (by omega)]
      exact Finset.sum_congr rfl fun j _ => congrArg (fun k => res (ix2 p k)) (Fin.ext (by show 1024 + j.val = l.val % 4 * 512 + j.val; omega))
    rw [if_neg (by omega)]
    by_cases e1 : l.val % 4 = 1
    · rw [if_pos (by omega)]
      exact Finset.sum_congr rfl fun j _ => congrArg (fun k => res (ix2 p k)) (Fin.ext (by show 512 + j.val = l.val % 4 * 512 + j.val; omega))
    rw [if_neg (by omega), if_pos (by omega)]
    exact Finset.sum_congr rfl fun j _ => congrArg (fun k => res (ix2 p k)) (Fin.ext (by show j.val = l.val % 4 * 512 + j.val; omega))
  · rw [if_neg h, if_neg (by omega), if_neg (by omega), if_neg (by omega), if_neg (by omega)]

/-- A column is a row's id. -/
theorem hit_eq (t : ℕ) (ht : t < 75) (j : Fin 2048) (id : BitVec 32) :
    IntOp.cmpi .eq (IntOp.addi (Scalar.muli (BitVec.ofNat 32 t) 2048#32) (BitVec.ofNat 32 j.val)) id = 1#1 ↔ id.toNat = t * 2048 + j.val := by
  have e : IntOp.addi (Scalar.muli (BitVec.ofNat 32 t) 2048#32) (BitVec.ofNat 32 j.val) = BitVec.ofNat 32 (t * 2048 + j.val) := by
    rw [BitVec.ofNat_add, BitVec.ofNat_mul]; rfl
  have e' : id = BitVec.ofNat 32 id.toNat := by simp
  rw [e]
  conv => lhs; rw [e']
  refine (Idealize.ShloMosaic.WordCmp.cmpi_eq_ofNat_eq_one_iff (by have := j.isLt; omega) id.isLt).trans ⟨fun h => h.symm, fun h => h.symm⟩

/-- A batch's picks: the entry at each row's id, if the point's columns have it, is added. -/
theorem pickV_apply (t : ℕ) (ht : t < 75) (ids : Vec Ideal S8x1 .i32) (old : Vec Ideal S8x1 .f32) (x : FVec Ideal S8x2048 .f32) (p : Fin 8) :
    pickV (F := Ideal) (hitV (F := Ideal) (BitVec.ofNat 32 t) ids) old x (ix2 p 0)
      = old (ix2 p 0) + ∑ j : Fin 2048, (if (ids (ix2 p 0)).toNat = t * 2048 + j.val then x (ix2 p j) else 0 : EReal) := by
  pointwise [pickV, hitV, colV]
  refine congrArg (fun z => old (ix2 p 0) + z) (Finset.sum_congr rfl fun j _ => ?_)
  exact select_iff (hit_eq t ht j _) _ _

end Cert.MassIdeal.Hand
-- ==== Proof.MassValue.lean ====
/-
  The tile masses over the points: after point t the lanes of the tiles of points 0..t hold their sums, the rest zero.
-/
module

public import proofs.«01_k».proof.Proof.MassBody
public import proofs.«01_k».proof.Proof.MassPay

@[expose] public section

set_option maxRecDepth 16384

noncomputable section

namespace Cert.MassIdeal.Hand

open Cert.MassIdeal Cert.MassIdeal.Gen
open Idealize.ShloMosaic Idealize.ShloMosaic.TcCoe Idealize.ShloMosaic.Tactic

/-- Updates of which one, `q`, acts at an entry and the others leave it. -/
theorem runUpd_apply {ι α : Type} (u : (b : Nat) → b < 32 → (ι → α) → (ι → α)) (y : ι) (q : ℕ) (hq : q < 32) (g : α → α)
    (hu : ∀ b hb X, u b hb X y = if b = q then g (X y) else X y) :
    ∀ n hn X, runUpd u n hn X y = if 32 - n ≤ q then g (X y) else X y
  | 0, hn, X => by
      unfold runUpd
      rw [if_neg (by omega)]
  | n + 1, hn, X => by
      unfold runUpd
      rw [runUpd_apply u y q hq g hu n (by omega), hu]
      by_cases h1 : 32 - (n + 1) = q
      · rw [if_neg (by omega), if_pos h1, if_pos (by omega)]
      · rw [if_neg h1]
        by_cases h2 : 32 - n ≤ q
        · rw [if_pos h2, if_pos (by omega)]
        · rw [if_neg h2, if_neg (by omega)]

section
variable (s2 : Vec Ideal S256x151936 .f32) (lse : Vec Ideal S256x1 .f32) (dc : Vec Ideal S32x7x151936 .i8) (qs ql : Vec Ideal S256x1 .f32)

/-- The draft's code of a row and a column; every eighth row has none. -/
def code (r : Fin 256) (j : Fin 151936) : EReal :=
  if h : r.val % 8 < 7 then FloatOps.sitofp (F := Ideal) .f32 (dc (ix3 ⟨r.val / 8, by have := r.isLt; omega⟩ ⟨r.val % 8, h⟩ j)) else (0 : EReal)

/-- The residual of a row at a column, zero past the vocabulary. -/
def resid (r : Fin 256) (n : ℕ) : EReal :=
  if h : n < 151936 then max (Ideal.exp2 (s2 (ix2 r ⟨n, h⟩) - lse (ix2 r 0)) - Ideal.exp (code dc r ⟨n, h⟩ * qs (ix2 r 0) - ql (ix2 r 0))) (0 : EReal) else 0

/-- The tile masses of the points before `n`. -/
def masses (n : ℕ) : Vec Ideal S256x297 .f32 := fun y =>
  if (y 1).val / 4 < n then ∑ j : Fin 512, resid s2 lse dc qs ql (y 0) ((y 1).val * 512 + j.val) else (0 : EReal)

variable (x1 : Vec Ideal S256x2048 .f32) (x3 : Vec Ideal S32x7x2048 .i8) (t : ℕ) (ht : t < 75)
  (h1 : ∀ (r : Fin 256) (j : Fin 2048) (h : t * 2048 + j.val < 151936), x1 (ix2 r j) = s2 (ix2 r ⟨t * 2048 + j.val, h⟩))
  (h3 : ∀ (b : Fin 32) (p : Fin 7) (j : Fin 2048) (h : t * 2048 + j.val < 151936), x3 (ix3 b p j) = dc (ix3 b p ⟨t * 2048 + j.val, h⟩))

/-- A row of a batch is a row of the whole. -/
theorem w1_apply {e : EltTy} (b : Nat) (hb : b < 32) (X : Vec Ideal S256x1 e) (p : Fin 8) (r : Fin 256) (h : r.val = 8 * b + p.val) :
    w1 (F := Ideal) b hb X (ix2 p 0) = X (ix2 r 0) := by
  refine congrArg X (funext fun a => Fin.ext ?_)
  match a with
  | ⟨0, _⟩ => change 8 * b + 1 * p.val = r.val; omega
  | ⟨1, _⟩ => rfl
theorem w2048_apply (b : Nat) (hb : b < 32) (X : Vec Ideal S256x2048 .f32) (p : Fin 8) (j : Fin 2048) (r : Fin 256) (h : r.val = 8 * b + p.val) :
    w2048 (F := Ideal) b hb X (ix2 p j) = X (ix2 r j) := by
  refine congrArg X (funext fun a => Fin.ext ?_)
  match a with
  | ⟨0, _⟩ => change 8 * b + 1 * p.val = r.val; omega
  | ⟨1, _⟩ => change 0 + 1 * j.val = j.val; omega
theorem w297_apply (b : Nat) (hb : b < 32) (X : Vec Ideal S256x297 .f32) (p : Fin 8) (l : Fin 297) (r : Fin 256) (h : r.val = 8 * b + p.val) :
    w297 (F := Ideal) b hb X (ix2 p l) = X (ix2 r l) := by
  refine congrArg X (funext fun a => Fin.ext ?_)
  match a with
  | ⟨0, _⟩ => change 8 * b + 1 * p.val = r.val; omega
  | ⟨1, _⟩ => change 0 + 1 * l.val = l.val; omega
theorem wC_apply (b : Nat) (hb : b < 32) (X : Vec Ideal S32x7x2048 .i8) (p : Fin 7) (j : Fin 2048) :
    wC (F := Ideal) b hb X (ix3 0 p j) = X (ix3 ⟨b, hb⟩ p j) := by
  refine congrArg X (funext fun a => Fin.ext ?_)
  match a with
  | ⟨0, _⟩ => change b + 1 * 0 = b; omega
  | ⟨1, _⟩ => change 0 + 1 * p.val = p.val; omega
  | ⟨2, _⟩ => change 0 + 1 * j.val = j.val; omega

include ht h1 h3 in
/-- A batch's residual. -/
theorem res_apply (b : Nat) (hb : b < 32) (p : Fin 8) (j : Fin 2048) (r : Fin 256) (h : r.val = 8 * b + p.val) :
    resV (F := Ideal) (BitVec.ofNat 32 t) (w2048 b hb x1) (w1 b hb lse) (wC b hb x3) (w1 b hb qs) (w1 b hb ql) (ix2 p j)
      = resid s2 lse dc qs ql r (t * 2048 + j.val) := by
  rw [resV_apply t ht, codeV_apply, w2048_apply b hb x1 p j r h, w1_apply b hb lse p r h, w1_apply b hb qs p r h, w1_apply b hb ql p r h]
  unfold resid
  by_cases hj : t * 2048 + j.val < 151936
  · rw [if_pos hj, dif_pos hj, h1 r j hj]
    have hc : (if hp : p.val < 7 then FloatOps.sitofp (F := Ideal) .f32 (wC (F := Ideal) b hb x3 (ix3 0 ⟨p.val, hp⟩ j)) else (0 : EReal)) = code dc r ⟨t * 2048 + j.val, hj⟩ := by
      have hp8 : r.val % 8 = p.val := by have := p.isLt; omega
      have hb8 : r.val / 8 = b := by have := p.isLt; omega
      unfold code
      by_cases hp : p.val < 7
      · rw [dif_pos hp, dif_pos (by omega), wC_apply, h3 _ _ _ hj]
        congr 2
        funext a
        match a with
        | ⟨0, _⟩ => exact Fin.ext hb8.symm
        | ⟨1, _⟩ => exact Fin.ext hp8.symm
        | ⟨2, _⟩ => rfl
      · rw [dif_neg hp, dif_neg (by omega)]
    rw [hc]
  · rw [if_neg hj, dif_neg hj]

include ht h1 h3 in
/-- One batch's update at an entry. -/
theorem upd7_apply (r : Fin 256) (l : Fin 297) (b : Nat) (hb : b < 32) (X : Vec Ideal S256x297 .f32) :
    upd7 (F := Ideal) (BitVec.ofNat 32 t) x1 lse x3 qs ql b hb X (ix2 r l)
      = if b = r.val / 8 then (if l.val / 4 = t then ∑ j : Fin 512, resid s2 lse dc qs ql r (l.val * 512 + j.val) else X (ix2 r l)) else X (ix2 r l) := by
  have hr := r.isLt
  by_cases hbr : b = r.val / 8
  · rw [if_pos hbr]
    have hin : ∀ a : Fin 2, (![8 * b, 0] : Fin 2 → ℕ) a ≤ ((ix2 r l : S256x297.Idx) a).val ∧ ((ix2 r l : S256x297.Idx) a).val < (![8 * b, 0] : Fin 2 → ℕ) a + S8x297.size a := fun a => by
      match a with
      | ⟨0, _⟩ => change 8 * b ≤ r.val ∧ r.val < 8 * b + 8; omega
      | ⟨1, _⟩ => change 0 ≤ l.val ∧ l.val < 0 + 297; have := l.isLt; omega
    have hp : r.val = 8 * b + r.val % 8 := by omega
    unfold upd7 VecWindow.put
    refine (dif_pos hin).trans ?_
    have e : Rect.unitLocal (s := S256x297) (off := ![8 * b, 0]) (size := S8x297.size) (ix2 r l) hin = ix2 (⟨r.val % 8, Nat.mod_lt _ (by decide)⟩ : Fin 8) l := by
      funext a
      apply Fin.ext
      match a with
      | ⟨0, _⟩ => change r.val - 8 * b = r.val % 8; omega
      | ⟨1, _⟩ => rfl
    rw [e, massV_apply t ht]
    by_cases hl : l.val / 4 = t
    · rw [if_pos hl, if_pos hl]
      refine Finset.sum_congr rfl fun j _ => ?_
      rw [res_apply s2 lse dc qs ql x1 x3 t ht h1 h3 b hb _ _ r hp]
      congr 1
      change t * 2048 + (l.val % 4 * 512 + j.val) = l.val * 512 + j.val
      omega
    · rw [if_neg hl, if_neg hl, w297_apply b hb X _ l r hp]
  · rw [if_neg hbr]
    unfold upd7 VecWindow.put
    refine dif_neg fun hin => ?_
    have h0 : 8 * b ≤ r.val ∧ r.val < 8 * b + 8 := hin 0
    omega

include ht h1 h3 in
/-- A point adds its tiles' masses. -/
theorem step7_eq (i : grid0.Coords) (hi : (i 0).val = t) (X : Vec Ideal S256x297 .f32) (hX : t ≠ 0 → X = masses s2 lse dc qs ql t) :
    step7 (F := Ideal) i x1 lse x3 qs ql X = masses s2 lse dc qs ql (t + 1) := by
  have hs : start i zero297 X = masses s2 lse dc qs ql t := by
    unfold start
    rw [hi]
    by_cases h0 : t = 0
    · rw [if_pos h0, h0]
      funext y
      unfold masses zero297
      rw [if_neg (by omega)]
      exact Ideal.ofBits_zero .f32
    · rw [if_neg h0, hX h0]
  funext y
  obtain ⟨r, l, rfl⟩ : ∃ (r : Fin 256) (l : Fin 297), y = ix2 r l := ⟨y 0, y 1, eq_ix2 y⟩
  unfold step7
  rw [hi, hs, runUpd_apply _ (ix2 r l) (r.val / 8) (by have := r.isLt; omega)
    (fun x => if l.val / 4 = t then ∑ j : Fin 512, resid s2 lse dc qs ql r (l.val * 512 + j.val) else x)
    (fun b hb X => upd7_apply s2 lse dc qs ql x1 x3 t ht h1 h3 r l b hb X), if_pos (by omega)]
  change (if l.val / 4 = t then _ else if l.val / 4 < t then _ else _) = if l.val / 4 < t + 1 then _ else _
  by_cases hl : l.val / 4 = t
  · rw [if_pos hl, if_pos (by omega)]
    rfl
  · rw [if_neg hl]
    by_cases h2 : l.val / 4 < t
    · rw [if_pos h2, if_pos (by omega)]
    · rw [if_neg h2, if_neg (by omega)]

end

end Cert.MassIdeal.Hand
-- ==== Proof.MassPick.lean ====
/-
  The picked entries over the points: after point t a row whose id is among the columns of points 0..t holds its entry,
  the other rows zero.
-/
module

public import proofs.«01_k».proof.Proof.MassValue

@[expose] public section

set_option maxRecDepth 16384

noncomputable section

namespace Cert.MassIdeal.Hand

open Cert.MassIdeal Cert.MassIdeal.Gen
open Idealize.ShloMosaic Idealize.ShloMosaic.TcCoe Idealize.ShloMosaic.Tactic

/-- The entry of `g` at `id` once the columns before `n * 2048` are seen; zero before, and of no entry. -/
def pick (id : ℕ) (g : Fin 151936 → EReal) (n : ℕ) : EReal :=
  if h : id < 151936 then (if id < n * 2048 then g ⟨id, h⟩ else 0) else 0

theorem pick_zero (id : ℕ) (g : Fin 151936 → EReal) : pick id g 0 = 0 := by
  unfold pick
  split
  · rw [if_neg (by omega)]
  · rfl

theorem pick_last (id : ℕ) (g : Fin 151936 → EReal) : pick id g 75 = if h : id < 151936 then g ⟨id, h⟩ else 0 := by
  unfold pick
  split
  · rw [if_pos (by omega)]
  · rfl

/-- A point adds the entry if its columns have the id. An id past the vocabulary is none of the columns, in or out of it. -/
theorem pick_step (id t : ℕ) (ht : t < 75) (hid : id < 151936 ∨ 153600 ≤ id) (g : Fin 151936 → EReal) (x : Fin 2048 → EReal)
    (hx : ∀ (j : Fin 2048) (h : t * 2048 + j.val < 151936), x j = g ⟨t * 2048 + j.val, h⟩) :
    pick id g t + ∑ j : Fin 2048, (if id = t * 2048 + j.val then x j else 0 : EReal) = pick id g (t + 1) := by
  by_cases hh : id / 2048 = t
  · have hlt : id < 151936 := by omega
    have hj : t * 2048 + id % 2048 = id := by omega
    rw [Finset.sum_eq_single (⟨id % 2048, Nat.mod_lt _ (by decide)⟩ : Fin 2048)]
    · rw [if_pos hj.symm]
      unfold pick
      rw [dif_pos hlt, dif_pos hlt, if_neg (by omega), if_pos (by omega), zero_add, hx _ (by change t * 2048 + id % 2048 < 151936; omega)]
      exact congrArg g (Fin.ext hj)
    · intro j _ hne
      refine if_neg fun h => hne (Fin.ext ?_)
      change j.val = id % 2048
      have := j.isLt
      omega
    · intro h
      exact absurd (Finset.mem_univ _) h
  · rw [Finset.sum_eq_zero (fun j _ => if_neg (by have := j.isLt; omega)), add_zero]
    unfold pick
    split
    · by_cases h2 : id < t * 2048
      · rw [if_pos h2, if_pos (by omega)]
      · rw [if_neg h2, if_neg (by omega)]
    · rfl

/-- A row of a column put by batch `b`. -/
theorem put1_apply (b : Nat) (hb : b < 32) (P : Vec Ideal S8x1 .f32) (X : Vec Ideal S256x1 .f32) (r : Fin 256) :
    VecWindow.put X ![8 * b, 0] S8x1.size P (ix2 r 0) = if b = r.val / 8 then P (ix2 ⟨r.val % 8, Nat.mod_lt _ (by decide)⟩ 0) else X (ix2 r 0) := by
  have hr := r.isLt
  by_cases hbr : b = r.val / 8
  · rw [if_pos hbr]
    have hin : ∀ a : Fin 2, (![8 * b, 0] : Fin 2 → ℕ) a ≤ ((ix2 r 0 : S256x1.Idx) a).val ∧ ((ix2 r 0 : S256x1.Idx) a).val < (![8 * b, 0] : Fin 2 → ℕ) a + S8x1.size a := fun a => by
      match a with
      | ⟨0, _⟩ => change 8 * b ≤ r.val ∧ r.val < 8 * b + 8; omega
      | ⟨1, _⟩ => change 0 ≤ 0 ∧ 0 < 0 + 1; omega
    unfold VecWindow.put
    refine (dif_pos hin).trans (congrArg P ?_)
    funext a
    apply Fin.ext
    match a with
    | ⟨0, _⟩ => change r.val - 8 * b = r.val % 8; omega
    | ⟨1, _⟩ => rfl
  · rw [if_neg hbr]
    unfold VecWindow.put
    refine dif_neg fun hin => ?_
    have h0 : 8 * b ≤ r.val ∧ r.val < 8 * b + 8 := hin 0
    omega

/-- A row of a block of codes, zero in every eighth row. -/
def codeRow (x3 : Vec Ideal S32x7x2048 .i8) (r : Fin 256) (j : Fin 2048) : EReal :=
  if h : r.val % 8 < 7 then FloatOps.sitofp (F := Ideal) .f32 (x3 (ix3 ⟨r.val / 8, by have := r.isLt; omega⟩ ⟨r.val % 8, h⟩ j)) else (0 : EReal)

theorem codeV_row (x3 : Vec Ideal S32x7x2048 .i8) (b : Nat) (hb : b < 32) (r : Fin 256) (hbr : b = r.val / 8) (j : Fin 2048) :
    codeV (F := Ideal) (wC b hb x3) (ix2 ⟨r.val % 8, Nat.mod_lt _ (by decide)⟩ j) = codeRow x3 r j := by
  subst hbr
  rw [codeV_apply]
  unfold codeRow
  by_cases hp : r.val % 8 < 7
  · rw [dif_pos hp, dif_pos hp, wC_apply]
  · rw [dif_neg hp, dif_neg hp]

section
variable (ids : Vec Ideal S256x1 .i32) (x1 : Vec Ideal S256x2048 .f32) (x3 : Vec Ideal S32x7x2048 .i8) (t : ℕ) (ht : t < 75)

include ht in
/-- One batch's update of the picked scaled logits at a row. -/
theorem upd8_apply (r : Fin 256) (b : Nat) (hb : b < 32) (X : Vec Ideal S256x1 .f32) :
    upd8 (F := Ideal) (BitVec.ofNat 32 t) x1 ids b hb X (ix2 r 0)
      = if b = r.val / 8 then X (ix2 r 0) + ∑ j : Fin 2048, (if (ids (ix2 r 0)).toNat = t * 2048 + j.val then x1 (ix2 r j) else 0 : EReal) else X (ix2 r 0) := by
  unfold upd8
  rw [put1_apply b hb]
  by_cases hbr : b = r.val / 8
  · have hp : r.val = 8 * b + (⟨r.val % 8, Nat.mod_lt _ (by decide)⟩ : Fin 8).val := by change r.val = 8 * b + r.val % 8; omega
    rw [if_pos hbr, if_pos hbr, pickV_apply t ht, w1_apply b hb X _ r hp, w1_apply b hb ids _ r hp]
    simp only [fun j => w2048_apply b hb x1 _ j r hp]
  · rw [if_neg hbr, if_neg hbr]

include ht in
/-- One batch's update of the picked codes at a row. -/
theorem upd9_apply (r : Fin 256) (b : Nat) (hb : b < 32) (X : Vec Ideal S256x1 .f32) :
    upd9 (F := Ideal) (BitVec.ofNat 32 t) x3 ids b hb X (ix2 r 0)
      = if b = r.val / 8 then X (ix2 r 0) + ∑ j : Fin 2048, (if (ids (ix2 r 0)).toNat = t * 2048 + j.val then codeRow x3 r j else 0 : EReal) else X (ix2 r 0) := by
  unfold upd9
  rw [put1_apply b hb]
  by_cases hbr : b = r.val / 8
  · have hp : r.val = 8 * b + (⟨r.val % 8, Nat.mod_lt _ (by decide)⟩ : Fin 8).val := by change r.val = 8 * b + r.val % 8; omega
    rw [if_pos hbr, if_pos hbr, pickV_apply t ht, w1_apply b hb X _ r hp, w1_apply b hb ids _ r hp]
    simp only [fun j => codeV_row x3 b hb r hbr j]
  · rw [if_neg hbr, if_neg hbr]

variable (f : Fin 256 → Fin 151936 → EReal) (hids : ∀ r : Fin 256, (ids (ix2 r 0)).toNat < 151936 ∨ 153600 ≤ (ids (ix2 r 0)).toNat)

/-- The picked entries of the points before `n`. -/
def picks (n : ℕ) : Vec Ideal S256x1 .f32 := fun y => pick (ids (ix2 (y 0) 0)).toNat (f (y 0)) n

/-- What a point finds in a column of picked entries, after the zeroing. -/
theorem start_picks (i : grid0.Coords) (hi : (i 0).val = t) (X : Vec Ideal S256x1 .f32) (hX : t ≠ 0 → X = picks ids f t) :
    start i zero1 X = picks ids f t := by
  unfold start
  rw [hi]
  by_cases h0 : t = 0
  · rw [if_pos h0, h0]
    funext y
    exact (Ideal.ofBits_zero .f32).trans (pick_zero _ _).symm
  · rw [if_neg h0, hX h0]

include ht hids in
/-- A point's steps add the picked entries of its columns. -/
theorem run_picks (u : (b : Nat) → b < 32 → Vec Ideal S256x1 .f32 → Vec Ideal S256x1 .f32) (x : Fin 256 → Fin 2048 → EReal)
    (hx : ∀ (r : Fin 256) (j : Fin 2048) (h : t * 2048 + j.val < 151936), x r j = f r ⟨t * 2048 + j.val, h⟩)
    (hu : ∀ (r : Fin 256) b hb X, u b hb X (ix2 r 0)
      = if b = r.val / 8 then X (ix2 r 0) + ∑ j : Fin 2048, (if (ids (ix2 r 0)).toNat = t * 2048 + j.val then x r j else 0 : EReal) else X (ix2 r 0)) :
    runUpd u 32 (le_refl _) (picks ids f t) = picks ids f (t + 1) := by
  funext y
  obtain ⟨r, rfl⟩ : ∃ r : Fin 256, y = ix2 r 0 := ⟨y 0, (eq_ix2 y).trans (congrArg (ix2 (y 0)) (Subsingleton.elim (α := Fin 1) (y 1) 0))⟩
  rw [runUpd_apply u (ix2 r 0) (r.val / 8) (by have := r.isLt; omega)
    (fun z => z + ∑ j : Fin 2048, (if (ids (ix2 r 0)).toNat = t * 2048 + j.val then x r j else 0 : EReal)) (fun b hb X => hu r b hb X), if_pos (by omega)]
  exact pick_step _ t ht (hids r) (f r) (x r) (hx r)

include ht hids in
/-- A point adds the picked scaled logits of its columns. -/
theorem step8_eq (i : grid0.Coords) (hi : (i 0).val = t) (X : Vec Ideal S256x1 .f32) (hX : t ≠ 0 → X = picks ids f t)
    (h1 : ∀ (r : Fin 256) (j : Fin 2048) (h : t * 2048 + j.val < 151936), x1 (ix2 r j) = f r ⟨t * 2048 + j.val, h⟩) :
    step8 (F := Ideal) i x1 ids X = picks ids f (t + 1) := by
  unfold step8
  rw [start_picks ids t f i hi X hX, hi]
  exact run_picks ids t ht f hids _ (fun r j => x1 (ix2 r j)) h1 (upd8_apply ids x1 t ht)

include ht hids in
/-- A point adds the picked codes of its columns. -/
theorem step9_eq (dc : Vec Ideal S32x7x151936 .i8) (i : grid0.Coords) (hi : (i 0).val = t) (X : Vec Ideal S256x1 .f32) (hX : t ≠ 0 → X = picks ids (code dc) t)
    (h3 : ∀ (b : Fin 32) (p : Fin 7) (j : Fin 2048) (h : t * 2048 + j.val < 151936), x3 (ix3 b p j) = dc (ix3 b p ⟨t * 2048 + j.val, h⟩)) :
    step9 (F := Ideal) i x3 ids X = picks ids (code dc) (t + 1) := by
  unfold step9
  rw [start_picks ids t (code dc) i hi X hX, hi]
  refine run_picks ids t ht (code dc) hids _ (codeRow x3) (fun r j h => ?_) (upd9_apply ids x3 t ht)
  unfold codeRow code
  split
  · rw [h3 _ _ j h]
  · rfl

end

end Cert.MassIdeal.Hand

end
-- ==== Proof.MassRun.lean ====
/-
  The mass kernel's points: on ids in the vocabulary the outputs' buffers hold the tile masses and the picked entries so far.
-/
module

public import proofs.«01_k».proof.Proof.MassPick
public import Idealize.ShloMosaic.Lib.Claim
public import Idealize.ShloMosaic.Lib.Pipeline.ArrRel
public import Idealize.ShloMosaic.Lib.Pipeline.ValueKit.Geometry

@[expose] public section

set_option maxRecDepth 16384

noncomputable section

namespace Cert.MassIdeal.Hand

open Cert.MassIdeal Cert.MassIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf kernel pipe ΦA)

local notation "𝕄" => MT nD τ sig Unit (Elt Ideal) ℕ (UR sig nD τ) ℕ

variable (m : (ℓ : Loc nD τ sig) → Buf (Elt Ideal) ℓ) (ρ : Dev nD → PrngReg)

/-! ## The blocks -/

theorem coords_val : ∀ t : Fin cfg0.N, (grid0.coords t 0).val = t.val :=
  (by decide +kernel : ∀ t : Fin grid0.N, (grid0.coords t 0).val = t.val)
theorem idx0 : ∀ t : Fin cfg0.N, win0_0.index t 0 = 0 ∧ win0_0.index t 1 = t.val :=
  (by decide +kernel : ∀ t : Fin grid0.N, win0_0.index t 0 = 0 ∧ win0_0.index t 1 = t.val)
theorem idx2 : ∀ t : Fin cfg0.N, win0_2.index t 0 = 0 ∧ win0_2.index t 1 = 0 ∧ win0_2.index t 2 = t.val :=
  (by decide +kernel : ∀ t : Fin grid0.N, win0_2.index t 0 = 0 ∧ win0_2.index t 1 = 0 ∧ win0_2.index t 2 = t.val)
theorem xs0 : ∀ t : Fin cfg0.N, win0_0.xsize (grid0.coords t) 0 = 256 ∧ win0_0.xsize (grid0.coords t) 1 = min 2048 (151936 - t.val * 2048) :=
  (by decide +kernel : ∀ t : Fin grid0.N, win0_0.xsize (grid0.coords t) 0 = 256 ∧ win0_0.xsize (grid0.coords t) 1 = min 2048 (151936 - t.val * 2048))
theorem xs2 : ∀ t : Fin cfg0.N, win0_2.xsize (grid0.coords t) 0 = 32 ∧ win0_2.xsize (grid0.coords t) 1 = 7 ∧ win0_2.xsize (grid0.coords t) 2 = min 2048 (151936 - t.val * 2048) :=
  (by decide +kernel : ∀ t : Fin grid0.N, win0_2.xsize (grid0.coords t) 0 = 32 ∧ win0_2.xsize (grid0.coords t) 1 = 7 ∧ win0_2.xsize (grid0.coords t) 2 = min 2048 (151936 - t.val * 2048))

/-- The arrays the region finds. -/
def arrS2 (c : Dev nD) : Vec Ideal S256x151936 .f32 := V m c (Pipeline.arrRef spec0 0)
def arrLse (c : Dev nD) : Vec Ideal S256x1 .f32 := V m c (Pipeline.arrRef spec0 1)
def arrDc (c : Dev nD) : Vec Ideal S32x7x151936 .i8 := V m c (Pipeline.arrRef spec0 2)
def arrQs (c : Dev nD) : Vec Ideal S256x1 .f32 := V m c (Pipeline.arrRef spec0 3)
def arrQl (c : Dev nD) : Vec Ideal S256x1 .f32 := V m c (Pipeline.arrRef spec0 4)
def arrIds (c : Dev nD) : Vec Ideal S256x1 .i32 := V m c (Pipeline.arrRef spec0 5)

/-- A column of the scaled logits' block inside the array is the array's. -/
theorem fill0 (c : Dev nD) (t : Fin cfg0.N) (d) (r : Fin 256) (j : Fin 2048) (h : t.val * 2048 + j.val < 151936) :
    win0_0.fill (grid0.coords t) d (iblk m c 0 t) (ix2 r j) = arrS2 m c (ix2 r ⟨t.val * 2048 + j.val, h⟩) := by
  have hm : win0_0.moved (grid0.coords t) (ix2 r j) = true := by
    rw [Pipeline.Window.moved_iff]
    intro a
    match a with
    | ⟨0, _⟩ =>
      change r.val < win0_0.xsize (grid0.coords t) 0
      rw [(xs0 t).1]; exact r.isLt
    | ⟨1, _⟩ =>
      change j.val < win0_0.xsize (grid0.coords t) 1
      rw [(xs0 t).2]; have := j.isLt; omega
  unfold Pipeline.Window.fill
  rw [dif_pos hm]
  unfold iblk arrS2
  refine congrArg (V m c (Pipeline.arrRef spec0 0)) (funext fun a => Fin.ext ?_)
  match a with
  | ⟨0, _⟩ =>
    change win0_0.index t 0 * 256 + 1 * r.val = r.val
    rw [(idx0 t).1]; omega
  | ⟨1, _⟩ =>
    change win0_0.index t 1 * 2048 + 1 * j.val = t.val * 2048 + j.val
    rw [(idx0 t).2]; omega

/-- A column of the draft codes' block inside the array is the array's. -/
theorem fill2 (c : Dev nD) (t : Fin cfg0.N) (d) (b : Fin 32) (p : Fin 7) (j : Fin 2048) (h : t.val * 2048 + j.val < 151936) :
    win0_2.fill (grid0.coords t) d (iblk m c 2 t) (ix3 b p j) = arrDc m c (ix3 b p ⟨t.val * 2048 + j.val, h⟩) := by
  have hm : win0_2.moved (grid0.coords t) (ix3 b p j) = true := by
    rw [Pipeline.Window.moved_iff]
    intro a
    match a with
    | ⟨0, _⟩ =>
      change b.val < win0_2.xsize (grid0.coords t) 0
      rw [(xs2 t).1]; exact b.isLt
    | ⟨1, _⟩ =>
      change p.val < win0_2.xsize (grid0.coords t) 1
      rw [(xs2 t).2.1]; exact p.isLt
    | ⟨2, _⟩ =>
      change j.val < win0_2.xsize (grid0.coords t) 2
      rw [(xs2 t).2.2]; have := j.isLt; omega
  unfold Pipeline.Window.fill
  rw [dif_pos hm]
  unfold iblk arrDc
  refine congrArg (V m c (Pipeline.arrRef spec0 2)) (funext fun a => Fin.ext ?_)
  match a with
  | ⟨0, _⟩ =>
    change win0_2.index t 0 * 32 + 1 * b.val = b.val
    rw [(idx2 t).1]; omega
  | ⟨1, _⟩ =>
    change win0_2.index t 1 * 7 + 1 * p.val = p.val
    rw [(idx2 t).2.1]; omega
  | ⟨2, _⟩ =>
    change win0_2.index t 2 * 2048 + 1 * j.val = t.val * 2048 + j.val
    rw [(idx2 t).2.2]; omega

/-- A column's block is the column. -/
theorem index1 : ∀ t : Fin cfg0.N, win0_1.index t = ![0, 0] := (by decide +kernel : ∀ t : Fin grid0.N, win0_1.index t = ![0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem blk1_eq (c : Dev nD) (t : Fin cfg0.N) : iblk m c 1 t = arrLse m c := by
  funext y
  unfold iblk arrLse
  refine congrArg (V m c (Pipeline.arrRef spec0 1)) (funext fun a => Fin.ext ?_)
  match a with
  | ⟨0, _⟩ =>
    change win0_1.index t 0 * 256 + 1 * (y 0).val = (y 0).val
    rw [index1]; simp
  | ⟨1, _⟩ =>
    change win0_1.index t 1 * 1 + 1 * (y 1).val = (y 1).val
    rw [index1]; simp
theorem blk3_eq (c : Dev nD) (t : Fin cfg0.N) : iblk m c 3 t = arrQs m c := by
  funext y
  unfold iblk arrQs
  refine congrArg (V m c (Pipeline.arrRef spec0 3)) (funext fun a => Fin.ext ?_)
  match a with
  | ⟨0, _⟩ =>
    change win0_3.index t 0 * 256 + 1 * (y 0).val = (y 0).val
    rw [index3]; simp
  | ⟨1, _⟩ =>
    change win0_3.index t 1 * 1 + 1 * (y 1).val = (y 1).val
    rw [index3]; simp
theorem blk4_eq (c : Dev nD) (t : Fin cfg0.N) : iblk m c 4 t = arrQl m c := by
  funext y
  unfold iblk arrQl
  refine congrArg (V m c (Pipeline.arrRef spec0 4)) (funext fun a => Fin.ext ?_)
  match a with
  | ⟨0, _⟩ =>
    change win0_4.index t 0 * 256 + 1 * (y 0).val = (y 0).val
    rw [index4]; simp
  | ⟨1, _⟩ =>
    change win0_4.index t 1 * 1 + 1 * (y 1).val = (y 1).val
    rw [index4]; simp

theorem index5 : ∀ t : Fin cfg0.N, win0_5.index t = ![0, 0] := (by decide +kernel : ∀ t : Fin grid0.N, win0_5.index t = ![0, 0])
theorem blk5_eq (c : Dev nD) (t : Fin cfg0.N) : iblk m c 5 t = arrIds m c := by
  funext y
  unfold iblk arrIds
  refine congrArg (V m c (Pipeline.arrRef spec0 5)) (funext fun a => Fin.ext ?_)
  match a with
  | ⟨0, _⟩ =>
    change win0_5.index t 0 * 256 + 1 * (y 0).val = (y 0).val
    rw [index5]; simp
  | ⟨1, _⟩ =>
    change win0_5.index t 1 * 1 + 1 * (y 1).val = (y 1).val
    rw [index5]; simp

/-! ## The data of the run -/

/-- The tile masses of the points before `n`, from the arrays the region finds. -/
def massT (c : Dev nD) (n : ℕ) : Vec Ideal S256x297 .f32 := masses (arrS2 m c) (arrLse m c) (arrDc m c) (arrQs m c) (arrQl m c) n

/-- The picked scaled logits and the picked codes of the points before `n`. -/
def pickS2 (c : Dev nD) (n : ℕ) : Vec Ideal S256x1 .f32 := picks (arrIds m c) (fun r j => arrS2 m c (ix2 r j)) n
def pickDc (c : Dev nD) (n : ℕ) : Vec Ideal S256x1 .f32 := picks (arrIds m c) (code (arrDc m c)) n

/-- The data of the run: the arrays as the region finds them, the inputs' buffers at their blocks (filled out past the array's
    end with contents the results do not read), the tile masses and the picked entries so far. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => Classical.arbitrary _) (iblk m c 0 t)
    | ⟨1, _⟩ => iblk m c 1 t
    | ⟨2, _⟩ => win0_2.fill (grid0.coords t) (fun _ => Classical.arbitrary _) (iblk m c 2 t)
    | ⟨3, _⟩ => iblk m c 3 t
    | ⟨4, _⟩ => iblk m c 4 t
    | ⟨5, _⟩ => iblk m c 5 t
    | ⟨6, _⟩ => massT m c (t.val + 1)
    | ⟨7, _⟩ => pickS2 m c (t.val + 1)
    | ⟨8, _⟩ => pickDc m c (t.val + 1)
  Φ _ := ΦA spec0 c
  q _ := fullShare
  owed _ := 0

theorem before_0 (c : Dev nD) (t : Fin cfg0.N) (d) :
    (dats m 0 c).before (0 : Fin 9) t d = win0_0.fill (grid0.coords t) d (iblk m c 0 t) := by
  unfold Dat.before; rw [if_pos (fetch0_0 t)]; rfl
theorem before_2 (c : Dev nD) (t : Fin cfg0.N) (d) :
    (dats m 0 c).before (2 : Fin 9) t d = win0_2.fill (grid0.coords t) d (iblk m c 2 t) := by
  unfold Dat.before; rw [if_pos (fetch0_2 t)]; rfl

/-- After the first point the outputs' buffers hold what the points before left. -/
theorem before_6 (c : Dev nD) (t : Fin cfg0.N) (ht : t.val ≠ 0) (d) : (dats m 0 c).before (6 : Fin 9) t d = massT m c t.val := by
  refine ((dats m 0 c).before_out_kept (6 : Fin 9) rfl t ht ?_ (fun _ => rfl) (fun _ _ => rfl) d).trans ?_
  · refine Bool.eq_false_iff.2 fun h => ?_
    have : (t.val - 1) % 75 = 74 := (flush0_6 _).1 h
    have := t.isLt
    have hN : cfg0.N = 75 := N_0
    omega
  · exact congrArg (massT m c) (Nat.sub_add_cancel (Nat.pos_of_ne_zero ht))
attribute [local irreducible] pickS2 in
theorem before_7 (c : Dev nD) (t : Fin cfg0.N) (ht : t.val ≠ 0) (d) : (dats m 0 c).before (7 : Fin 9) t d = pickS2 m c t.val := by
  refine ((dats m 0 c).before_out_kept (7 : Fin 9) rfl t ht ?_ (fun _ => rfl) (fun _ _ => rfl) d).trans ?_
  · refine Bool.eq_false_iff.2 fun h => ?_
    have : (t.val - 1) % 75 = 74 := (flush0_7 _).1 h
    have := t.isLt
    have hN : cfg0.N = 75 := N_0
    omega
  · exact congrArg (pickS2 m c) (Nat.sub_add_cancel (Nat.pos_of_ne_zero ht))
attribute [local irreducible] pickDc in
theorem before_8 (c : Dev nD) (t : Fin cfg0.N) (ht : t.val ≠ 0) (d) : (dats m 0 c).before (8 : Fin 9) t d = pickDc m c t.val := by
  refine ((dats m 0 c).before_out_kept (8 : Fin 9) rfl t ht ?_ (fun _ => rfl) (fun _ _ => rfl) d).trans ?_
  · refine Bool.eq_false_iff.2 fun h => ?_
    have : (t.val - 1) % 75 = 74 := (flush0_8 _).1 h
    have := t.isLt
    have hN : cfg0.N = 75 := N_0
    omega
  · exact congrArg (pickDc m c) (Nat.sub_add_cancel (Nat.pos_of_ne_zero ht))

set_option maxHeartbeats 2000000 in
/-- The body's obligation at every point. -/
theorem body_obligation (c : Dev nD) (hids : ∀ r : Fin 256, (arrIds m c (ix2 r 0)).toNat < 151936 ∨ 153600 ≤ (arrIds m c (ix2 r 0)).toNat) :
    BodyObligationLoose (dats m 0 c) (defs₀ (F := Ideal)) 𝒱₀ () Set.univ := fun t => by
  rw [bigSep_W0, bigSep_W0]
  simp only
  rw [show (dats m 0 c).owesAt () t.succ = (dats m 0 c).owesAt () t.castSucc from rfl,
    show (dats m 0 c).Φ t.succ = ΦA spec0 c from rfl, show (dats m 0 c).Φ t.castSucc = ΦA spec0 c from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before_0 m c t d0, before0_1_of m (dats m 0 c) rfl (fun _ => rfl) t d1, before_2 m c t d2,
    before0_3_of m (dats m 0 c) rfl (fun _ => rfl) t d3, before0_4_of m (dats m 0 c) rfl (fun _ => rfl) t d4,
    before0_5_of m (dats m 0 c) rfl (fun _ => rfl) t d5]
  have hstep : step7 (F := Ideal) (grid0.coords t) (win0_0.fill (grid0.coords t) d0 (iblk m c 0 t)) (iblk m c 1 t)
      (win0_2.fill (grid0.coords t) d2 (iblk m c 2 t)) (iblk m c 3 t) (iblk m c 4 t) ((dats m 0 c).before (6 : Fin 9) t d6) = massT m c (t.val + 1) := by
    rw [blk1_eq, blk3_eq, blk4_eq]
    exact step7_eq (arrS2 m c) (arrLse m c) (arrDc m c) (arrQs m c) (arrQl m c) _ _ t.val t.isLt
      (fun r j h => fill0 m c t d0 r j h) (fun b p j h => fill2 m c t d2 b p j h) (grid0.coords t) (coords_val t) _ (fun h => before_6 m c t h d6)
  have hstep8 : step8 (F := Ideal) (grid0.coords t) (win0_0.fill (grid0.coords t) d0 (iblk m c 0 t)) (iblk m c 5 t) ((dats m 0 c).before (7 : Fin 9) t d7) = pickS2 m c (t.val + 1) := by
    rw [blk5_eq]
    exact step8_eq (arrIds m c) _ t.val t.isLt _ hids (grid0.coords t) (coords_val t) _ (fun h => before_7 m c t h d7) (fun r j h => fill0 m c t d0 r j h)
  have hstep9 : step9 (F := Ideal) (grid0.coords t) (win0_2.fill (grid0.coords t) d2 (iblk m c 2 t)) (iblk m c 5 t) ((dats m 0 c).before (8 : Fin 9) t d8) = pickDc m c (t.val + 1) := by
    rw [blk5_eq]
    exact step9_eq (arrIds m c) _ t.val t.isLt hids (arrDc m c) (grid0.coords t) (coords_val t) _ (fun h => before_8 m c t h d8) (fun b p j h => fill2 m c t d2 b p j h)
  iapply (body_triple (F := Ideal) c Set.univ (grid0.coords t) (st0_0 t) (hstage0_0 ((cfg0.slots t 0).cast nbuf0_0))
    (st0_1 t) (hstage0_1 ((cfg0.slots t 1).cast nbuf0_1)) (st0_2 t) (hstage0_2 ((cfg0.slots t 2).cast nbuf0_2))
    (st0_3 t) (hstage0_3 ((cfg0.slots t 3).cast nbuf0_3)) (st0_4 t) (hstage0_4 ((cfg0.slots t 4).cast nbuf0_4))
    (st0_5 t) (hstage0_5 ((cfg0.slots t 5).cast nbuf0_5)) (st0_6 t) (hstage0_6 ((cfg0.slots t 6).cast nbuf0_6))
    (st0_7 t) (hstage0_7 ((cfg0.slots t 7).cast nbuf0_7)) (st0_8 t) (hstage0_8 ((cfg0.slots t 8).cast nbuf0_8))
    (win0_0.fill (grid0.coords t) d0 (iblk m c 0 t)) (iblk m c 1 t) (win0_2.fill (grid0.coords t) d2 (iblk m c 2 t))
    (iblk m c 3 t) (iblk m c 4 t) (iblk m c 5 t) ((dats m 0 c).before (6 : Fin 9) t d6) ((dats m 0 c).before (7 : Fin 9) t d7) ((dats m 0 c).before (8 : Fin 9) t d8) _)
  unfold ins
  isplitl [H0 H1 H2 H3 H4 H5 H6 H7 H8]
  · isplitl [H0 H1 H2 H3 H4 H5]
    · isplitl [H0]
      · iexact H0
      isplitl [H1]
      · iexact H1
      isplitl [H2]
      · iexact H2
      isplitl [H3]
      · iexact H3
      isplitl [H4]
      · iexact H4
      iexact H5
    isplitl [H6]
    · iexact H6
    isplitl [H7]
    · iexact H7
    iexact H8
  rw [hstep, hstep8, hstep9]
  iintro ⟨⟨H0, H1, H2, H3, H4, H5⟩, H6, H7, H8⟩
  isplitl [HΦ]
  · iexact HΦ
  isplitl [Ho]
  · iexact Ho
  have h0 : win0_0.cut (grid0.coords t) ((dats m 0 c).after 0 t) = iblk m c 0 t := win0_0.cut_fill _ _ _
  have h2 : win0_2.cut (grid0.coords t) ((dats m 0 c).after 2 t) = iblk m c 2 t := win0_2.cut_fill _ _ _
  isplitl [H0]
  · iexists d0
    change _ ⊢ owns (c : Thread nD τ) (st0_0 t) fullShare (win0_0.fill (grid0.coords t) d0 (win0_0.cut (grid0.coords t) ((dats m 0 c).after 0 t)))
    rw [h0]; try iexact H0
  isplitl [H1]
  · iexact H1
  isplitl [H2]
  · iexists d2
    change _ ⊢ owns (c : Thread nD τ) (st0_2 t) fullShare (win0_2.fill (grid0.coords t) d2 (win0_2.cut (grid0.coords t) ((dats m 0 c).after 2 t)))
    rw [h2]; try iexact H2
  isplitl [H3]
  · iexact H3
  isplitl [H4]
  · iexact H4
  isplitl [H5]
  · iexact H5
  isplitl [H6]
  · iexact H6
  isplitl [H7]
  · iexact H7
  iexact H8

end Cert.MassIdeal.Hand

end
-- ==== Proof.MassHost.lean ====
/-
  The host lines before the two mass regions: the draft scales, logarithms, ids and (in the reference) codes, padded to
  eight rows a sequence and laid out in rows; which positions are the draft's and which are live.
-/
module

public import Idealize.ShloMosaic.Lib.Pointwise
public import Idealize.ShloMosaic.Lib.Pipeline.ValueKit.Geometry
public import proofs.«01_k».proof.Proof.Gen.MassIdeal.Frame
public import proofs.«01_k».proof.Proof.Gen.MassReferenceIdeal.Frame

@[expose] public section

set_option maxRecDepth 16384

noncomputable section

namespace Cert.MassIdeal.Hand

open Cert.MassIdeal Cert.MassIdeal.Gen
open Idealize.ShloMosaic Idealize.ShloMosaic.TcCoe Idealize.ShloMosaic.Tactic
open Idealize.SL Idealize.SL.Sem

variable (m : (ℓ : Loc nD τ sig) → Buf (Elt Ideal) ℓ)

/-- The positions of each sequence's draft, and its live positions. -/
def isDraft (len : Vec Ideal S32 .i32) : IVec S32x7 1 :=
  cmpi .slt (broadcastInDim S32x7 ![0, 1] bcast_S1x7_S32x7_0_1 (broadcastInDim S1x7 ![1] bcast_S7_S1x7_1 (extractStridedSlice S7 ![0] (iotaInDim S8 32 0 : IVec S8 32) slices_S8_S7_0 : IVec S7 32) : IVec S1x7 32) : IVec S32x7 32)
    (broadcastInDim S32x7 ![0, 1] bcast_S32x1_S32x7_0_1 (broadcastInDim S32x1 ![0] bcast_S32_S32x1_0 len : IVec S32x1 32) : IVec S32x7 32)
def isLive (len : Vec Ideal S32 .i32) : IVec S32x8 1 :=
  cmpi .sle (broadcastInDim S32x8 ![0, 1] bcast_S1x8_S32x8_0_1 (broadcastInDim S1x8 ![1] bcast_S8_S1x8_1 (iotaInDim S8 32 0 : IVec S8 32) : IVec S1x8 32) : IVec S32x8 32)
    (broadcastInDim S32x8 ![0, 1] bcast_S32x1_S32x8_0_1 (broadcastInDim S32x1 ![0] bcast_S32_S32x1_0 len : IVec S32x1 32) : IVec S32x8 32)
/-- The draft scales with an eighth row of zeros. -/
def qsPad (a : Vec Ideal S32x7 .f32) : Vec Ideal S256x1 .f32 :=
  shapeCast S256x1 (pad S32x8 ![0, 0] ![0, 1] ![0, 0] a (sitofp (F := Ideal) .f32 (constantI S_ 32 0#32) : FVec Ideal S_ .f32) pads_S32x7_S32x8_000_010 h_S_ : Vec Ideal S32x8 .f32) shapeCasts_S32x8_S256x1
/-- The draft's logarithms, infinite past a sequence's draft and in the eighth row. -/
def qlPad (a : Vec Ideal S32x7 .f32) (len : Vec Ideal S32 .i32) : Vec Ideal S256x1 .f32 :=
  shapeCast S256x1 (pad S32x8 ![0, 0] ![0, 1] ![0, 0]
    (select (isDraft len) a (broadcastInDim S32x7 ![] bcast_S_S32x7 (constant (F := Ideal) S_ .f32 0x7F800000#32) : Vec Ideal S32x7 .f32) : Vec Ideal S32x7 .f32)
    (constant (F := Ideal) S_ .f32 0x7F800000#32) pads_S32x7_S32x8_000_010 h_S_ : Vec Ideal S32x8 .f32) shapeCasts_S32x8_S256x1
/-- The draft ids with an eighth row of zeros. -/
def idsPad (a : Vec Ideal S32x7 .i32) : Vec Ideal S256x1 .i32 :=
  shapeCast S256x1 (pad S32x8 ![0, 0] ![0, 1] ![0, 0] a (constantI S_ 32 0#32 : IVec S_ 32) pads_S32x7_S32x8_000_010 h_S_ : IVec S32x8 32) shapeCasts_S32x8_S256x1

/-- What the region finds in the three columns, and the two masks. -/
theorem V_v16 (c : Dev nD) : V m c main_v16 = qsPad (m ((c : Thread nD τ).loc main_arg3)) := by
  show StableHlo.after (List.flatten [hostOps0, hostOps0_1, hostOps0_2, hostOps0_3, hostOps0_4, hostOps0_5, hostOps0_6, hostOps0_7, hostOps0_8]) (fun b => m (c, b)) (Proc.devRef .tc main_v16) = _
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl
theorem V_v17 (c : Dev nD) : V m c main_v17 = qlPad (m ((c : Thread nD τ).loc main_arg4)) (m ((c : Thread nD τ).loc main_arg6)) := by
  show StableHlo.after (List.flatten [hostOps0, hostOps0_1, hostOps0_2, hostOps0_3, hostOps0_4, hostOps0_5, hostOps0_6, hostOps0_7, hostOps0_8]) (fun b => m (c, b)) (Proc.devRef .tc main_v17) = _
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl
theorem V_v18 (c : Dev nD) : V m c main_v18 = idsPad (m ((c : Thread nD τ).loc main_arg5)) := by
  show StableHlo.after (List.flatten [hostOps0, hostOps0_1, hostOps0_2, hostOps0_3, hostOps0_4, hostOps0_5, hostOps0_6, hostOps0_7, hostOps0_8]) (fun b => m (c, b)) (Proc.devRef .tc main_v18) = _
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl
theorem V_v6 (c : Dev nD) : V m c main_v6 = isDraft (m ((c : Thread nD τ).loc main_arg6)) := by
  show StableHlo.after (List.flatten [hostOps0, hostOps0_1, hostOps0_2, hostOps0_3, hostOps0_4, hostOps0_5, hostOps0_6, hostOps0_7, hostOps0_8]) (fun b => m (c, b)) (Proc.devRef .tc main_v6) = _
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl
theorem V_v11 (c : Dev nD) : V m c main_v11 = isLive (m ((c : Thread nD τ).loc main_arg6)) := by
  show StableHlo.after (List.flatten [hostOps0, hostOps0_1, hostOps0_2, hostOps0_3, hostOps0_4, hostOps0_5, hostOps0_6, hostOps0_7, hostOps0_8]) (fun b => m (c, b)) (Proc.devRef .tc main_v11) = _
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

/-- The padded ids' row is the sequence's position, zero in the eighth. -/
theorem idsPad_apply (a : Vec Ideal S32x7 .i32) (r : Fin 256) :
    idsPad a (ix2 r 0) = if h : r.val % 8 < 7 then a (ix2 ⟨r.val / 8, by have := r.isLt; omega⟩ ⟨r.val % 8, h⟩) else (0#32 : BitVec 32) := by
  pointwise [idsPad]
  have hr : r.val / 8 < 32 := by have := r.isLt; omega
  by_cases h : r.val % 8 < 7
  · rw [dif_pos h, dif_pos ⟨hr, h⟩]
  · rw [dif_neg h, dif_neg fun hh => h hh.2]

/-- Ids less than the vocabulary's length are columns of it, or (negative) none of the grid's. -/
theorem idsPad_ok (a : Vec Ideal S32x7 .i32) (h : ∀ y, IntOp.cmpi .slt (a y) 151936#32 = 1#1) (r : Fin 256) :
    (idsPad a (ix2 r 0)).toNat < 151936 ∨ 153600 ≤ (idsPad a (ix2 r 0)).toNat := by
  rw [idsPad_apply]
  split
  · rename_i h7
    have h' := h (ix2 ⟨r.val / 8, by have := r.isLt; omega⟩ ⟨r.val % 8, h7⟩)
    generalize a (ix2 ⟨r.val / 8, _⟩ ⟨r.val % 8, h7⟩) = x at h' ⊢
    change BitVec 32 at x
    have hs : x.slt 151936#32 = true := by
      by_contra hc
      rw [Bool.not_eq_true] at hc
      simp [IntOp.cmpi, hc] at h'
    rw [BitVec.slt_iff_toInt_lt, BitVec.toInt_eq_toNat_cond] at hs
    have h2 : (151936#32 : BitVec 32).toInt = 151936 := by decide
    rw [h2] at hs
    have := x.isLt
    split at hs <;> omega
  · left; decide

end Cert.MassIdeal.Hand

namespace Cert.MassReferenceIdeal.Hand

open Cert.MassReferenceIdeal Cert.MassReferenceIdeal.Gen
open Idealize.ShloMosaic Idealize.ShloMosaic.TcCoe Idealize.ShloMosaic.Tactic
open Idealize.SL Idealize.SL.Sem

variable (m : (ℓ : Loc nD τ sig) → Buf (Elt Ideal) ℓ)

/-- The draft codes with an eighth row of zeros. -/
def codesPad (a : Vec Ideal S32x7x151936 .i8) : Vec Ideal S256x151936 .i8 :=
  shapeCast S256x151936 (pad S32x8x151936 ![0, 0, 0] ![0, 1, 0] ![0, 0, 0] a (trunci 8 (constantI S_ 32 0#32) natLt_8_32 : IVec S_ 8) pads_S32x7x151936_S32x8x151936_000_010_000 h_S_ : IVec S32x8x151936 8) shapeCasts_S32x8x151936_S256x151936

/-- What the region finds in the codes and the three columns, and the two masks. -/
theorem V_v17 (c : Dev nD) : V m c main_v17 = codesPad (m ((c : Thread nD τ).loc main_arg2)) := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v17) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl
theorem V_v18 (c : Dev nD) : V m c main_v18 = Cert.MassIdeal.Hand.qsPad (m ((c : Thread nD τ).loc main_arg3)) := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v18) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl
theorem V_v19 (c : Dev nD) : V m c main_v19 = Cert.MassIdeal.Hand.qlPad (m ((c : Thread nD τ).loc main_arg4)) (m ((c : Thread nD τ).loc main_arg6)) := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v19) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl
theorem V_v20 (c : Dev nD) : V m c main_v20 = Cert.MassIdeal.Hand.idsPad (m ((c : Thread nD τ).loc main_arg5)) := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v20) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl
theorem V_v6 (c : Dev nD) : V m c main_v6 = Cert.MassIdeal.Hand.isDraft (m ((c : Thread nD τ).loc main_arg6)) := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v6) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl
theorem V_v11 (c : Dev nD) : V m c main_v11 = Cert.MassIdeal.Hand.isLive (m ((c : Thread nD τ).loc main_arg6)) := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v11) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

end Cert.MassReferenceIdeal.Hand

end
-- ==== Proof.MassTail.lean ====
/-
  The host lines after the two mass regions: the draft's and the target's logarithms, the acceptance and the live tile
  masses, from the regions' outputs.
-/
module

public import Idealize.ShloMosaic.Lib.Pointwise
public import Idealize.ShloMosaic.Lib.Pipeline.ValueKit.Geometry
public import proofs.«01_k».proof.Proof.Gen.MassIdeal.Frame
public import proofs.«01_k».proof.Proof.Gen.MassReferenceIdeal.Frame

@[expose] public section

set_option maxRecDepth 16384

noncomputable section

namespace Cert.MassIdeal.Hand

open Cert.MassIdeal Cert.MassIdeal.Gen
open Idealize.ShloMosaic Idealize.ShloMosaic.TcCoe Idealize.ShloMosaic.Tactic
open Idealize.SL Idealize.SL.Sem

/-- The target's logarithm of the drafted ids, zero past the draft. -/
def logP (hit : IVec S32x7 1) (s2x lse : Vec Ideal S256x1 .f32) : Vec Ideal S32x7 .f32 :=
  select hit (mulf (subf (extractStridedSlice S32x7 ![0, 0] (shapeCast S32x8 s2x shapeCasts_S256x1_S32x8 : Vec Ideal S32x8 .f32) slices_S32x8_S32x7_0_0 : Vec Ideal S32x7 .f32)
      (extractStridedSlice S32x7 ![0, 0] (shapeCast S32x8 lse shapeCasts_S256x1_S32x8 : Vec Ideal S32x8 .f32) slices_S32x8_S32x7_0_0))
      (broadcastInDim S32x7 ![] bcast_S_S32x7 (constant (F := Ideal) S_ .f32 0x3F317218#32)))
    (broadcastInDim S32x7 ![] bcast_S_S32x7 (constant (F := Ideal) S_ .f32 0x00000000#32))
/-- The draft's logarithm of the drafted ids, zero past the draft. -/
def logQ (hit : IVec S32x7 1) (dqx : Vec Ideal S256x1 .f32) (scale qlse : Vec Ideal S32x7 .f32) : Vec Ideal S32x7 .f32 :=
  select hit (subf (mulf (extractStridedSlice S32x7 ![0, 0] (shapeCast S32x8 dqx shapeCasts_S256x1_S32x8 : Vec Ideal S32x8 .f32) slices_S32x8_S32x7_0_0 : FVec Ideal S32x7 .f32) (scale : FVec Ideal S32x7 .f32) : FVec Ideal S32x7 .f32) (qlse : FVec Ideal S32x7 .f32) : FVec Ideal S32x7 .f32)
    (broadcastInDim S32x7 ![] bcast_S_S32x7 (constant (F := Ideal) S_ .f32 0x00000000#32))
/-- The acceptance, zero past the draft. -/
def accept (hit : IVec S32x7 1) (lp lq : Vec Ideal S32x7 .f32) : Vec Ideal S32x7 .f32 :=
  select hit (minimumf (broadcastInDim S32x7 ![] bcast_S_S32x7 (constant (F := Ideal) S_ .f32 0x3F800000#32)) (Host.exp (subf lp lq)))
    (broadcastInDim S32x7 ![] bcast_S_S32x7 (constant (F := Ideal) S_ .f32 0x00000000#32))
/-- The tile masses, zero past the live positions. -/
def massOut (live : IVec S32x8 1) (mass : Vec Ideal S256x297 .f32) : Vec Ideal S32x8x297 .f32 :=
  select (broadcastInDim S32x8x297 ![0, 1, 2] bcast_S32x8x1_S32x8x297_0_1_2 (broadcastInDim S32x8x1 ![0, 1] bcast_S32x8_S32x8x1_0_1 live : IVec S32x8x1 1) : IVec S32x8x297 1)
    (shapeCast S32x8x297 mass shapeCasts_S256x297_S32x8x297 : Vec Ideal S32x8x297 .f32)
    (broadcastInDim S32x8x297 ![] bcast_S_S32x8x297 (constant (F := Ideal) S_ .f32 0x00000000#32))

/-- The host lines after the region. -/
abbrev sfx : List (List (HloOp τ sig (Elt Ideal))) := [hostOps1, hostOps1_1, hostOps1_2, hostOps1_3, hostOps1_4, hostOps1_5, hostOps1_6, hostOps1_7]

/-- What they leave in the results, from any contents before. -/
theorem tail_v30 (W : Valuation τ sig (Elt Ideal)) : StableHlo.after (List.flatten sfx) W (Proc.devRef .tc main_v30) = logP (W (Proc.devRef .tc main_v6)) (W (Proc.devRef .tc main_v19_1)) (W (Proc.devRef .tc main_arg1)) := by
  simp only [sfx, hostOps1, hostOps1_1, hostOps1_2, hostOps1_3, hostOps1_4, hostOps1_5, hostOps1_6, hostOps1_7, List.flatten_cons, List.flatten_nil, List.append_nil, List.cons_append, List.nil_append]
  after_results_simp
  rfl
theorem tail_v32 (W : Valuation τ sig (Elt Ideal)) : StableHlo.after (List.flatten sfx) W (Proc.devRef .tc main_v32) = logQ (W (Proc.devRef .tc main_v6)) (W (Proc.devRef .tc main_v19_2)) (W (Proc.devRef .tc main_arg3)) (W (Proc.devRef .tc main_arg4)) := by
  simp only [sfx, hostOps1, hostOps1_1, hostOps1_2, hostOps1_3, hostOps1_4, hostOps1_5, hostOps1_6, hostOps1_7, List.flatten_cons, List.flatten_nil, List.append_nil, List.cons_append, List.nil_append]
  after_results_simp
  rfl
theorem tail_v37_of (W : Valuation τ sig (Elt Ideal)) : StableHlo.after (List.flatten sfx) W (Proc.devRef .tc main_v37) = accept (W (Proc.devRef .tc main_v6)) (StableHlo.after (List.flatten sfx) W (Proc.devRef .tc main_v30)) (StableHlo.after (List.flatten sfx) W (Proc.devRef .tc main_v32)) := by
  simp only [sfx, hostOps1, hostOps1_1, hostOps1_2, hostOps1_3, hostOps1_4, hostOps1_5, hostOps1_6, hostOps1_7, List.flatten_cons, List.flatten_nil, List.append_nil, List.cons_append, List.nil_append]
  after_results_simp
  rfl
theorem tail_v37 (W : Valuation τ sig (Elt Ideal)) : StableHlo.after (List.flatten sfx) W (Proc.devRef .tc main_v37) = accept (W (Proc.devRef .tc main_v6)) (logP (W (Proc.devRef .tc main_v6)) (W (Proc.devRef .tc main_v19_1)) (W (Proc.devRef .tc main_arg1))) (logQ (W (Proc.devRef .tc main_v6)) (W (Proc.devRef .tc main_v19_2)) (W (Proc.devRef .tc main_arg3)) (W (Proc.devRef .tc main_arg4))) :=
  (tail_v37_of W).trans (congr (congrArg (accept _) (tail_v30 W)) (tail_v32 W))
theorem tail_v40 (W : Valuation τ sig (Elt Ideal)) : StableHlo.after (List.flatten sfx) W (Proc.devRef .tc main_v40) = massOut (W (Proc.devRef .tc main_v11)) (W (Proc.devRef .tc main_v19_0)) := by
  simp only [sfx, hostOps1, hostOps1_1, hostOps1_2, hostOps1_3, hostOps1_4, hostOps1_5, hostOps1_6, hostOps1_7, List.flatten_cons, List.flatten_nil, List.append_nil, List.cons_append, List.nil_append]
  after_results_simp
  rfl

end Cert.MassIdeal.Hand

namespace Cert.MassReferenceIdeal.Hand

open Cert.MassReferenceIdeal Cert.MassReferenceIdeal.Gen
open Idealize.ShloMosaic Idealize.ShloMosaic.TcCoe Idealize.ShloMosaic.Tactic
open Idealize.SL Idealize.SL.Sem

/-- The host lines after the region. -/
abbrev sfx : List (List (HloOp τ sig (Elt Ideal))) := [hostOps1, hostOps1_1, hostOps1_2, hostOps1_3, hostOps1_4, hostOps1_5, hostOps1_6, hostOps1_7]

/-- What they leave in the results, from any contents before. -/
theorem tail_v32 (W : Valuation τ sig (Elt Ideal)) : StableHlo.after (List.flatten sfx) W (Proc.devRef .tc main_v32) = Cert.MassIdeal.Hand.logP (W (Proc.devRef .tc main_v6)) (W (Proc.devRef .tc main_v21_1)) (W (Proc.devRef .tc main_arg1)) := by
  simp only [sfx, hostOps1, hostOps1_1, hostOps1_2, hostOps1_3, hostOps1_4, hostOps1_5, hostOps1_6, hostOps1_7, List.flatten_cons, List.flatten_nil, List.append_nil, List.cons_append, List.nil_append]
  after_results_simp
  rfl
theorem tail_v34 (W : Valuation τ sig (Elt Ideal)) : StableHlo.after (List.flatten sfx) W (Proc.devRef .tc main_v34) = Cert.MassIdeal.Hand.logQ (W (Proc.devRef .tc main_v6)) (W (Proc.devRef .tc main_v21_2)) (W (Proc.devRef .tc main_arg3)) (W (Proc.devRef .tc main_arg4)) := by
  simp only [sfx, hostOps1, hostOps1_1, hostOps1_2, hostOps1_3, hostOps1_4, hostOps1_5, hostOps1_6, hostOps1_7, List.flatten_cons, List.flatten_nil, List.append_nil, List.cons_append, List.nil_append]
  after_results_simp
  rfl
theorem tail_v39_of (W : Valuation τ sig (Elt Ideal)) : StableHlo.after (List.flatten sfx) W (Proc.devRef .tc main_v39) = Cert.MassIdeal.Hand.accept (W (Proc.devRef .tc main_v6)) (StableHlo.after (List.flatten sfx) W (Proc.devRef .tc main_v32)) (StableHlo.after (List.flatten sfx) W (Proc.devRef .tc main_v34)) := by
  simp only [sfx, hostOps1, hostOps1_1, hostOps1_2, hostOps1_3, hostOps1_4, hostOps1_5, hostOps1_6, hostOps1_7, List.flatten_cons, List.flatten_nil, List.append_nil, List.cons_append, List.nil_append]
  after_results_simp
  rfl
theorem tail_v39 (W : Valuation τ sig (Elt Ideal)) : StableHlo.after (List.flatten sfx) W (Proc.devRef .tc main_v39) = Cert.MassIdeal.Hand.accept (W (Proc.devRef .tc main_v6)) (Cert.MassIdeal.Hand.logP (W (Proc.devRef .tc main_v6)) (W (Proc.devRef .tc main_v21_1)) (W (Proc.devRef .tc main_arg1))) (Cert.MassIdeal.Hand.logQ (W (Proc.devRef .tc main_v6)) (W (Proc.devRef .tc main_v21_2)) (W (Proc.devRef .tc main_arg3)) (W (Proc.devRef .tc main_arg4))) :=
  (tail_v39_of W).trans (congr (congrArg (Cert.MassIdeal.Hand.accept _) (tail_v32 W)) (tail_v34 W))
theorem tail_v42 (W : Valuation τ sig (Elt Ideal)) : StableHlo.after (List.flatten sfx) W (Proc.devRef .tc main_v42) = Cert.MassIdeal.Hand.massOut (W (Proc.devRef .tc main_v11)) (W (Proc.devRef .tc main_v21_0)) := by
  simp only [sfx, hostOps1, hostOps1_1, hostOps1_2, hostOps1_3, hostOps1_4, hostOps1_5, hostOps1_6, hostOps1_7, List.flatten_cons, List.flatten_nil, List.append_nil, List.cons_append, List.nil_append]
  after_results_simp
  rfl

end Cert.MassReferenceIdeal.Hand

end
-- ==== Proof.MassReadRef.lean ====
/-
  What the mass reference's region leaves in its outputs: the body's values on the arrays the region finds.
-/
module

public import Idealize.ShloMosaic.Lib.Claim
public import Idealize.ShloMosaic.Lib.Pointwise
public import Idealize.ShloMosaic.Lib.Pipeline.ValueKit.Geometry
public import proofs.«01_k».proof.Proof.Gen.MassReferenceIdeal.Frame

@[expose] public section

set_option maxRecDepth 16384

noncomputable section

namespace Cert.MassReferenceIdeal.Hand

open Cert.MassReferenceIdeal Cert.MassReferenceIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-! ## The blocks are their arrays -/

theorem index0 : ∀ t : Fin cfg0.N, win0_0.index t = ![0, 0] := (by decide +kernel : ∀ t : Fin grid0.N, win0_0.index t = ![0, 0])
theorem blk0_eq (c : Dev nD) (t : Fin cfg0.N) : iblk m c 0 t = V m c main_arg0 := by
  funext y
  unfold iblk
  refine congrArg (V m c main_arg0) (funext fun a => Fin.ext ?_)
  match a with
  | ⟨0, _⟩ =>
    change win0_0.index t 0 * 256 + 1 * (y 0).val = (y 0).val
    rw [index0]; simp
  | ⟨1, _⟩ =>
    change win0_0.index t 1 * 151936 + 1 * (y 1).val = (y 1).val
    rw [index0]; simp
theorem index1 : ∀ t : Fin cfg0.N, win0_1.index t = ![0, 0] := (by decide +kernel : ∀ t : Fin grid0.N, win0_1.index t = ![0, 0])
theorem blk1_eq (c : Dev nD) (t : Fin cfg0.N) : iblk m c 1 t = V m c main_arg1 := by
  funext y
  unfold iblk
  refine congrArg (V m c main_arg1) (funext fun a => Fin.ext ?_)
  match a with
  | ⟨0, _⟩ =>
    change win0_1.index t 0 * 256 + 1 * (y 0).val = (y 0).val
    rw [index1]; simp
  | ⟨1, _⟩ =>
    change win0_1.index t 1 * 1 + 1 * (y 1).val = (y 1).val
    rw [index1]; simp
theorem index2 : ∀ t : Fin cfg0.N, win0_2.index t = ![0, 0] := (by decide +kernel : ∀ t : Fin grid0.N, win0_2.index t = ![0, 0])
theorem blk2_eq (c : Dev nD) (t : Fin cfg0.N) : iblk m c 2 t = V m c main_v17 := by
  funext y
  unfold iblk
  refine congrArg (V m c main_v17) (funext fun a => Fin.ext ?_)
  match a with
  | ⟨0, _⟩ =>
    change win0_2.index t 0 * 256 + 1 * (y 0).val = (y 0).val
    rw [index2]; simp
  | ⟨1, _⟩ =>
    change win0_2.index t 1 * 151936 + 1 * (y 1).val = (y 1).val
    rw [index2]; simp
theorem index3 : ∀ t : Fin cfg0.N, win0_3.index t = ![0, 0] := (by decide +kernel : ∀ t : Fin grid0.N, win0_3.index t = ![0, 0])
theorem blk3_eq (c : Dev nD) (t : Fin cfg0.N) : iblk m c 3 t = V m c main_v18 := by
  funext y
  unfold iblk
  refine congrArg (V m c main_v18) (funext fun a => Fin.ext ?_)
  match a with
  | ⟨0, _⟩ =>
    change win0_3.index t 0 * 256 + 1 * (y 0).val = (y 0).val
    rw [index3]; simp
  | ⟨1, _⟩ =>
    change win0_3.index t 1 * 1 + 1 * (y 1).val = (y 1).val
    rw [index3]; simp
theorem index4 : ∀ t : Fin cfg0.N, win0_4.index t = ![0, 0] := (by decide +kernel : ∀ t : Fin grid0.N, win0_4.index t = ![0, 0])
theorem blk4_eq (c : Dev nD) (t : Fin cfg0.N) : iblk m c 4 t = V m c main_v19 := by
  funext y
  unfold iblk
  refine congrArg (V m c main_v19) (funext fun a => Fin.ext ?_)
  match a with
  | ⟨0, _⟩ =>
    change win0_4.index t 0 * 256 + 1 * (y 0).val = (y 0).val
    rw [index4]; simp
  | ⟨1, _⟩ =>
    change win0_4.index t 1 * 1 + 1 * (y 1).val = (y 1).val
    rw [index4]; simp
theorem index5 : ∀ t : Fin cfg0.N, win0_5.index t = ![0, 0] := (by decide +kernel : ∀ t : Fin grid0.N, win0_5.index t = ![0, 0])
theorem blk5_eq (c : Dev nD) (t : Fin cfg0.N) : iblk m c 5 t = V m c main_v20 := by
  funext y
  unfold iblk
  refine congrArg (V m c main_v20) (funext fun a => Fin.ext ?_)
  match a with
  | ⟨0, _⟩ =>
    change win0_5.index t 0 * 256 + 1 * (y 0).val = (y 0).val
    rw [index5]; simp
  | ⟨1, _⟩ =>
    change win0_5.index t 1 * 1 + 1 * (y 1).val = (y 1).val
    rw [index5]; simp

/-! ## What the body leaves -/

theorem off0 : (![0, 0] : Fin 2 → ℕ) = fun _ => 0 := by funext a; fin_cases a <;> rfl

/-- The outputs' buffers after the body. -/
theorem out6_eq (x0 : Vec Ideal S256x151936 .f32) (x1 : Vec Ideal S256x1 .f32) (x2 : Vec Ideal S256x151936 .i8) (x3 x4 : Vec Ideal S256x1 .f32) (x5 : Vec Ideal S256x1 .i32) : out0_6 x0 x1 x2 x3 x4 x5 = k0_pay3 x2 x0 x1 x3 x4 := by
  unfold out0_6
  rw [show View.ld x0 r0_0 = x0 from View.ld_unit_zero off0 _ _, show View.ld x1 r0_1 = x1 from View.ld_unit_zero off0 _ _,
    show View.ld x2 r0_0 = x2 from View.ld_unit_zero off0 _ _, show View.ld x3 r0_1 = x3 from View.ld_unit_zero off0 _ _,
    show View.ld x4 r0_1 = x4 from View.ld_unit_zero off0 _ _]
  exact View.canon_unit_zero off0 _ _
theorem out7_eq (x0 : Vec Ideal S256x151936 .f32) (x1 : Vec Ideal S256x1 .f32) (x2 : Vec Ideal S256x151936 .i8) (x3 x4 : Vec Ideal S256x1 .f32) (x5 : Vec Ideal S256x1 .i32) : out0_7 x0 x1 x2 x3 x4 x5 = k0_pay5 x5 x0 := by
  unfold out0_7
  rw [show View.ld x0 r0_0 = x0 from View.ld_unit_zero off0 _ _, show View.ld x5 r0_1 = x5 from View.ld_unit_zero off0 _ _]
  exact View.canon_unit_zero off0 _ _
theorem out8_eq (x0 : Vec Ideal S256x151936 .f32) (x1 : Vec Ideal S256x1 .f32) (x2 : Vec Ideal S256x151936 .i8) (x3 x4 : Vec Ideal S256x1 .f32) (x5 : Vec Ideal S256x1 .i32) : out0_8 x0 x1 x2 x3 x4 x5 = k0_pay1 (k0_pay2 x2) (k0_pay4 (F := Ideal) x5) := by
  unfold out0_8
  rw [show View.ld x2 r0_0 = x2 from View.ld_unit_zero off0 _ _, show View.ld x5 r0_1 = x5 from View.ld_unit_zero off0 _ _]
  exact View.canon_unit_zero off0 _ _

theorem whole6 : (cfg0.win 6).WholeAt ⟨0, by decide⟩ := by decide +kernel
theorem whole7 : (cfg0.win 7).WholeAt ⟨0, by decide⟩ := by decide +kernel
theorem whole8 : (cfg0.win 8).WholeAt ⟨0, by decide⟩ := by decide +kernel

/-- The outputs' arrays after the run. -/
theorem arr_6 (c : Dev nD) : (dats m 0 c).arrAt 6 cfg0.N
    = k0_pay3 (F := Ideal) (V m c main_v17) (V m c main_arg0) (V m c main_arg1) (V m c main_v18) (V m c main_v19) := by
  refine (dats m 0 c).arrAt_eq_of_after_last 6 ⟨0, by decide⟩ whole6 _ fun j => ?_
  rw [after0_6, blk0_eq, blk1_eq, blk2_eq, blk3_eq, blk4_eq, blk5_eq, out6_eq]
  rfl
theorem arr_7 (c : Dev nD) : (dats m 0 c).arrAt 7 cfg0.N = k0_pay5 (F := Ideal) (V m c main_v20) (V m c main_arg0) := by
  refine (dats m 0 c).arrAt_eq_of_after_last 7 ⟨0, by decide⟩ whole7 _ fun j => ?_
  rw [after0_7, blk0_eq, blk1_eq, blk2_eq, blk3_eq, blk4_eq, blk5_eq, out7_eq]
  rfl
theorem arr_8 (c : Dev nD) : (dats m 0 c).arrAt 8 cfg0.N = k0_pay1 (F := Ideal) (k0_pay2 (V m c main_v17)) (k0_pay4 (F := Ideal) (V m c main_v20)) := by
  refine (dats m 0 c).arrAt_eq_of_after_last 8 ⟨0, by decide⟩ whole8 _ fun j => ?_
  rw [after0_8, blk0_eq, blk1_eq, blk2_eq, blk3_eq, blk4_eq, blk5_eq, out8_eq]
  rfl

end Cert.MassReferenceIdeal.Hand

end
-- ==== Proof.MassRefValue.lean ====
/-
  The mass reference entry by entry: the residual, laid out in tiles and summed, and the picked entries.
-/
module

public import proofs.«01_k».proof.Proof.MassReadRef
public import Idealize.ShloMosaic.Lib.WordCmp

@[expose] public section

set_option maxRecDepth 16384

noncomputable section

namespace Cert.MassReferenceIdeal.Hand

open Cert.MassReferenceIdeal Cert.MassReferenceIdeal.Gen
open Idealize.ShloMosaic Idealize.ShloMosaic.TcCoe Idealize.ShloMosaic.Tactic

/-- The residual over rows of any length, with the reference's operations. -/
def resG (n : ℕ) (h : (⟨2, ![256, n]⟩ : Shape).ShapeCasts ⟨2, ![256, n]⟩) (hc : S256x1.ShapeCasts S256x1) (hb : S256x1.Broadcasts ⟨2, ![256, n]⟩)
    (v0 : Vec Ideal ⟨2, ![256, n]⟩ .i8) (v3 : Vec Ideal ⟨2, ![256, n]⟩ .f32) (v4 v8 v12 : Vec Ideal S256x1 .f32) : FVec Ideal ⟨2, ![256, n]⟩ .f32 :=
  maximumf (subf (exp2 (subf v3 (broadcastTo ⟨2, ![256, n]⟩ v4 hb)))
    (exp (subf (mulf (sitofp .f32 (shapeCast ⟨2, ![256, n]⟩ v0 h : IVec ⟨2, ![256, n]⟩ 8)) (broadcastTo ⟨2, ![256, n]⟩ (shapeCast S256x1 v8 hc : Vec Ideal S256x1 .f32) hb))
      (broadcastTo ⟨2, ![256, n]⟩ (shapeCast S256x1 v12 hc : Vec Ideal S256x1 .f32) hb))))
    (broadcast ⟨2, ![256, n]⟩ (Scalar.ofBits .f32 0x00000000#32))

theorem resG_apply (n : ℕ) (h : (⟨2, ![256, n]⟩ : Shape).ShapeCasts ⟨2, ![256, n]⟩) (hc : S256x1.ShapeCasts S256x1) (hb : S256x1.Broadcasts ⟨2, ![256, n]⟩)
    (v0 : Vec Ideal ⟨2, ![256, n]⟩ .i8) (v3 : Vec Ideal ⟨2, ![256, n]⟩ .f32) (v4 v8 v12 : Vec Ideal S256x1 .f32) (r : Fin 256) (j : Fin n) :
    resG n h hc hb v0 v3 v4 v8 v12 (ix2 r j)
      = max (Ideal.exp2 (v3 (ix2 r j) - v4 (ix2 r 0)) - Ideal.exp (FloatOps.sitofp (F := Ideal) .f32 (v0 (ix2 r j)) * v8 (ix2 r 0) - v12 (ix2 r 0))) (0 : EReal) := by
  pointwise [resG]
  rfl

/-- The residual's columns laid out in tiles. -/
theorem tiles_apply (v19 : FVec Ideal S256x151936 .f32) (r : Fin 256) (l : Fin 297) :
    multiReduction .add [2] S256x297 (shapeCast S256x297x512 (concatenate S256x152064 1 [⟨S256x151936, v19⟩, ⟨S256x128, broadcast S256x128 (Scalar.ofBits (F := Ideal) .f32 0x00000000#32)⟩]
        concatenates_S256x151936_S256x128_S256x152064_d1 : FVec Ideal S256x152064 .f32) shapeCasts_S256x152064_S256x297x512 : FVec Ideal S256x297x512 .f32) 0x00000000#32 reduces_S256x297x512_S256x297 (.inl rfl) rfl (ix2 r l)
      = ∑ j : Fin 512, (if h : l.val * 512 + j.val < 151936 then v19 (ix2 r ⟨l.val * 512 + j.val, h⟩) else 0 : EReal) := by
  pointwise []

theorem pay_apply (v0 : Vec Ideal S256x151936 .i8) (v3 : Vec Ideal S256x151936 .f32) (v4 v8 v12 : Vec Ideal S256x1 .f32) (r : Fin 256) (l : Fin 297) :
    k0_pay3 (F := Ideal) v0 v3 v4 v8 v12 (ix2 r l)
      = ∑ j : Fin 512, (if h : l.val * 512 + j.val < 151936
          then max (Ideal.exp2 (v3 (ix2 r ⟨l.val * 512 + j.val, h⟩) - v4 (ix2 r 0)) - Ideal.exp (FloatOps.sitofp (F := Ideal) .f32 (v0 (ix2 r ⟨l.val * 512 + j.val, h⟩)) * v8 (ix2 r 0) - v12 (ix2 r 0))) (0 : EReal) else 0) := by
  have e : k0_pay3 (F := Ideal) v0 v3 v4 v8 v12 = multiReduction .add [2] S256x297 (shapeCast S256x297x512 (concatenate S256x152064 1
      [⟨S256x151936, resG 151936 shapeCasts_S256x151936_S256x151936 shapeCasts_S256x1_S256x1 broadcasts_S256x1_S256x151936 v0 v3 v4 v8 v12⟩, ⟨S256x128, broadcast S256x128 (Scalar.ofBits (F := Ideal) .f32 0x00000000#32)⟩]
        concatenates_S256x151936_S256x128_S256x152064_d1 : FVec Ideal S256x152064 .f32) shapeCasts_S256x152064_S256x297x512 : FVec Ideal S256x297x512 .f32) 0x00000000#32 reduces_S256x297x512_S256x297 (.inl rfl) rfl := rfl
  rw [e, tiles_apply]
  refine Finset.sum_congr rfl fun j _ => ?_
  split
  · exact resG_apply 151936 _ _ _ v0 v3 v4 v8 v12 r _
  · rfl

/-- The codes as numbers, over rows of any length. -/
theorem codes_apply (n : ℕ) (h : (⟨2, ![256, n]⟩ : Shape).ShapeCasts ⟨2, ![256, n]⟩) (v0 : Vec Ideal ⟨2, ![256, n]⟩ .i8) (r : Fin 256) (j : Fin n) :
    (sitofp .f32 (shapeCast ⟨2, ![256, n]⟩ v0 h : IVec ⟨2, ![256, n]⟩ 8) : FVec Ideal ⟨2, ![256, n]⟩ .f32) (ix2 r j) = FloatOps.sitofp (F := Ideal) .f32 (v0 (ix2 r j)) := by
  pointwise []

/-- A row's sum of the entries at its id, over rows of any length, with the reference's operations. -/
def pickG (n : ℕ) (hi : (⟨2, ![256, n]⟩ : Shape).Iotas .tc 32 [1]) (hs : S256x1.ShapeCasts S256x1) (hb : S256x1.Broadcasts ⟨2, ![256, n]⟩) (hr : (⟨2, ![256, n]⟩ : Shape).Reduces [1] S256) (hc : S256.ShapeCasts S256x1)
    (ids : Vec Ideal S256x1 .i32) (x : FVec Ideal ⟨2, ![256, n]⟩ .f32) : FVec Ideal S256x1 .f32 :=
  shapeCast S256x1 (multiReduction .add [1] S256 (select (cmpi .eq (iota .tc ⟨2, ![256, n]⟩ 32 [1] hi : IVec ⟨2, ![256, n]⟩ 32) (broadcastTo ⟨2, ![256, n]⟩ (shapeCast S256x1 ids hs : IVec S256x1 32) hb : IVec ⟨2, ![256, n]⟩ 32) : IVec ⟨2, ![256, n]⟩ 1)
    x (broadcast ⟨2, ![256, n]⟩ (Scalar.ofBits (F := Ideal) .f32 0x00000000#32)) : FVec Ideal ⟨2, ![256, n]⟩ .f32) 0x00000000#32 hr (.inl rfl) rfl : FVec Ideal S256 .f32) hc

theorem pickG_apply (n : ℕ) (hi : (⟨2, ![256, n]⟩ : Shape).Iotas .tc 32 [1]) (hs : S256x1.ShapeCasts S256x1) (hb : S256x1.Broadcasts ⟨2, ![256, n]⟩) (hr : (⟨2, ![256, n]⟩ : Shape).Reduces [1] S256) (hc : S256.ShapeCasts S256x1)
    (hn : n < 2 ^ 32) (ids : Vec Ideal S256x1 .i32) (x : FVec Ideal ⟨2, ![256, n]⟩ .f32) (r : Fin 256) :
    pickG n hi hs hb hr hc ids x (ix2 r 0) = ∑ j : Fin n, (if (ids (ix2 r 0)).toNat = j.val then x (ix2 r j) else 0 : EReal) := by
  pointwise [pickG]
  refine Finset.sum_congr rfl fun j _ => ?_
  have e : ids (ix2 r 0) = BitVec.ofNat 32 (ids (ix2 r 0)).toNat := by simp
  have h : IntOp.cmpi .eq (BitVec.ofNat 32 j.val) (ids (ix2 r 0)) = 1#1 ↔ (ids (ix2 r 0)).toNat = j.val := by
    conv => lhs; rw [e]
    exact (Idealize.ShloMosaic.WordCmp.cmpi_eq_ofNat_eq_one_iff (by have := j.isLt; omega) (ids (ix2 r 0)).isLt).trans ⟨fun h => h.symm, fun h => h.symm⟩
  unfold Scalar.select
  by_cases hP : (ids (ix2 r 0)).toNat = j.val
  · rw [if_pos hP]; exact if_pos (h.2 hP)
  · rw [if_neg hP]; exact if_neg fun hc => hP (h.1 hc)

/-- The one entry of such a sum. -/
theorem sum_pick (n id : ℕ) (g : Fin n → EReal) : (∑ j : Fin n, (if id = j.val then g j else 0 : EReal)) = if h : id < n then g ⟨id, h⟩ else 0 := by
  by_cases h : id < n
  · rw [dif_pos h, Finset.sum_eq_single (⟨id, h⟩ : Fin n) (fun j _ hne => if_neg fun e => hne (Fin.ext e.symm)) (fun hm => absurd (Finset.mem_univ _) hm)]
    exact if_pos rfl
  · rw [dif_neg h]
    exact Finset.sum_eq_zero fun j _ => if_neg (by have := j.isLt; omega)

/-- The picked scaled logits and the picked codes. -/
theorem pickS2_apply (ids : Vec Ideal S256x1 .i32) (s2 : Vec Ideal S256x151936 .f32) (r : Fin 256) :
    k0_pay5 (F := Ideal) ids s2 (ix2 r 0) = if h : (ids (ix2 r 0)).toNat < 151936 then s2 (ix2 r ⟨(ids (ix2 r 0)).toNat, h⟩) else (0 : EReal) :=
  (pickG_apply 151936 iota_S256x151936_d1_w32 shapeCasts_S256x1_S256x1 broadcasts_S256x1_S256x151936 reduces_S256x151936_S256 shapeCasts_S256_S256x1 (by decide) ids s2 r).trans
    (sum_pick 151936 _ fun j => s2 (ix2 r j))
theorem pickDc_apply (ids : Vec Ideal S256x1 .i32) (v0 : Vec Ideal S256x151936 .i8) (r : Fin 256) :
    k0_pay1 (F := Ideal) (k0_pay2 v0) (k0_pay4 (F := Ideal) ids) (ix2 r 0) = if h : (ids (ix2 r 0)).toNat < 151936 then FloatOps.sitofp (F := Ideal) .f32 (v0 (ix2 r ⟨(ids (ix2 r 0)).toNat, h⟩)) else (0 : EReal) := by
  refine ((pickG_apply 151936 iota_S256x151936_d1_w32 shapeCasts_S256x1_S256x1 broadcasts_S256x1_S256x151936 reduces_S256x151936_S256 shapeCasts_S256_S256x1 (by decide) ids (k0_pay2 v0) r).trans
    (sum_pick 151936 _ fun j => k0_pay2 (F := Ideal) v0 (ix2 r j))).trans ?_
  have e : ∀ j : Fin 151936, k0_pay2 (F := Ideal) v0 (ix2 r j) = FloatOps.sitofp (F := Ideal) .f32 (v0 (ix2 r j)) := fun j => codes_apply 151936 shapeCasts_S256x151936_S256x151936 v0 r j
  simp only [e]

end Cert.MassReferenceIdeal.Hand

end
-- ==== Proof.MassCompare.lean ====
/-
  The four results of the mass call as functions of the arguments, and the reference's sums as the kernel's values.
-/
module

public import proofs.«01_k».proof.Proof.MassPick
public import proofs.«01_k».proof.Proof.MassHost
public import proofs.«01_k».proof.Proof.MassTail
public import proofs.«01_k».proof.Proof.MassRefValue

@[expose] public section

set_option maxRecDepth 16384

noncomputable section

namespace Cert.MassCompare

open Idealize.ShloMosaic Idealize.ShloMosaic.TcCoe Idealize.ShloMosaic.Tactic
open Cert.MassIdeal (S256x151936 S256x1 S32x7x151936 S256x297 S32x7 S32 S32x8x297)
open Cert.MassIdeal.Hand (code resid masses pick pick_last picks isDraft isLive qsPad qlPad idsPad logP logQ accept massOut)
open Cert.MassReferenceIdeal.Hand (codesPad)

section
variable (s2 : Vec Ideal S256x151936 .f32) (lse : Vec Ideal S256x1 .f32) (dc : Vec Ideal S32x7x151936 .i8) (scale qlse : Vec Ideal S32x7 .f32)
  (ids : Vec Ideal S32x7 .i32) (len : Vec Ideal S32 .i32)

/-- The target's and the draft's logarithms of the drafted ids, the acceptance, and the live tile masses. -/
def outP : Vec Ideal S32x7 .f32 := logP (isDraft len) (picks (idsPad ids) (fun r j => s2 (ix2 r j)) 75) lse
def outQ : Vec Ideal S32x7 .f32 := logQ (isDraft len) (picks (idsPad ids) (code dc) 75) scale qlse
def outA : Vec Ideal S32x7 .f32 := accept (isDraft len) (outP s2 lse ids len) (outQ dc scale qlse ids len)
def outM : Vec Ideal S32x8x297 .f32 := massOut (isLive len) (masses s2 lse dc (qsPad scale) (qlPad qlse len) 75)
end

/-- The padded codes' row is the sequence's position, zero in the eighth. -/
theorem codesPad_apply (dc : Vec Ideal S32x7x151936 .i8) (r : Fin 256) (j : Fin 151936) :
    codesPad dc (ix2 r j) = if h : r.val % 8 < 7 then dc (ix3 ⟨r.val / 8, by have := r.isLt; omega⟩ ⟨r.val % 8, h⟩ j) else (0#8 : BitVec 8) := by
  pointwise [codesPad]
  have hr : r.val / 8 < 32 := by have := r.isLt; omega
  by_cases h : r.val % 8 < 7
  · rw [dif_pos h, dif_pos ⟨hr, h⟩]
  · rw [dif_neg h, dif_neg fun hh => h hh.2]
    rfl

/-- A code read off the padded codes. -/
theorem code_eq (dc : Vec Ideal S32x7x151936 .i8) (r : Fin 256) (j : Fin 151936) :
    FloatOps.sitofp (F := Ideal) .f32 (codesPad dc (ix2 r j)) = code dc r j := by
  rw [codesPad_apply]
  unfold code
  split
  · rfl
  · exact (show (((0#8 : BitVec 8).toInt : ℝ) : EReal) = 0 by simp)

/-- The reference's tile sums are the kernel's masses after its last point. -/
theorem masses_eq (s2 : Vec Ideal S256x151936 .f32) (lse : Vec Ideal S256x1 .f32) (dc : Vec Ideal S32x7x151936 .i8) (qs ql : Vec Ideal S256x1 .f32) :
    Cert.MassReferenceIdeal.Gen.k0_pay3 (F := Ideal) (codesPad dc) s2 lse qs ql = masses s2 lse dc qs ql 75 := by
  funext y
  obtain ⟨r, l, rfl⟩ : ∃ (r : Fin 256) (l : Fin 297), y = ix2 r l := ⟨y 0, y 1, eq_ix2 y⟩
  rw [Cert.MassReferenceIdeal.Hand.pay_apply]
  have hl : l.val / 4 < 75 := by have := l.isLt; omega
  refine Eq.trans ?_ (if_pos hl).symm
  refine Finset.sum_congr rfl fun j _ => ?_
  change _ = resid s2 lse dc qs ql r (l.val * 512 + j.val)
  unfold resid
  split
  · rw [code_eq]
  · rfl

/-- A picked entry after the last point. -/
theorem picks_last (ids : Vec Ideal S256x1 .i32) (f : Fin 256 → Fin 151936 → EReal) (r : Fin 256) :
    picks ids f 75 (ix2 r 0) = if h : (ids (ix2 r 0)).toNat < 151936 then f r ⟨(ids (ix2 r 0)).toNat, h⟩ else 0 :=
  pick_last (ids (ix2 r 0)).toNat (f r)

/-- The reference's picked entries are the kernel's after its last point. -/
theorem pickS2_eq (ids : Vec Ideal S256x1 .i32) (s2 : Vec Ideal S256x151936 .f32) :
    Cert.MassReferenceIdeal.Gen.k0_pay5 (F := Ideal) ids s2 = picks ids (fun r j => s2 (ix2 r j)) 75 := by
  funext y
  obtain ⟨r, rfl⟩ : ∃ r : Fin 256, y = ix2 r 0 := ⟨y 0, (eq_ix2 y).trans (congrArg (ix2 (y 0)) (Subsingleton.elim (α := Fin 1) (y 1) 0))⟩
  exact (Cert.MassReferenceIdeal.Hand.pickS2_apply ids s2 r).trans (picks_last ids (fun r j => s2 (ix2 r j)) r).symm
theorem pickDc_eq (ids : Vec Ideal S256x1 .i32) (dc : Vec Ideal S32x7x151936 .i8) :
    Cert.MassReferenceIdeal.Gen.k0_pay1 (F := Ideal) (Cert.MassReferenceIdeal.Gen.k0_pay2 (codesPad dc)) (Cert.MassReferenceIdeal.Gen.k0_pay4 (F := Ideal) ids) = picks ids (code dc) 75 := by
  funext y
  obtain ⟨r, rfl⟩ : ∃ r : Fin 256, y = ix2 r 0 := ⟨y 0, (eq_ix2 y).trans (congrArg (ix2 (y 0)) (Subsingleton.elim (α := Fin 1) (y 1) 0))⟩
  refine ((Cert.MassReferenceIdeal.Hand.pickDc_apply ids (codesPad dc) r).trans ?_).trans (picks_last ids (code dc) r).symm
  simp only [code_eq]

end Cert.MassCompare

end
-- ==== Proof.MassEnd.lean ====
/-
  The run of the mass kernel on ids in the vocabulary: its outputs' arrays, and the four results, at their values.
-/
module

public import proofs.«01_k».proof.Proof.MassRun
public import proofs.«01_k».proof.Proof.MassHost
public import proofs.«01_k».proof.Proof.MassTail
public import proofs.«01_k».proof.Proof.MassCompare
public import Idealize.ShloMosaic.Lib.Claim
public import Idealize.ShloMosaic.Lib.Pipeline.ArrRel
public import Idealize.ShloMosaic.Lib.Pipeline.ValueKit.Geometry

@[expose] public section

set_option maxRecDepth 16384

noncomputable section

namespace Cert.MassIdeal.Hand

open Cert.MassIdeal Cert.MassIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MassCompare (outP outQ outA outM)
open Idealize.ShloMosaic.Pipeline (Dat RDat Cfg Window BodyObligation BodyObligationLoose cellOf kernel pipe ΦA)

local notation "𝕄" => MT nD τ sig Unit (Elt Ideal) ℕ (UR sig nD τ) ℕ

variable (m : (ℓ : Loc nD τ sig) → Buf (Elt Ideal) ℓ) (ρ : Dev nD → PrngReg)

/-- The outputs' blocks at the last point are the whole arrays. -/
theorem whole6 : (cfg0.win 6).WholeAt ⟨74, by decide⟩ := by decide +kernel
theorem whole7 : (cfg0.win 7).WholeAt ⟨74, by decide⟩ := by decide +kernel
theorem whole8 : (cfg0.win 8).WholeAt ⟨74, by decide⟩ := by decide +kernel

/-- The outputs' arrays after the run. -/
theorem last6 (c : Dev nD) (G : Vec Ideal S256x297 .f32) (hG : (dats m 0 c).after 6 ⟨74, by decide⟩ = G) : (dats m 0 c).arrAt 6 cfg0.N = G := by
  refine (dats m 0 c).arrAt_eq_of_after_last 6 ⟨74, by decide⟩ whole6 _ fun j => ?_
  rw [hG]; rfl
theorem arr_6 (c : Dev nD) : (dats m 0 c).arrAt 6 cfg0.N = massT m c 75 := last6 m c _ (by dsimp only [dats])
theorem last7 (c : Dev nD) (G : Vec Ideal S256x1 .f32) (hG : (dats m 0 c).after 7 ⟨74, by decide⟩ = G) : (dats m 0 c).arrAt 7 cfg0.N = G := by
  refine (dats m 0 c).arrAt_eq_of_after_last 7 ⟨74, by decide⟩ whole7 _ fun j => ?_
  rw [hG]; rfl
theorem arr_7 (c : Dev nD) : (dats m 0 c).arrAt 7 cfg0.N = pickS2 m c 75 := last7 m c _ (by dsimp only [dats])
theorem last8 (c : Dev nD) (G : Vec Ideal S256x1 .f32) (hG : (dats m 0 c).after 8 ⟨74, by decide⟩ = G) : (dats m 0 c).arrAt 8 cfg0.N = G := by
  refine (dats m 0 c).arrAt_eq_of_after_last 8 ⟨74, by decide⟩ whole8 _ fun j => ?_
  rw [hG]; rfl
theorem arr_8 (c : Dev nD) : (dats m 0 c).arrAt 8 cfg0.N = pickDc m c 75 := last8 m c _ (by dsimp only [dats])

set_option backward.isDefEq.respectTransparency.types false in
/-- The run: every array of the region at what the points leave, every other buffer at what the host lines after leave, and
    every counter at zero. -/
theorem run (hids : ∀ (c : Dev nD) (r : Fin 256), (arrIds m c (ix2 r 0)).toNat < 151936 ∨ 153600 ≤ (arrIds m c (ix2 r 0)).toNat) :
    θ_run defs (onTc (τ := τ) (main (F := Ideal))) ⟨m, fun _ => 0, ρ⟩
      (fun r => Pipeline.FramePost cfgs (dats m) 0 (Pipeline.afterTail₀ cfgs (dats m) 0 (V0 m) sfx) r ∧ r.2.sem = fun _ => 0) :=
  Pipeline.θ_run_frame_around cfgs (dats m) 0 launch0 defs₀ 𝒱₀ m ρ main
    (hbody := fun c => body_obligation m c (hids c)) (hshare := fun c => (dats m 0 c).share_full fun _ => rfl) (howed := fun _ _ => rfl)
    (V₀ := V0 m) (opss := sfx) (hsub := sfx_sub) (hfresh := sfx_fresh) (hkeep := sfx_keeps)
    (hmain := Gen.hmain m 𝒱₀) (hA := fun _ _ => rfl)
    (hΦ := fun _ _ => rfl)
    (Q' := _) (hQ' := fun r h => h)

/-- The outputs' values, from the arguments. -/
theorem massT_args (c : Dev nD) : massT m c 75 = masses (m ((c : Thread nD τ).loc main_arg0)) (m ((c : Thread nD τ).loc main_arg1)) (m ((c : Thread nD τ).loc main_arg2)) (qsPad (m ((c : Thread nD τ).loc main_arg3))) (qlPad (m ((c : Thread nD τ).loc main_arg4)) (m ((c : Thread nD τ).loc main_arg6))) 75 := by
  unfold massT
  rw [show arrS2 m c = _ from V_main_arg0 m c, show arrLse m c = _ from V_main_arg1 m c, show arrDc m c = _ from V_main_arg2 m c,
    show arrQs m c = _ from V_v16 m c, show arrQl m c = _ from V_v17 m c]
theorem pickS2_args (c : Dev nD) : pickS2 m c 75 = picks (idsPad (m ((c : Thread nD τ).loc main_arg5))) (fun r j => (m ((c : Thread nD τ).loc main_arg0)) (ix2 r j)) 75 := by
  unfold pickS2
  rw [show arrS2 m c = _ from V_main_arg0 m c, show arrIds m c = _ from V_v18 m c]
theorem pickDc_args (c : Dev nD) : pickDc m c 75 = picks (idsPad (m ((c : Thread nD τ).loc main_arg5))) (code (m ((c : Thread nD τ).loc main_arg2))) 75 := by
  unfold pickDc
  rw [show arrDc m c = _ from V_main_arg2 m c, show arrIds m c = _ from V_v18 m c]

/-- The padded ids are in the vocabulary or none of the grid's columns. -/
theorem ids_ok (hids : ∀ (c : Dev nD) y, IntOp.cmpi .slt ((m ((c : Thread nD τ).loc main_arg5)) y) 151936#32 = 1#1) (c : Dev nD) (r : Fin 256) :
    (arrIds m c (ix2 r 0)).toNat < 151936 ∨ 153600 ≤ (arrIds m c (ix2 r 0)).toNat := by
  rw [show arrIds m c = _ from V_v18 m c]
  exact idsPad_ok _ (hids c) r

/-- What the host lines after the region find: the region's outputs, the arguments, the masks. -/
abbrev found (c : Dev nD) : Valuation τ sig (Elt Ideal) := Pipeline.withArrays spec0 c (V0 m c) (fun w => (dats m 0 c).arrAt w cfg0.N)
theorem arr_inj : Function.Injective (Pipeline.arrRef spec0) := by decide
theorem found_mass (c : Dev nD) : found m c (Proc.devRef .tc main_v19_0) = masses (m ((c : Thread nD τ).loc main_arg0)) (m ((c : Thread nD τ).loc main_arg1)) (m ((c : Thread nD τ).loc main_arg2)) (qsPad (m ((c : Thread nD τ).loc main_arg3))) (qlPad (m ((c : Thread nD τ).loc main_arg4)) (m ((c : Thread nD τ).loc main_arg6))) 75 :=
  (Pipeline.withArrays_arr spec0 arr_inj c (V0 m c) (fun w => (dats m 0 c).arrAt w cfg0.N) 6).trans ((arr_6 m c).trans (massT_args m c))
theorem found_s2x (c : Dev nD) : found m c (Proc.devRef .tc main_v19_1) = picks (idsPad (m ((c : Thread nD τ).loc main_arg5))) (fun r j => (m ((c : Thread nD τ).loc main_arg0)) (ix2 r j)) 75 :=
  (Pipeline.withArrays_arr spec0 arr_inj c (V0 m c) (fun w => (dats m 0 c).arrAt w cfg0.N) 7).trans ((arr_7 m c).trans (pickS2_args m c))
theorem found_dqx (c : Dev nD) : found m c (Proc.devRef .tc main_v19_2) = picks (idsPad (m ((c : Thread nD τ).loc main_arg5))) (code (m ((c : Thread nD τ).loc main_arg2))) 75 :=
  (Pipeline.withArrays_arr spec0 arr_inj c (V0 m c) (fun w => (dats m 0 c).arrAt w cfg0.N) 8).trans ((arr_8 m c).trans (pickDc_args m c))
theorem found_lse (c : Dev nD) : found m c (Proc.devRef .tc main_arg1) = m ((c : Thread nD τ).loc main_arg1) :=
  (Pipeline.withArrays_arr spec0 arr_inj c (V0 m c) (fun w => (dats m 0 c).arrAt w cfg0.N) 1).trans (((dats m 0 c).arrAt_in 1 rfl _).trans (V_main_arg1 m c))
theorem found_scale (c : Dev nD) : found m c (Proc.devRef .tc main_arg3) = m ((c : Thread nD τ).loc main_arg3) :=
  (Pipeline.withArrays_of_ne spec0 c (V0 m c) (fun w => (dats m 0 c).arrAt w cfg0.N) main_arg3 (by decide)).trans (V_main_arg3 m c)
theorem found_qlse (c : Dev nD) : found m c (Proc.devRef .tc main_arg4) = m ((c : Thread nD τ).loc main_arg4) :=
  (Pipeline.withArrays_of_ne spec0 c (V0 m c) (fun w => (dats m 0 c).arrAt w cfg0.N) main_arg4 (by decide)).trans (V_main_arg4 m c)
theorem found_draft (c : Dev nD) : found m c (Proc.devRef .tc main_v6) = isDraft (m ((c : Thread nD τ).loc main_arg6)) :=
  (Pipeline.withArrays_of_ne spec0 c (V0 m c) (fun w => (dats m 0 c).arrAt w cfg0.N) main_v6 (by decide)).trans (V_v6 m c)
theorem found_live (c : Dev nD) : found m c (Proc.devRef .tc main_v11) = isLive (m ((c : Thread nD τ).loc main_arg6)) :=
  (Pipeline.withArrays_of_ne spec0 c (V0 m c) (fun w => (dats m 0 c).arrAt w cfg0.N) main_v11 (by decide)).trans (V_v11 m c)

/-- What they leave in the results. -/
theorem end_p (c : Dev nD) : logP (found m c (Proc.devRef .tc main_v6)) (found m c (Proc.devRef .tc main_v19_1)) (found m c (Proc.devRef .tc main_arg1)) = outP (m ((c : Thread nD τ).loc main_arg0)) (m ((c : Thread nD τ).loc main_arg1)) (m ((c : Thread nD τ).loc main_arg5)) (m ((c : Thread nD τ).loc main_arg6)) :=
  congr (congr (congrArg logP (found_draft m c)) (found_s2x m c)) (found_lse m c)
theorem end_q (c : Dev nD) : logQ (found m c (Proc.devRef .tc main_v6)) (found m c (Proc.devRef .tc main_v19_2)) (found m c (Proc.devRef .tc main_arg3)) (found m c (Proc.devRef .tc main_arg4)) = outQ (m ((c : Thread nD τ).loc main_arg2)) (m ((c : Thread nD τ).loc main_arg3)) (m ((c : Thread nD τ).loc main_arg4)) (m ((c : Thread nD τ).loc main_arg5)) (m ((c : Thread nD τ).loc main_arg6)) :=
  congr (congr (congr (congrArg logQ (found_draft m c)) (found_dqx m c)) (found_scale m c)) (found_qlse m c)
theorem end_logP (c : Dev nD) : Pipeline.afterTail₀ cfgs (dats m) 0 (V0 m) sfx c main_v30 = outP (m ((c.tc : Thread nD τ).loc main_arg0)) (m ((c.tc : Thread nD τ).loc main_arg1)) (m ((c.tc : Thread nD τ).loc main_arg5)) (m ((c.tc : Thread nD τ).loc main_arg6)) := (tail_v30 (found m c)).trans (end_p m c)
theorem end_logQ (c : Dev nD) : Pipeline.afterTail₀ cfgs (dats m) 0 (V0 m) sfx c main_v32 = outQ (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := (tail_v32 (found m c)).trans (end_q m c)
theorem end_accept (c : Dev nD) : Pipeline.afterTail₀ cfgs (dats m) 0 (V0 m) sfx c main_v37 = outA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (tail_v37 (found m c)).trans (congr (congr (congrArg accept (found_draft m c)) (end_p m c)) (end_q m c))
theorem end_mass (c : Dev nD) : Pipeline.afterTail₀ cfgs (dats m) 0 (V0 m) sfx c main_v40 = outM (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) :=
  (tail_v40 (found m c)).trans (congr (congrArg massOut (found_live m c)) (found_mass m c))

/-- The run: the four results at their values, the arguments as launched. -/
theorem run_values (hids : ∀ (c : Dev nD) y, IntOp.cmpi .slt ((m ((c : Thread nD τ).loc main_arg5)) y) 151936#32 = 1#1) : θ_run defs (onTc (τ := τ) (main (F := Ideal))) ⟨m, fun _ => 0, ρ⟩ (fun r => ∀ c : Dev nD,
      r.2.mem ((c.tc : Thread nD τ).loc main_v30) = outP (m ((c.tc : Thread nD τ).loc main_arg0)) (m ((c.tc : Thread nD τ).loc main_arg1)) (m ((c.tc : Thread nD τ).loc main_arg5)) (m ((c.tc : Thread nD τ).loc main_arg6))
      ∧ r.2.mem ((c.tc : Thread nD τ).loc main_v32) = outQ (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v37) = outA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v40) = outM (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h.1.1 c).2 main_v30 (Pipeline.mem_restRefs_of main_v30 (by decide) (by decide))).trans (end_logP m c),
      ((h.1.1 c).2 main_v32 (Pipeline.mem_restRefs_of main_v32 (by decide) (by decide))).trans (end_logQ m c),
      ((h.1.1 c).2 main_v37 (Pipeline.mem_restRefs_of main_v37 (by decide) (by decide))).trans (end_accept m c),
      ((h.1.1 c).2 main_v40 (Pipeline.mem_restRefs_of main_v40 (by decide) (by decide))).trans (end_mass m c), h.2 c⟩)
    (θ_run_and (run m ρ (ids_ok m hids)) (frame_of m ρ (dats m) (fun _ _ => rfl) ((θ_run defs _ _).mono (fun _ h => h.1) (run m ρ (ids_ok m hids)))))

end Cert.MassIdeal.Hand

end
-- ==== Proof.MassRefEnd.lean ====
/-
  The run of the mass reference: the four results at their values.
-/
module

public import proofs.«01_k».proof.Proof.MassCompare
public import Idealize.ShloMosaic.Lib.Claim

@[expose] public section

set_option maxRecDepth 16384

noncomputable section

namespace Cert.MassReferenceIdeal.Hand

open Cert.MassReferenceIdeal Cert.MassReferenceIdeal.Gen
open Cert.MassIdeal.Hand (logP logQ accept massOut picks code masses isDraft isLive qsPad qlPad idsPad)
open Cert.MassCompare (outP outQ outA outM)
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- The outputs' values, from the arguments. -/
theorem mass_args (c : Dev nD) : (dats m 0 c).arrAt 6 cfg0.N = masses (m ((c : Thread nD τ).loc main_arg0)) (m ((c : Thread nD τ).loc main_arg1)) (m ((c : Thread nD τ).loc main_arg2)) (qsPad (m ((c : Thread nD τ).loc main_arg3))) (qlPad (m ((c : Thread nD τ).loc main_arg4)) (m ((c : Thread nD τ).loc main_arg6))) 75 := by
  rw [arr_6, V_v17, V_v18, V_v19, V_main_arg0, V_main_arg1]
  exact Cert.MassCompare.masses_eq _ _ _ _ _
theorem pickS2_args (c : Dev nD) : (dats m 0 c).arrAt 7 cfg0.N = picks (idsPad (m ((c : Thread nD τ).loc main_arg5))) (fun r j => (m ((c : Thread nD τ).loc main_arg0)) (ix2 r j)) 75 := by
  rw [arr_7, V_v20, V_main_arg0]
  exact Cert.MassCompare.pickS2_eq _ _
theorem pickDc_args (c : Dev nD) : (dats m 0 c).arrAt 8 cfg0.N = picks (idsPad (m ((c : Thread nD τ).loc main_arg5))) (code (m ((c : Thread nD τ).loc main_arg2))) 75 := by
  rw [arr_8, V_v17, V_v20]
  exact Cert.MassCompare.pickDc_eq _ _

/-- What the host lines after the region find: the region's outputs, the arguments, the masks. -/
abbrev found (c : Dev nD) : Valuation τ sig (Elt Ideal) := Pipeline.withArrays spec0 c (V0 m c) (fun w => (dats m 0 c).arrAt w cfg0.N)
theorem arr_inj : Function.Injective (Pipeline.arrRef spec0) := by decide
theorem found_mass (c : Dev nD) : found m c (Proc.devRef .tc main_v21_0) = masses (m ((c : Thread nD τ).loc main_arg0)) (m ((c : Thread nD τ).loc main_arg1)) (m ((c : Thread nD τ).loc main_arg2)) (qsPad (m ((c : Thread nD τ).loc main_arg3))) (qlPad (m ((c : Thread nD τ).loc main_arg4)) (m ((c : Thread nD τ).loc main_arg6))) 75 :=
  (Pipeline.withArrays_arr spec0 arr_inj c (V0 m c) (fun w => (dats m 0 c).arrAt w cfg0.N) 6).trans (mass_args m c)
theorem found_s2x (c : Dev nD) : found m c (Proc.devRef .tc main_v21_1) = picks (idsPad (m ((c : Thread nD τ).loc main_arg5))) (fun r j => (m ((c : Thread nD τ).loc main_arg0)) (ix2 r j)) 75 :=
  (Pipeline.withArrays_arr spec0 arr_inj c (V0 m c) (fun w => (dats m 0 c).arrAt w cfg0.N) 7).trans (pickS2_args m c)
theorem found_dqx (c : Dev nD) : found m c (Proc.devRef .tc main_v21_2) = picks (idsPad (m ((c : Thread nD τ).loc main_arg5))) (code (m ((c : Thread nD τ).loc main_arg2))) 75 :=
  (Pipeline.withArrays_arr spec0 arr_inj c (V0 m c) (fun w => (dats m 0 c).arrAt w cfg0.N) 8).trans (pickDc_args m c)
theorem found_lse (c : Dev nD) : found m c (Proc.devRef .tc main_arg1) = m ((c : Thread nD τ).loc main_arg1) :=
  (Pipeline.withArrays_arr spec0 arr_inj c (V0 m c) (fun w => (dats m 0 c).arrAt w cfg0.N) 1).trans (((dats m 0 c).arrAt_in 1 rfl _).trans (V_main_arg1 m c))
theorem found_scale (c : Dev nD) : found m c (Proc.devRef .tc main_arg3) = m ((c : Thread nD τ).loc main_arg3) :=
  (Pipeline.withArrays_of_ne spec0 c (V0 m c) (fun w => (dats m 0 c).arrAt w cfg0.N) main_arg3 (by decide)).trans (V_main_arg3 m c)
theorem found_qlse (c : Dev nD) : found m c (Proc.devRef .tc main_arg4) = m ((c : Thread nD τ).loc main_arg4) :=
  (Pipeline.withArrays_of_ne spec0 c (V0 m c) (fun w => (dats m 0 c).arrAt w cfg0.N) main_arg4 (by decide)).trans (V_main_arg4 m c)
theorem found_draft (c : Dev nD) : found m c (Proc.devRef .tc main_v6) = isDraft (m ((c : Thread nD τ).loc main_arg6)) :=
  (Pipeline.withArrays_of_ne spec0 c (V0 m c) (fun w => (dats m 0 c).arrAt w cfg0.N) main_v6 (by decide)).trans (V_v6 m c)
theorem found_live (c : Dev nD) : found m c (Proc.devRef .tc main_v11) = isLive (m ((c : Thread nD τ).loc main_arg6)) :=
  (Pipeline.withArrays_of_ne spec0 c (V0 m c) (fun w => (dats m 0 c).arrAt w cfg0.N) main_v11 (by decide)).trans (V_v11 m c)

/-- What they leave in the results. -/
theorem end_p (c : Dev nD) : logP (found m c (Proc.devRef .tc main_v6)) (found m c (Proc.devRef .tc main_v21_1)) (found m c (Proc.devRef .tc main_arg1)) = outP (m ((c : Thread nD τ).loc main_arg0)) (m ((c : Thread nD τ).loc main_arg1)) (m ((c : Thread nD τ).loc main_arg5)) (m ((c : Thread nD τ).loc main_arg6)) :=
  congr (congr (congrArg logP (found_draft m c)) (found_s2x m c)) (found_lse m c)
theorem end_q (c : Dev nD) : logQ (found m c (Proc.devRef .tc main_v6)) (found m c (Proc.devRef .tc main_v21_2)) (found m c (Proc.devRef .tc main_arg3)) (found m c (Proc.devRef .tc main_arg4)) = outQ (m ((c : Thread nD τ).loc main_arg2)) (m ((c : Thread nD τ).loc main_arg3)) (m ((c : Thread nD τ).loc main_arg4)) (m ((c : Thread nD τ).loc main_arg5)) (m ((c : Thread nD τ).loc main_arg6)) :=
  congr (congr (congr (congrArg logQ (found_draft m c)) (found_dqx m c)) (found_scale m c)) (found_qlse m c)
theorem end_logP (c : Dev nD) : Pipeline.afterTail₀ cfgs (dats m) 0 (V0 m) sfx c main_v32 = outP (m ((c.tc : Thread nD τ).loc main_arg0)) (m ((c.tc : Thread nD τ).loc main_arg1)) (m ((c.tc : Thread nD τ).loc main_arg5)) (m ((c.tc : Thread nD τ).loc main_arg6)) := (tail_v32 (found m c)).trans (end_p m c)
theorem end_logQ (c : Dev nD) : Pipeline.afterTail₀ cfgs (dats m) 0 (V0 m) sfx c main_v34 = outQ (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := (tail_v34 (found m c)).trans (end_q m c)
theorem end_accept (c : Dev nD) : Pipeline.afterTail₀ cfgs (dats m) 0 (V0 m) sfx c main_v39 = outA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (tail_v39 (found m c)).trans (congr (congr (congrArg accept (found_draft m c)) (end_p m c)) (end_q m c))
theorem end_mass (c : Dev nD) : Pipeline.afterTail₀ cfgs (dats m) 0 (V0 m) sfx c main_v42 = outM (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) :=
  (tail_v42 (found m c)).trans (congr (congrArg massOut (found_live m c)) (found_mass m c))

/-- The run: the four results at their values, the arguments as launched. -/
theorem run_values : θ_run defs (onTc (τ := τ) (main (F := Ideal))) ⟨m, fun _ => 0, ρ⟩ (fun r => ∀ c : Dev nD,
      r.2.mem ((c.tc : Thread nD τ).loc main_v32) = outP (m ((c.tc : Thread nD τ).loc main_arg0)) (m ((c.tc : Thread nD τ).loc main_arg1)) (m ((c.tc : Thread nD τ).loc main_arg5)) (m ((c.tc : Thread nD τ).loc main_arg6))
      ∧ r.2.mem ((c.tc : Thread nD τ).loc main_v34) = outQ (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v39) = outA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v42) = outM (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h.1.1 c).2 main_v32 (Pipeline.mem_restRefs_of main_v32 (by decide) (by decide))).trans (end_logP m c),
      ((h.1.1 c).2 main_v34 (Pipeline.mem_restRefs_of main_v34 (by decide) (by decide))).trans (end_logQ m c),
      ((h.1.1 c).2 main_v39 (Pipeline.mem_restRefs_of main_v39 (by decide) (by decide))).trans (end_accept m c),
      ((h.1.1 c).2 main_v42 (Pipeline.mem_restRefs_of main_v42 (by decide) (by decide))).trans (end_mass m c), h.2 c⟩)
    (θ_run_and (run_main_quiescent m ρ) (frame_of m ρ (dats m) (A_eq m) ((θ_run defs _ _).mono (fun _ h => h.1) (run_main_quiescent m ρ))))

end Cert.MassReferenceIdeal.Hand

end
-- ==== Proof.MassAlgebraic.lean ====
/-
  The claim: the kernel's four results and the reference's are the same functions of the same arguments.
-/
module

public import proofs.«01_k».proof.Proof.MassEnd
public import proofs.«01_k».proof.Proof.MassRefEnd
public import proofs.«01_k».proof.Defs

@[expose] public section

set_option maxRecDepth 16384

noncomputable section

namespace Cert.MassCompare

open Idealize.ShloMosaic Idealize.ShloMosaic.TcCoe Idealize.ShloMosaic.Tactic Idealize.SL.Sem

/-- The precondition's side conditions. -/
theorem preFacts : Cert.Pre_ids_in_vocab.Facts := ⟨by decide⟩

/-- The claim. -/
theorem algebraic : Cert.algebraic_MassIdeal_MassReferenceIdeal_pre_ids_in_vocab (hMassIdeal := Cert.MassIdeal.Gen.facts)
    (hMassReferenceIdeal := Cert.MassReferenceIdeal.Gen.facts) (hPre_ids_in_vocab := Cert.MassCompare.preFacts) := by
  intro m g m' g' hpre h
  refine ⟨fun c => Cert.MassCompare.outP (m ((c.tc : Thread Cert.MassIdeal.nD Cert.MassIdeal.τ).loc Cert.MassIdeal.main_arg0)) (m ((c.tc : Thread Cert.MassIdeal.nD Cert.MassIdeal.τ).loc Cert.MassIdeal.main_arg1)) (m ((c.tc : Thread Cert.MassIdeal.nD Cert.MassIdeal.τ).loc Cert.MassIdeal.main_arg5)) (m ((c.tc : Thread Cert.MassIdeal.nD Cert.MassIdeal.τ).loc Cert.MassIdeal.main_arg6)),
    fun c => Cert.MassCompare.outQ (m ((c.tc : Thread Cert.MassIdeal.nD Cert.MassIdeal.τ).loc Cert.MassIdeal.main_arg2)) (m ((c.tc : Thread Cert.MassIdeal.nD Cert.MassIdeal.τ).loc Cert.MassIdeal.main_arg3)) (m ((c.tc : Thread Cert.MassIdeal.nD Cert.MassIdeal.τ).loc Cert.MassIdeal.main_arg4)) (m ((c.tc : Thread Cert.MassIdeal.nD Cert.MassIdeal.τ).loc Cert.MassIdeal.main_arg5)) (m ((c.tc : Thread Cert.MassIdeal.nD Cert.MassIdeal.τ).loc Cert.MassIdeal.main_arg6)),
    fun c => Cert.MassCompare.outA (m ((c.tc : Thread Cert.MassIdeal.nD Cert.MassIdeal.τ).loc Cert.MassIdeal.main_arg0)) (m ((c.tc : Thread Cert.MassIdeal.nD Cert.MassIdeal.τ).loc Cert.MassIdeal.main_arg1)) (m ((c.tc : Thread Cert.MassIdeal.nD Cert.MassIdeal.τ).loc Cert.MassIdeal.main_arg2)) (m ((c.tc : Thread Cert.MassIdeal.nD Cert.MassIdeal.τ).loc Cert.MassIdeal.main_arg3)) (m ((c.tc : Thread Cert.MassIdeal.nD Cert.MassIdeal.τ).loc Cert.MassIdeal.main_arg4)) (m ((c.tc : Thread Cert.MassIdeal.nD Cert.MassIdeal.τ).loc Cert.MassIdeal.main_arg5)) (m ((c.tc : Thread Cert.MassIdeal.nD Cert.MassIdeal.τ).loc Cert.MassIdeal.main_arg6)),
    fun c => Cert.MassCompare.outM (m ((c.tc : Thread Cert.MassIdeal.nD Cert.MassIdeal.τ).loc Cert.MassIdeal.main_arg0)) (m ((c.tc : Thread Cert.MassIdeal.nD Cert.MassIdeal.τ).loc Cert.MassIdeal.main_arg1)) (m ((c.tc : Thread Cert.MassIdeal.nD Cert.MassIdeal.τ).loc Cert.MassIdeal.main_arg2)) (m ((c.tc : Thread Cert.MassIdeal.nD Cert.MassIdeal.τ).loc Cert.MassIdeal.main_arg3)) (m ((c.tc : Thread Cert.MassIdeal.nD Cert.MassIdeal.τ).loc Cert.MassIdeal.main_arg4)) (m ((c.tc : Thread Cert.MassIdeal.nD Cert.MassIdeal.τ).loc Cert.MassIdeal.main_arg6)),
    Cert.MassIdeal.Hand.run_values m g fun c y => congrFun (hpre c) y, (θ_run _ _ _).mono (fun r hr c => ?_) (Cert.MassReferenceIdeal.Hand.run_values m' g')⟩
  obtain ⟨h0, h1, h2, h3, h4, h5, h6⟩ := h c
  obtain ⟨e0, e1, e2, e3, hargs⟩ := hr c
  refine ⟨e0.trans ?_, e1.trans ?_, e2.trans ?_, e3.trans ?_, hargs⟩
  · rw [h0, h1, h5, h6]
  · rw [h2, h3, h4, h5, h6]
  · rw [h0, h1, h2, h3, h4, h5, h6]
  · rw [h0, h1, h2, h3, h4, h6]

end Cert.MassCompare

end
-- ==== Proof.MassFrame.lean ====
/-
  The frame of the mass kernel's idealization on any arguments: every run of @main ends, its arguments as they were and every
  counter at zero. What the kernel writes into the outputs' buffers is not named here.
-/
module

public import proofs.«01_k».proof.Proof.MassBody

@[expose] public section

set_option maxRecDepth 16384

noncomputable section

namespace Cert.MassIdeal.Any

open Cert.MassIdeal Cert.MassIdeal.Gen
open Cert.MassIdeal.Hand (body_triple ins 𝒱₀)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf kernel pipe ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The data of the run: the arrays as the region finds them, the inputs' buffers at their blocks (filled out past the array's
    end with any contents), the outputs not named. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Classical.arbitrary _) (iblk m c 0 t)
    | ⟨1, _⟩ => iblk m c 1 t
    | ⟨2, _⟩ => win0_2.fill (grid0.coords t) (fun _ => Classical.arbitrary _) (iblk m c 2 t)
    | ⟨3, _⟩ => iblk m c 3 t
    | ⟨4, _⟩ => iblk m c 4 t
    | ⟨5, _⟩ => iblk m c 5 t
    | ⟨6, _⟩ => fun _ => Classical.arbitrary _
    | ⟨7, _⟩ => fun _ => Classical.arbitrary _
    | ⟨8, _⟩ => fun _ => Classical.arbitrary _
  Φ _ := ΦA spec0 c
  q _ := fullShare
  owed _ := 0

/-- The outputs' windows, which the run does not name. -/
abbrev fgt : Fin cfg0.W → Bool := fun | 0 => false | 1 => false | 2 => false | 3 => false | 4 => false | 5 => false | 6 => true | 7 => true | 8 => true | ⟨_ + 9, h⟩ => absurd h (Nat.not_lt.2 (Nat.le_add_left _ _))

theorem before_0 (c : Dev nD) (t : Fin cfg0.N) (d) :
    (dats m 0 c).before (0 : Fin 9) t d = win0_0.fill (grid0.coords t) d (iblk m c 0 t) := by
  unfold Dat.before; rw [if_pos (fetch0_0 t)]; rfl
theorem before_2 (c : Dev nD) (t : Fin cfg0.N) (d) :
    (dats m 0 c).before (2 : Fin 9) t d = win0_2.fill (grid0.coords t) d (iblk m c 2 t) := by
  unfold Dat.before; rw [if_pos (fetch0_2 t)]; rfl

set_option maxHeartbeats 2000000 in
/-- The body's obligation at every point, the outputs' windows forgotten. -/
theorem body_obligation (c : Dev nD) : BodyObligationLoose (dats m 0 c) (defs₀ (F := F)) 𝒱₀ () Set.univ fgt := fun t => by
  rw [bigSep_W0, bigSep_W0]
  simp only
  rw [show (dats m 0 c).owesAt () t.succ = (dats m 0 c).owesAt () t.castSucc from rfl,
    show (dats m 0 c).Φ t.succ = ΦA spec0 c from rfl, show (dats m 0 c).Φ t.castSucc = ΦA spec0 c from rfl]
  iintro ⟨HΦ, Ho, ⟨%d0, H0⟩, ⟨%d1, H1⟩, ⟨%d2, H2⟩, ⟨%d3, H3⟩, ⟨%d4, H4⟩, ⟨%d5, H5⟩, ⟨%X6, H6⟩, ⟨%X7, H7⟩, ⟨%X8, H8⟩⟩
  rw [before_0 m c t d0, before0_1_of m (dats m 0 c) rfl (fun _ => rfl) t d1, before_2 m c t d2,
    before0_3_of m (dats m 0 c) rfl (fun _ => rfl) t d3, before0_4_of m (dats m 0 c) rfl (fun _ => rfl) t d4,
    before0_5_of m (dats m 0 c) rfl (fun _ => rfl) t d5]
  iapply (body_triple (F := F) c Set.univ (grid0.coords t) (st0_0 t) (hstage0_0 ((cfg0.slots t 0).cast nbuf0_0))
    (st0_1 t) (hstage0_1 ((cfg0.slots t 1).cast nbuf0_1)) (st0_2 t) (hstage0_2 ((cfg0.slots t 2).cast nbuf0_2))
    (st0_3 t) (hstage0_3 ((cfg0.slots t 3).cast nbuf0_3)) (st0_4 t) (hstage0_4 ((cfg0.slots t 4).cast nbuf0_4))
    (st0_5 t) (hstage0_5 ((cfg0.slots t 5).cast nbuf0_5)) (st0_6 t) (hstage0_6 ((cfg0.slots t 6).cast nbuf0_6))
    (st0_7 t) (hstage0_7 ((cfg0.slots t 7).cast nbuf0_7)) (st0_8 t) (hstage0_8 ((cfg0.slots t 8).cast nbuf0_8))
    (win0_0.fill (grid0.coords t) d0 (iblk m c 0 t)) (iblk m c 1 t) (win0_2.fill (grid0.coords t) d2 (iblk m c 2 t))
    (iblk m c 3 t) (iblk m c 4 t) (iblk m c 5 t) X6 X7 X8 _)
  unfold ins
  isplitl [H0 H1 H2 H3 H4 H5 H6 H7 H8]
  · isplitl [H0 H1 H2 H3 H4 H5]
    · isplitl [H0]
      · iexact H0
      isplitl [H1]
      · iexact H1
      isplitl [H2]
      · iexact H2
      isplitl [H3]
      · iexact H3
      isplitl [H4]
      · iexact H4
      iexact H5
    isplitl [H6]
    · iexact H6
    isplitl [H7]
    · iexact H7
    iexact H8
  iintro ⟨⟨H0, H1, H2, H3, H4, H5⟩, H6, H7, H8⟩
  isplitl [HΦ]
  · iexact HΦ
  isplitl [Ho]
  · iexact Ho
  have h0 : win0_0.cut (grid0.coords t) ((dats m 0 c).after 0 t) = iblk m c 0 t := win0_0.cut_fill _ _ _
  have h2 : win0_2.cut (grid0.coords t) ((dats m 0 c).after 2 t) = iblk m c 2 t := win0_2.cut_fill _ _ _
  isplitl [H0]
  · iexists d0
    change _ ⊢ owns (c : Thread nD τ) (st0_0 t) fullShare (win0_0.fill (grid0.coords t) d0 (win0_0.cut (grid0.coords t) ((dats m 0 c).after 0 t)))
    rw [h0]; try iexact H0
  isplitl [H1]
  · iexact H1
  isplitl [H2]
  · iexists d2
    change _ ⊢ owns (c : Thread nD τ) (st0_2 t) fullShare (win0_2.fill (grid0.coords t) d2 (win0_2.cut (grid0.coords t) ((dats m 0 c).after 2 t)))
    rw [h2]; try iexact H2
  isplitl [H3]
  · iexact H3
  isplitl [H4]
  · iexact H4
  isplitl [H5]
  · iexact H5
  isplitl [H6]
  · iexists _; iexact H6
  isplitl [H7]
  · iexists _; iexact H7
  iexists _; iexact H8

/-- The host lines after the region. -/
abbrev sfx : List (List (HloOp τ sig (Elt F))) := [hostOps1, hostOps1_1, hostOps1_2, hostOps1_3, hostOps1_4, hostOps1_5, hostOps1_6, hostOps1_7]

/-- The buffers they write. -/
abbrev T : Finset (Ref sig .tc) := {main_v20, main_v21, main_v22, main_v23, main_v24, main_v25, main_v26, main_v27, main_cst_2, main_v28, main_v29,
  main_cst_3, main_call4_v0, main_call4_v1, main_v30, main_v31, main_cst_4, main_call5_v0, main_call5_v1, main_v32, main_v33, main_v34, main_cst_5,
  main_v35, main_v36, main_cst_6, main_call6_v0, main_call6_v1, main_v37, main_v38, main_v39, main_cst_7, main_call7_v0, main_call7_v1, main_call7_v2, main_v40}

theorem sfx_T : ∀ ops ∈ (sfx : List (List (HloOp τ sig (Elt F)))), ∀ op ∈ ops, ∀ b : Ref sig .tc, Proc.devRef .tc b ∈ op.writes → b ∈ T := by
  intro ops hops op hop
  have hop' : op ∈ List.flatten (sfx : List (List (HloOp τ sig (Elt F)))) := List.mem_flatten.2 ⟨ops, hops, hop⟩
  clear hop hops
  simp only [sfx, hostOps1, hostOps1_1, hostOps1_2, hostOps1_3, hostOps1_4, hostOps1_5, hostOps1_6, hostOps1_7, List.flatten_cons, List.flatten_nil,
    List.append_nil, List.cons_append, List.nil_append, List.mem_cons, List.mem_nil_iff, or_false] at hop'
  rcases hop' with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    intro b hb
    simp only [StableHlo.nullary_writes, StableHlo.unary_writes, StableHlo.binary_writes, StableHlo.ternary_writes, StableHlo.reshape_writes, Finset.mem_singleton] at hb
    have hb' := Proc.devRef_injective .tc hb
    subst hb'
    decide

set_option backward.isDefEq.respectTransparency.types false in
/-- The run: the arguments end as launched, and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  Pipeline.θ_run_frame_around_T_forget cfgs (dats m) 0 launch0 defs₀ 𝒱₀ fgt T m ρ main
    (hbody := body_obligation m) (hshare := fun c => (dats m 0 c).share_full fun _ => rfl) (howed := fun _ _ => rfl)
    (V₀ := V0 m) (opss := sfx) (hsub := sfx_sub) (hfresh := sfx_fresh) (hkeep := sfx_keeps) (hT := sfx_T)
    (hmain := Gen.hmain m 𝒱₀) (hA := fun _ _ => rfl) (hΦ := fun _ _ => rfl)
    (Q' := _)
    (hQ' := fun r h => ⟨fun c => ⟨
      (RDat.FramePostR.arr_in h.1 c 0 rfl).trans (V_main_arg0 m c),
      (RDat.FramePostR.arr_in h.1 c 1 rfl).trans (V_main_arg1 m c),
      (RDat.FramePostR.arr_in h.1 c 2 rfl).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c),
      ((h.1 c).2 main_arg6 (Finset.mem_sdiff.mpr ⟨Pipeline.mem_restRefs_of main_arg6 (by decide) (by decide), by decide⟩)).trans (V_main_arg6 m c)⟩, h.2⟩)

end Cert.MassIdeal.Any

end
-- ==== Proof.lean ====
/-
  The proof of `Cert.Claim`: the frames, the idealizations, and the value claims of the two calls. The head kernel at
  `Bits` is Proof/FrameBits.lean; at `Ideal` its values are carried through the grid in Proof/Value.lean .. Proof/Run.lean
  and read back in Proof/ReadBack.lean, the reference's in Proof/ReadRef.lean; Proof/Compare.lean equates them and
  Proof/Algebraic.lean states it of the two runs. The mass kernel at `Bits` is Proof/MassBitsFrame.lean, at `Ideal`
  Proof/MassFrame.lean; its values are Proof/MassValue.lean (the masses) and Proof/MassPick.lean (the drafted ids' entries)
  carried by Proof/MassRun.lean to the results in Proof/MassEnd.lean; its reference Proof/MassRefValue.lean and
  Proof/MassRefEnd.lean, the claim Proof/MassAlgebraic.lean.
-/
module

public import proofs.«01_k».proof.Defs
public import proofs.«01_k».proof.Proof.FrameBits
public import proofs.«01_k».proof.Proof.Algebraic
public import proofs.«01_k».proof.Proof.MassBitsFrame
public import proofs.«01_k».proof.Proof.MassAlgebraic
public import proofs.«01_k».proof.Proof.MassFrame

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Mass.Gen.facts, Cert.MassIdeal.Gen.facts, Cert.MassReferenceIdeal.Gen.facts, Cert.MassCompare.preFacts,
  fun m g _ => Cert.Kernel.Hand.frame_run m g,
  fun m g _ => Cert.KernelIdeal.Hand.frame_run m g,
  fun m g _ => Cert.ReferenceIdeal.Gen.frame m g,
  fun m g _ => Cert.Mass.Hand.frame_run m g,
  fun m g _ => Cert.MassIdeal.Any.frame_run m g,
  fun m g _ => Cert.MassIdeal.Any.frame_run m g,
  fun m g _ => Cert.MassReferenceIdeal.Gen.frame m g,
  fun m g _ => Cert.MassReferenceIdeal.Gen.frame m g,
  IdealRules.named_const.statement _ _ _ _ _ rfl,
  Cert.Compare.algebraic,
  trivial,
  Cert.MassCompare.algebraic⟩

end Cert.Proof

end
